-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![64, 512, 1024]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v68) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S2048x512 : Shape := ⟨2, ![2048, 512]⟩
abbrev S512x64 : Shape := ⟨2, ![512, 64]⟩
abbrev S2048x2 : Shape := ⟨2, ![2048, 2]⟩
abbrev S4x512x1024 : Shape := ⟨3, ![4, 512, 1024]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S2048x2 : S_.BroadcastsInDim S2048x2 (![] : Fin 0 → Fin S2048x2.rank)
  reducesTo_S2048x2_S_d0_1 : S2048x2.ReducesTo [0, 1] S_

variable [Facts]

def fn {F : FTy → Type} [FloatOps F] (main_arg0 : FVec F S2048x512 .f32) (main_arg1 : FVec F S512x64 .f32) (main_arg2 : IVec S2048x2 32) (main_arg3 : FVec F S4x512x1024 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_c_2 : IVec S_ 32 := constantI S_ 32 0#32
  let main_v9 : IVec S2048x2 32 := broadcastInDim S2048x2 ![] bcast_S_S2048x2 main_c_2
  let main_v10 : IVec S2048x2 1 := cmpi .sge main_arg2 main_v9
  let main_c_3 : IVec S_ 32 := constantI S_ 32 64#32
  let main_v11 : IVec S2048x2 32 := broadcastInDim S2048x2 ![] bcast_S_S2048x2 main_c_3
  let main_v12 : IVec S2048x2 1 := cmpi .slt main_arg2 main_v11
  let main_v13 : IVec S2048x2 1 := andi main_v10 main_v12
  let main_c_4 : IVec S_ 1 := constantI S_ 1 1#1
  let main_v14 : IVec S_ 1 := (fun x v => Host.reduce IntOp.andi x v reducesTo_S2048x2_S_d0_1 h_S_) main_v13 main_c_4
  let main_v15 : IVec S_ 1 := andi main_v8 main_v14
  main_v15
-- ==== Pre_routed_ReferenceIdeal.lean ====
abbrev S2048x512 : Shape := ⟨2, ![2048, 512]⟩
abbrev S512x64 : Shape := ⟨2, ![512, 64]⟩
abbrev S2048x2 : Shape := ⟨2, ![2048, 2]⟩
abbrev S64x512x1024 : Shape := ⟨3, ![64, 512, 1024]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S2048x2 : S_.BroadcastsInDim S2048x2 (![] : Fin 0 → Fin S2048x2.rank)
  reducesTo_S2048x2_S_d0_1 : S2048x2.ReducesTo [0, 1] S_

variable [Facts]

def fn {F : FTy → Type} [FloatOps F] (main_arg0 : FVec F S2048x512 .f32) (main_arg1 : FVec F S512x64 .f32) (main_arg2 : IVec S2048x2 32) (main_arg3 : FVec F S64x512x1024 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_c_2 : IVec S_ 32 := constantI S_ 32 0#32
  let main_v9 : IVec S2048x2 32 := broadcastInDim S2048x2 ![] bcast_S_S2048x2 main_c_2
  let main_v10 : IVec S2048x2 1 := cmpi .sge main_arg2 main_v9
  let main_c_3 : IVec S_ 32 := constantI S_ 32 64#32
  let main_v11 : IVec S2048x2 32 := broadcastInDim S2048x2 ![] bcast_S_S2048x2 main_c_3
  let main_v12 : IVec S2048x2 1 := cmpi .slt main_arg2 main_v11
  let main_v13 : IVec S2048x2 1 := andi main_v10 main_v12
  let main_c_4 : IVec S_ 1 := constantI S_ 1 1#1
  let main_v14 : IVec S_ 1 := (fun x v => Host.reduce IntOp.andi x v reducesTo_S2048x2_S_d0_1 h_S_) main_v13 main_c_4
  let main_v15 : IVec S_ 1 := andi main_v8 main_v14
  main_v15
-- ==== Kernel.lean ====
abbrev S2048x512 : Shape := ⟨2, ![2048, 512]⟩
abbrev S512x64 : Shape := ⟨2, ![512, 64]⟩
abbrev S2048x2 : Shape := ⟨2, ![2048, 2]⟩
abbrev S4x512x1024 : Shape := ⟨3, ![4, 512, 1024]⟩
abbrev S2048x1024 : Shape := ⟨2, ![2048, 1024]⟩
abbrev S2048x4 : Shape := ⟨2, ![2048, 4]⟩
abbrev S8x128x256 : Shape := ⟨3, ![8, 128, 256]⟩
abbrev S7x128x256 : Shape := ⟨3, ![7, 128, 256]⟩
abbrev S8 : Shape := ⟨1, ![8]⟩
abbrev S7 : Shape := ⟨1, ![7]⟩
abbrev S_ : Shape := ⟨0, ![]⟩
abbrev S2048x64 : Shape := ⟨2, ![2048, 64]⟩
abbrev S2048 : Shape := ⟨1, ![2048]⟩
abbrev S2048x1 : Shape := ⟨2, ![2048, 1]⟩
abbrev S128x512 : Shape := ⟨2, ![128, 512]⟩
abbrev S128x1 : Shape := ⟨2, ![128, 1]⟩
abbrev S128x2048 : Shape := ⟨2, ![128, 2048]⟩
abbrev S128x1024 : Shape := ⟨2, ![128, 1024]⟩
abbrev S1 : Shape := ⟨1, ![1]⟩
abbrev S1x128x256 : Shape := ⟨3, ![1, 128, 256]⟩
abbrev S128x256 : Shape := ⟨2, ![128, 256]⟩

abbrev nBuf : Space → Nat
  | .hbm => 5
  | .vmem => 15
  | .smem => 0
  | _ => 0

abbrev bufTy : (tb : Table) → Fin (tcTables nBuf tb) → BufTy
  | .hbm, ⟨0, _⟩ => ⟨S2048x512, .f32⟩
  | .hbm, ⟨1, _⟩ => ⟨S512x64, .f32⟩
  | .hbm, ⟨2, _⟩ => ⟨S2048x2, .i32⟩
  | .hbm, ⟨3, _⟩ => ⟨S4x512x1024, .f32⟩
  | .hbm, ⟨4, _⟩ => ⟨S2048x1024, .f32⟩
  | .local _ .vmem, ⟨0, _⟩ => ⟨S2048x512, .f32⟩
  | .local _ .vmem, ⟨1, _⟩ => ⟨S512x64, .f32⟩
  | .local _ .vmem, ⟨2, _⟩ => ⟨S2048x2, .i32⟩
  | .local _ .vmem, ⟨3, _⟩ => ⟨S4x512x1024, .f32⟩
  | .local _ .vmem, ⟨4, _⟩ => ⟨S2048x1024, .f32⟩
  | .local _ .vmem, ⟨5, _⟩ => ⟨S2048x1024, .f32⟩
  | .local _ .vmem, ⟨6, _⟩ => ⟨S2048x4, .f32⟩
  | .local _ .vmem, ⟨7, _⟩ => ⟨S8x128x256, .f32⟩
  | .local _ .vmem, ⟨8, _⟩ => ⟨S7x128x256, .f32⟩
  | .local _ .vmem, ⟨9, _⟩ => ⟨S8x128x256, .f32⟩
  | .local _ .vmem, ⟨10, _⟩ => ⟨S7x128x256, .f32⟩
  | .local _ .vmem, ⟨11, _⟩ => ⟨S8x128x256, .f32⟩
  | .local _ .vmem, ⟨12, _⟩ => ⟨S7x128x256, .f32⟩
  | .local _ .vmem, ⟨13, _⟩ => ⟨S8x128x256, .f32⟩
  | .local _ .vmem, ⟨14, _⟩ => ⟨S7x128x256, .f32⟩
  | _, _ => ⟨S2048x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 245 → Bool
  | ⟨i, _⟩ => dmaSemScopedAt i

abbrev sig : RefSig :=
  (ofTc nBuf bufTy 1 245 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch12 : Ref sig .tc := ⟨.vmem, 9, rfl⟩
abbrev cc0_scratch13 : Ref sig .tc := ⟨.vmem, 10, rfl⟩
abbrev cc0_scratch22 : Ref sig .tc := ⟨.vmem, 11, rfl⟩
abbrev cc0_scratch23 : Ref sig .tc := ⟨.vmem, 12, rfl⟩
abbrev cc0_scratch32 : Ref sig .tc := ⟨.vmem, 13, rfl⟩
abbrev cc0_scratch33 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_6 : BitVec 32 := 1#32
  let v10 : BitVec 32 := Scalar.muli v8 c1_i32_6
  let v11 : BitVec 32 := Scalar.addi c0_i32 v10
  v11.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_8 : BitVec 32 := 1#32
  let v12 : BitVec 32 := Scalar.muli v5 c1_i32_8
  let v13 : BitVec 32 := Scalar.addi c0_i32_9 v12
  v13.toNat
def k0_off1 (d0 : Dev nD) (c8_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v113 : BitVec 32 := Scalar.addi v2 c8_i32
  let c64_i32_43 : BitVec 32 := 64#32
  let v114 : BitVec 32 := Scalar.addi v113 c64_i32_43
  let c16_i32_44 : BitVec 32 := 16#32
  let v115 : BitVec 32 := Scalar.remsi v114 c16_i32_44
  let c128_i32 : BitVec 32 := 128#32
  let v116 : BitVec 32 := Scalar.muli v115 c128_i32
  let v117 : Index := Scalar.indexCast v116
  let c0_45 : Index := 0#32
  ![v117.toNat, 0]
def k0_off2 (d0 : Dev nD) (c8_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v113 : BitVec 32 := Scalar.addi v2 c8_i32
  let c64_i32_43 : BitVec 32 := 64#32
  let v114 : BitVec 32 := Scalar.addi v113 c64_i32_43
  let c16_i32_44 : BitVec 32 := 16#32
  let v115 : BitVec 32 := Scalar.remsi v114 c16_i32_44
  let c128_i32_46 : BitVec 32 := 128#32
  let v120 : BitVec 32 := Scalar.muli v115 c128_i32_46
  let v121 : Index := Scalar.indexCast v120
  let c0_47 : Index := 0#32
  ![v121.toNat, 0]
def k0_off3 (d0 : Dev nD) (c8_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v113 : BitVec 32 := Scalar.addi v2 c8_i32
  let c64_i32_43 : BitVec 32 := 64#32
  let v114 : BitVec 32 := Scalar.addi v113 c64_i32_43
  let c16_i32_44 : BitVec 32 := 16#32
  let v115 : BitVec 32 := Scalar.remsi v114 c16_i32_44
  let c128_i32_48 : BitVec 32 := 128#32
  let v125 : BitVec 32 := Scalar.muli v115 c128_i32_48
  let v126 : Index := Scalar.indexCast v125
  let c1_49 : Index := 1#32
  ![v126.toNat, 1]
def k0_off4 (d0 : Dev nD) (c8_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v113 : BitVec 32 := Scalar.addi v2 c8_i32
  let c64_i32_43 : BitVec 32 := 64#32
  let v114 : BitVec 32 := Scalar.addi v113 c64_i32_43
  let c16_i32_44 : BitVec 32 := 16#32
  let v115 : BitVec 32 := Scalar.remsi v114 c16_i32_44
  let c128_i32_50 : BitVec 32 := 128#32
  let v130 : BitVec 32 := Scalar.muli v115 c128_i32_50
  let v131 : Index := Scalar.indexCast v130
  let c2_51 : Index := 2#32
  ![v131.toNat, 2]
def k0_off5 (d0 : Dev nD) (c8_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v113 : BitVec 32 := Scalar.addi v2 c8_i32
  let c64_i32_43 : BitVec 32 := 64#32
  let v114 : BitVec 32 := Scalar.addi v113 c64_i32_43
  let c16_i32_44 : BitVec 32 := 16#32
  let v115 : BitVec 32 := Scalar.remsi v114 c16_i32_44
  let c128_i32_52 : BitVec 32 := 128#32
  let v135 : BitVec 32 := Scalar.muli v115 c128_i32_52
  let v136 : Index := Scalar.indexCast v135
  let c3_53 : Index := 3#32
  ![v136.toNat, 3]
def k0_off6 (d0 : Dev nD) (c8_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v113 : BitVec 32 := Scalar.addi v2 c8_i32
  let c64_i32_43 : BitVec 32 := 64#32
  let v114 : BitVec 32 := Scalar.addi v113 c64_i32_43
  let c16_i32_44 : BitVec 32 := 16#32
  let v115 : BitVec 32 := Scalar.remsi v114 c16_i32_44
  let c128_i32_55 : BitVec 32 := 128#32
  let v142 : BitVec 32 := Scalar.muli v115 c128_i32_55
  let v143 : Index := Scalar.indexCast v142
  let c0_56 : Index := 0#32
  ![v143.toNat, 0]
def k0_off7 (d0 : Dev nD) (c0_i32_73 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_72 : BitVec 32 := 8#32
  let v181 : BitVec 32 := Scalar.addi v2 c8_i32_72
  let v182 : BitVec 32 := Scalar.subi v181 c0_i32_73
  let c64_i32_74 : BitVec 32 := 64#32
  let v183 : BitVec 32 := Scalar.addi v182 c64_i32_74
  let c16_i32_75 : BitVec 32 := 16#32
  let v184 : BitVec 32 := Scalar.remsi v183 c16_i32_75
  let c128_i32_76 : BitVec 32 := 128#32
  let v185 : BitVec 32 := Scalar.muli v184 c128_i32_76
  let c0_i32_84 : BitVec 32 := 0#32
  ![v185.toNat, 0]
def k0_dev3 (d0 : Dev nD) : Nat :=
  let c0_i32_81 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_80 : BitVec 32 := 1#32
  let v186 : BitVec 32 := Scalar.muli v5 c1_i32_80
  let v187 : BitVec 32 := Scalar.addi c0_i32_81 v186
  v187.toNat
def k0_off8 (d0 : Dev nD) (c0_i32_85 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v195 : BitVec 32 := Scalar.subi v2 c7_i32
  let v196 : BitVec 32 := Scalar.addi v195 c0_i32_85
  let c64_i32_86 : BitVec 32 := 64#32
  let v197 : BitVec 32 := Scalar.addi v196 c64_i32_86
  let c16_i32_87 : BitVec 32 := 16#32
  let v198 : BitVec 32 := Scalar.remsi v197 c16_i32_87
  let c128_i32_88 : BitVec 32 := 128#32
  let v199 : BitVec 32 := Scalar.muli v198 c128_i32_88
  let c0_i32_96 : BitVec 32 := 0#32
  ![v199.toNat, 0]
def k0_dev4 (d0 : Dev nD) : Nat :=
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_92 : BitVec 32 := 1#32
  let v200 : BitVec 32 := Scalar.muli v8 c1_i32_92
  let v201 : BitVec 32 := Scalar.addi c0_i32_93 v200
  v201.toNat
def k0_off9 (d0 : Dev nD) (c0_i32_98 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_97 : BitVec 32 := 8#32
  let v209 : BitVec 32 := Scalar.addi v2 c8_i32_97
  let v210 : BitVec 32 := Scalar.subi v209 c0_i32_98
  let c64_i32_99 : BitVec 32 := 64#32
  let v211 : BitVec 32 := Scalar.addi v210 c64_i32_99
  let c16_i32_100 : BitVec 32 := 16#32
  let v212 : BitVec 32 := Scalar.remsi v211 c16_i32_100
  let c128_i32_101 : BitVec 32 := 128#32
  let v213 : BitVec 32 := Scalar.muli v212 c128_i32_101
  let c256_i32 : BitVec 32 := 256#32
  ![v213.toNat, 256]
def k0_dev5 (d0 : Dev nD) : Nat :=
  let c0_i32_106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_105 : BitVec 32 := 1#32
  let v214 : BitVec 32 := Scalar.muli v5 c1_i32_105
  let v215 : BitVec 32 := Scalar.addi c0_i32_106 v214
  v215.toNat
def k0_off10 (d0 : Dev nD) (c0_i32_110 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_109 : BitVec 32 := 7#32
  let v223 : BitVec 32 := Scalar.subi v2 c7_i32_109
  let v224 : BitVec 32 := Scalar.addi v223 c0_i32_110
  let c64_i32_111 : BitVec 32 := 64#32
  let v225 : BitVec 32 := Scalar.addi v224 c64_i32_111
  let c16_i32_112 : BitVec 32 := 16#32
  let v226 : BitVec 32 := Scalar.remsi v225 c16_i32_112
  let c128_i32_113 : BitVec 32 := 128#32
  let v227 : BitVec 32 := Scalar.muli v226 c128_i32_113
  let c256_i32_121 : BitVec 32 := 256#32
  ![v227.toNat, 256]
def k0_dev6 (d0 : Dev nD) : Nat :=
  let c0_i32_118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_117 : BitVec 32 := 1#32
  let v228 : BitVec 32 := Scalar.muli v8 c1_i32_117
  let v229 : BitVec 32 := Scalar.addi c0_i32_118 v228
  v229.toNat
def k0_off11 (d0 : Dev nD) (c0_i32_123 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_122 : BitVec 32 := 8#32
  let v237 : BitVec 32 := Scalar.addi v2 c8_i32_122
  let v238 : BitVec 32 := Scalar.subi v237 c0_i32_123
  let c64_i32_124 : BitVec 32 := 64#32
  let v239 : BitVec 32 := Scalar.addi v238 c64_i32_124
  let c16_i32_125 : BitVec 32 := 16#32
  let v240 : BitVec 32 := Scalar.remsi v239 c16_i32_125
  let c128_i32_126 : BitVec 32 := 128#32
  let v241 : BitVec 32 := Scalar.muli v240 c128_i32_126
  let c512_i32 : BitVec 32 := 512#32
  ![v241.toNat, 512]
def k0_dev7 (d0 : Dev nD) : Nat :=
  let c0_i32_131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_130 : BitVec 32 := 1#32
  let v242 : BitVec 32 := Scalar.muli v5 c1_i32_130
  let v243 : BitVec 32 := Scalar.addi c0_i32_131 v242
  v243.toNat
def k0_off12 (d0 : Dev nD) (c0_i32_135 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_134 : BitVec 32 := 7#32
  let v251 : BitVec 32 := Scalar.subi v2 c7_i32_134
  let v252 : BitVec 32 := Scalar.addi v251 c0_i32_135
  let c64_i32_136 : BitVec 32 := 64#32
  let v253 : BitVec 32 := Scalar.addi v252 c64_i32_136
  let c16_i32_137 : BitVec 32 := 16#32
  let v254 : BitVec 32 := Scalar.remsi v253 c16_i32_137
  let c128_i32_138 : BitVec 32 := 128#32
  let v255 : BitVec 32 := Scalar.muli v254 c128_i32_138
  let c512_i32_146 : BitVec 32 := 512#32
  ![v255.toNat, 512]
def k0_dev8 (d0 : Dev nD) : Nat :=
  let c0_i32_143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_142 : BitVec 32 := 1#32
  let v256 : BitVec 32 := Scalar.muli v8 c1_i32_142
  let v257 : BitVec 32 := Scalar.addi c0_i32_143 v256
  v257.toNat
def k0_off13 (d0 : Dev nD) (c0_i32_148 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_147 : BitVec 32 := 8#32
  let v265 : BitVec 32 := Scalar.addi v2 c8_i32_147
  let v266 : BitVec 32 := Scalar.subi v265 c0_i32_148
  let c64_i32_149 : BitVec 32 := 64#32
  let v267 : BitVec 32 := Scalar.addi v266 c64_i32_149
  let c16_i32_150 : BitVec 32 := 16#32
  let v268 : BitVec 32 := Scalar.remsi v267 c16_i32_150
  let c128_i32_151 : BitVec 32 := 128#32
  let v269 : BitVec 32 := Scalar.muli v268 c128_i32_151
  let c768_i32 : BitVec 32 := 768#32
  ![v269.toNat, 768]
def k0_dev9 (d0 : Dev nD) : Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_155 : BitVec 32 := 1#32
  let v270 : BitVec 32 := Scalar.muli v5 c1_i32_155
  let v271 : BitVec 32 := Scalar.addi c0_i32_156 v270
  v271.toNat
def k0_off14 (d0 : Dev nD) (c0_i32_160 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_159 : BitVec 32 := 7#32
  let v279 : BitVec 32 := Scalar.subi v2 c7_i32_159
  let v280 : BitVec 32 := Scalar.addi v279 c0_i32_160
  let c64_i32_161 : BitVec 32 := 64#32
  let v281 : BitVec 32 := Scalar.addi v280 c64_i32_161
  let c16_i32_162 : BitVec 32 := 16#32
  let v282 : BitVec 32 := Scalar.remsi v281 c16_i32_162
  let c128_i32_163 : BitVec 32 := 128#32
  let v283 : BitVec 32 := Scalar.muli v282 c128_i32_163
  let c768_i32_171 : BitVec 32 := 768#32
  ![v283.toNat, 768]
def k0_dev10 (d0 : Dev nD) : Nat :=
  let c0_i32_168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_167 : BitVec 32 := 1#32
  let v284 : BitVec 32 := Scalar.muli v8 c1_i32_167
  let v285 : BitVec 32 := Scalar.addi c0_i32_168 v284
  v285.toNat
def k0_off15 (d0 : Dev nD) (c0_i32_173 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_172 : BitVec 32 := 7#32
  let v293 : BitVec 32 := Scalar.addi v2 c7_i32_172
  let v294 : BitVec 32 := Scalar.subi v293 c0_i32_173
  let c64_i32_174 : BitVec 32 := 64#32
  let v295 : BitVec 32 := Scalar.addi v294 c64_i32_174
  let c16_i32_175 : BitVec 32 := 16#32
  let v296 : BitVec 32 := Scalar.remsi v295 c16_i32_175
  let c128_i32_176 : BitVec 32 := 128#32
  let v297 : BitVec 32 := Scalar.muli v296 c128_i32_176
  let v298 : Index := Scalar.indexCast v297
  let c0_177 : Index := 0#32
  ![v298.toNat, 0]
def k0_off16 (d0 : Dev nD) (c0_i32_173 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_172 : BitVec 32 := 7#32
  let v293 : BitVec 32 := Scalar.addi v2 c7_i32_172
  let v294 : BitVec 32 := Scalar.subi v293 c0_i32_173
  let c64_i32_174 : BitVec 32 := 64#32
  let v295 : BitVec 32 := Scalar.addi v294 c64_i32_174
  let c16_i32_175 : BitVec 32 := 16#32
  let v296 : BitVec 32 := Scalar.remsi v295 c16_i32_175
  let c128_i32_178 : BitVec 32 := 128#32
  let v301 : BitVec 32 := Scalar.muli v296 c128_i32_178
  let v302 : Index := Scalar.indexCast v301
  let c0_179 : Index := 0#32
  ![v302.toNat, 0]
def k0_off17 (d0 : Dev nD) (c0_i32_173 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_172 : BitVec 32 := 7#32
  let v293 : BitVec 32 := Scalar.addi v2 c7_i32_172
  let v294 : BitVec 32 := Scalar.subi v293 c0_i32_173
  let c64_i32_174 : BitVec 32 := 64#32
  let v295 : BitVec 32 := Scalar.addi v294 c64_i32_174
  let c16_i32_175 : BitVec 32 := 16#32
  let v296 : BitVec 32 := Scalar.remsi v295 c16_i32_175
  let c128_i32_180 : BitVec 32 := 128#32
  let v306 : BitVec 32 := Scalar.muli v296 c128_i32_180
  let v307 : Index := Scalar.indexCast v306
  let c1_181 : Index := 1#32
  ![v307.toNat, 1]
def k0_off18 (d0 : Dev nD) (c0_i32_173 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_172 : BitVec 32 := 7#32
  let v293 : BitVec 32 := Scalar.addi v2 c7_i32_172
  let v294 : BitVec 32 := Scalar.subi v293 c0_i32_173
  let c64_i32_174 : BitVec 32 := 64#32
  let v295 : BitVec 32 := Scalar.addi v294 c64_i32_174
  let c16_i32_175 : BitVec 32 := 16#32
  let v296 : BitVec 32 := Scalar.remsi v295 c16_i32_175
  let c128_i32_182 : BitVec 32 := 128#32
  let v311 : BitVec 32 := Scalar.muli v296 c128_i32_182
  let v312 : Index := Scalar.indexCast v311
  let c2_183 : Index := 2#32
  ![v312.toNat, 2]
def k0_off19 (d0 : Dev nD) (c0_i32_173 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_172 : BitVec 32 := 7#32
  let v293 : BitVec 32 := Scalar.addi v2 c7_i32_172
  let v294 : BitVec 32 := Scalar.subi v293 c0_i32_173
  let c64_i32_174 : BitVec 32 := 64#32
  let v295 : BitVec 32 := Scalar.addi v294 c64_i32_174
  let c16_i32_175 : BitVec 32 := 16#32
  let v296 : BitVec 32 := Scalar.remsi v295 c16_i32_175
  let c128_i32_184 : BitVec 32 := 128#32
  let v316 : BitVec 32 := Scalar.muli v296 c128_i32_184
  let v317 : Index := Scalar.indexCast v316
  let c3_185 : Index := 3#32
  ![v317.toNat, 3]
def k0_off20 (d0 : Dev nD) (c0_i32_173 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_172 : BitVec 32 := 7#32
  let v293 : BitVec 32 := Scalar.addi v2 c7_i32_172
  let v294 : BitVec 32 := Scalar.subi v293 c0_i32_173
  let c64_i32_174 : BitVec 32 := 64#32
  let v295 : BitVec 32 := Scalar.addi v294 c64_i32_174
  let c16_i32_175 : BitVec 32 := 16#32
  let v296 : BitVec 32 := Scalar.remsi v295 c16_i32_175
  let c128_i32_187 : BitVec 32 := 128#32
  let v323 : BitVec 32 := Scalar.muli v296 c128_i32_187
  let v324 : Index := Scalar.indexCast v323
  let c0_188 : Index := 0#32
  ![v324.toNat, 0]
def k0_off21 (d0 : Dev nD) (c0_i32_189 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v328 : BitVec 32 := Scalar.addi v2 c10_i32
  let v329 : BitVec 32 := Scalar.addi v328 c0_i32_189
  let c64_i32_190 : BitVec 32 := 64#32
  let v330 : BitVec 32 := Scalar.addi v329 c64_i32_190
  let c16_i32_191 : BitVec 32 := 16#32
  let v331 : BitVec 32 := Scalar.remsi v330 c16_i32_191
  let c128_i32_192 : BitVec 32 := 128#32
  let v332 : BitVec 32 := Scalar.muli v331 c128_i32_192
  let v333 : Index := Scalar.indexCast v332
  let c0_193 : Index := 0#32
  ![v333.toNat, 0]
def k0_off22 (d0 : Dev nD) (c0_i32_189 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v328 : BitVec 32 := Scalar.addi v2 c10_i32
  let v329 : BitVec 32 := Scalar.addi v328 c0_i32_189
  let c64_i32_190 : BitVec 32 := 64#32
  let v330 : BitVec 32 := Scalar.addi v329 c64_i32_190
  let c16_i32_191 : BitVec 32 := 16#32
  let v331 : BitVec 32 := Scalar.remsi v330 c16_i32_191
  let c128_i32_194 : BitVec 32 := 128#32
  let v336 : BitVec 32 := Scalar.muli v331 c128_i32_194
  let v337 : Index := Scalar.indexCast v336
  let c0_195 : Index := 0#32
  ![v337.toNat, 0]
def k0_off23 (d0 : Dev nD) (c0_i32_189 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v328 : BitVec 32 := Scalar.addi v2 c10_i32
  let v329 : BitVec 32 := Scalar.addi v328 c0_i32_189
  let c64_i32_190 : BitVec 32 := 64#32
  let v330 : BitVec 32 := Scalar.addi v329 c64_i32_190
  let c16_i32_191 : BitVec 32 := 16#32
  let v331 : BitVec 32 := Scalar.remsi v330 c16_i32_191
  let c128_i32_196 : BitVec 32 := 128#32
  let v341 : BitVec 32 := Scalar.muli v331 c128_i32_196
  let v342 : Index := Scalar.indexCast v341
  let c1_197 : Index := 1#32
  ![v342.toNat, 1]
def k0_off24 (d0 : Dev nD) (c0_i32_189 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v328 : BitVec 32 := Scalar.addi v2 c10_i32
  let v329 : BitVec 32 := Scalar.addi v328 c0_i32_189
  let c64_i32_190 : BitVec 32 := 64#32
  let v330 : BitVec 32 := Scalar.addi v329 c64_i32_190
  let c16_i32_191 : BitVec 32 := 16#32
  let v331 : BitVec 32 := Scalar.remsi v330 c16_i32_191
  let c128_i32_198 : BitVec 32 := 128#32
  let v346 : BitVec 32 := Scalar.muli v331 c128_i32_198
  let v347 : Index := Scalar.indexCast v346
  let c2_199 : Index := 2#32
  ![v347.toNat, 2]
def k0_off25 (d0 : Dev nD) (c0_i32_189 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v328 : BitVec 32 := Scalar.addi v2 c10_i32
  let v329 : BitVec 32 := Scalar.addi v328 c0_i32_189
  let c64_i32_190 : BitVec 32 := 64#32
  let v330 : BitVec 32 := Scalar.addi v329 c64_i32_190
  let c16_i32_191 : BitVec 32 := 16#32
  let v331 : BitVec 32 := Scalar.remsi v330 c16_i32_191
  let c128_i32_200 : BitVec 32 := 128#32
  let v351 : BitVec 32 := Scalar.muli v331 c128_i32_200
  let v352 : Index := Scalar.indexCast v351
  let c3_201 : Index := 3#32
  ![v352.toNat, 3]
def k0_off26 (d0 : Dev nD) (c0_i32_189 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v328 : BitVec 32 := Scalar.addi v2 c10_i32
  let v329 : BitVec 32 := Scalar.addi v328 c0_i32_189
  let c64_i32_190 : BitVec 32 := 64#32
  let v330 : BitVec 32 := Scalar.addi v329 c64_i32_190
  let c16_i32_191 : BitVec 32 := 16#32
  let v331 : BitVec 32 := Scalar.remsi v330 c16_i32_191
  let c128_i32_203 : BitVec 32 := 128#32
  let v358 : BitVec 32 := Scalar.muli v331 c128_i32_203
  let v359 : Index := Scalar.indexCast v358
  let c0_204 : Index := 0#32
  ![v359.toNat, 0]
def k0_off27 (d0 : Dev nD) (c0_i32_214 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_213 : BitVec 32 := 7#32
  let v370 : BitVec 32 := Scalar.addi v2 c7_i32_213
  let v371 : BitVec 32 := Scalar.subi v370 c0_i32_214
  let c64_i32_215 : BitVec 32 := 64#32
  let v372 : BitVec 32 := Scalar.addi v371 c64_i32_215
  let c16_i32_216 : BitVec 32 := 16#32
  let v373 : BitVec 32 := Scalar.remsi v372 c16_i32_216
  let c128_i32_217 : BitVec 32 := 128#32
  let v374 : BitVec 32 := Scalar.muli v373 c128_i32_217
  let v375 : Index := Scalar.indexCast v374
  let c0_218 : Index := 0#32
  ![v375.toNat, 0]
def k0_dev11 (d0 : Dev nD) : Nat :=
  let c0_i32_232 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_231 : BitVec 32 := 1#32
  let v389 : BitVec 32 := Scalar.muli v5 c1_i32_231
  let v390 : BitVec 32 := Scalar.addi c0_i32_232 v389
  v390.toNat
def k0_off28 (d0 : Dev nD) (c0_i32_244 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v405 : BitVec 32 := Scalar.subi v2 c6_i32
  let v406 : BitVec 32 := Scalar.addi v405 c0_i32_244
  let c64_i32_245 : BitVec 32 := 64#32
  let v407 : BitVec 32 := Scalar.addi v406 c64_i32_245
  let c16_i32_246 : BitVec 32 := 16#32
  let v408 : BitVec 32 := Scalar.remsi v407 c16_i32_246
  let c128_i32_247 : BitVec 32 := 128#32
  let v409 : BitVec 32 := Scalar.muli v408 c128_i32_247
  let v410 : Index := Scalar.indexCast v409
  let c0_248 : Index := 0#32
  ![v410.toNat, 0]
def k0_dev12 (d0 : Dev nD) : Nat :=
  let c0_i32_262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_261 : BitVec 32 := 1#32
  let v424 : BitVec 32 := Scalar.muli v8 c1_i32_261
  let v425 : BitVec 32 := Scalar.addi c0_i32_262 v424
  v425.toNat
def k0_off29 (d0 : Dev nD) (c0_i32_275 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_274 : BitVec 32 := 7#32
  let v440 : BitVec 32 := Scalar.addi v2 c7_i32_274
  let v441 : BitVec 32 := Scalar.subi v440 c0_i32_275
  let c64_i32_276 : BitVec 32 := 64#32
  let v442 : BitVec 32 := Scalar.addi v441 c64_i32_276
  let c16_i32_277 : BitVec 32 := 16#32
  let v443 : BitVec 32 := Scalar.remsi v442 c16_i32_277
  let c128_i32_278 : BitVec 32 := 128#32
  let v444 : BitVec 32 := Scalar.muli v443 c128_i32_278
  let v445 : Index := Scalar.indexCast v444
  let c256 : Index := 256#32
  ![v445.toNat, 256]
def k0_dev13 (d0 : Dev nD) : Nat :=
  let c0_i32_292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_291 : BitVec 32 := 1#32
  let v459 : BitVec 32 := Scalar.muli v5 c1_i32_291
  let v460 : BitVec 32 := Scalar.addi c0_i32_292 v459
  v460.toNat
def k0_off30 (d0 : Dev nD) (c0_i32_305 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_304 : BitVec 32 := 6#32
  let v475 : BitVec 32 := Scalar.subi v2 c6_i32_304
  let v476 : BitVec 32 := Scalar.addi v475 c0_i32_305
  let c64_i32_306 : BitVec 32 := 64#32
  let v477 : BitVec 32 := Scalar.addi v476 c64_i32_306
  let c16_i32_307 : BitVec 32 := 16#32
  let v478 : BitVec 32 := Scalar.remsi v477 c16_i32_307
  let c128_i32_308 : BitVec 32 := 128#32
  let v479 : BitVec 32 := Scalar.muli v478 c128_i32_308
  let v480 : Index := Scalar.indexCast v479
  let c256_309 : Index := 256#32
  ![v480.toNat, 256]
def k0_dev14 (d0 : Dev nD) : Nat :=
  let c0_i32_323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_322 : BitVec 32 := 1#32
  let v494 : BitVec 32 := Scalar.muli v8 c1_i32_322
  let v495 : BitVec 32 := Scalar.addi c0_i32_323 v494
  v495.toNat
def k0_off31 (d0 : Dev nD) (c0_i32_336 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_335 : BitVec 32 := 7#32
  let v510 : BitVec 32 := Scalar.addi v2 c7_i32_335
  let v511 : BitVec 32 := Scalar.subi v510 c0_i32_336
  let c64_i32_337 : BitVec 32 := 64#32
  let v512 : BitVec 32 := Scalar.addi v511 c64_i32_337
  let c16_i32_338 : BitVec 32 := 16#32
  let v513 : BitVec 32 := Scalar.remsi v512 c16_i32_338
  let c128_i32_339 : BitVec 32 := 128#32
  let v514 : BitVec 32 := Scalar.muli v513 c128_i32_339
  let v515 : Index := Scalar.indexCast v514
  let c512 : Index := 512#32
  ![v515.toNat, 512]
def k0_dev15 (d0 : Dev nD) : Nat :=
  let c0_i32_353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_352 : BitVec 32 := 1#32
  let v529 : BitVec 32 := Scalar.muli v5 c1_i32_352
  let v530 : BitVec 32 := Scalar.addi c0_i32_353 v529
  v530.toNat
def k0_off32 (d0 : Dev nD) (c0_i32_366 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_365 : BitVec 32 := 6#32
  let v545 : BitVec 32 := Scalar.subi v2 c6_i32_365
  let v546 : BitVec 32 := Scalar.addi v545 c0_i32_366
  let c64_i32_367 : BitVec 32 := 64#32
  let v547 : BitVec 32 := Scalar.addi v546 c64_i32_367
  let c16_i32_368 : BitVec 32 := 16#32
  let v548 : BitVec 32 := Scalar.remsi v547 c16_i32_368
  let c128_i32_369 : BitVec 32 := 128#32
  let v549 : BitVec 32 := Scalar.muli v548 c128_i32_369
  let v550 : Index := Scalar.indexCast v549
  let c512_370 : Index := 512#32
  ![v550.toNat, 512]
def k0_dev16 (d0 : Dev nD) : Nat :=
  let c0_i32_384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_383 : BitVec 32 := 1#32
  let v564 : BitVec 32 := Scalar.muli v8 c1_i32_383
  let v565 : BitVec 32 := Scalar.addi c0_i32_384 v564
  v565.toNat
def k0_off33 (d0 : Dev nD) (c0_i32_397 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_396 : BitVec 32 := 7#32
  let v580 : BitVec 32 := Scalar.addi v2 c7_i32_396
  let v581 : BitVec 32 := Scalar.subi v580 c0_i32_397
  let c64_i32_398 : BitVec 32 := 64#32
  let v582 : BitVec 32 := Scalar.addi v581 c64_i32_398
  let c16_i32_399 : BitVec 32 := 16#32
  let v583 : BitVec 32 := Scalar.remsi v582 c16_i32_399
  let c128_i32_400 : BitVec 32 := 128#32
  let v584 : BitVec 32 := Scalar.muli v583 c128_i32_400
  let v585 : Index := Scalar.indexCast v584
  let c768 : Index := 768#32
  ![v585.toNat, 768]
def k0_dev17 (d0 : Dev nD) : Nat :=
  let c0_i32_414 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_413 : BitVec 32 := 1#32
  let v599 : BitVec 32 := Scalar.muli v5 c1_i32_413
  let v600 : BitVec 32 := Scalar.addi c0_i32_414 v599
  v600.toNat
def k0_off34 (d0 : Dev nD) (c0_i32_427 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_426 : BitVec 32 := 6#32
  let v615 : BitVec 32 := Scalar.subi v2 c6_i32_426
  let v616 : BitVec 32 := Scalar.addi v615 c0_i32_427
  let c64_i32_428 : BitVec 32 := 64#32
  let v617 : BitVec 32 := Scalar.addi v616 c64_i32_428
  let c16_i32_429 : BitVec 32 := 16#32
  let v618 : BitVec 32 := Scalar.remsi v617 c16_i32_429
  let c128_i32_430 : BitVec 32 := 128#32
  let v619 : BitVec 32 := Scalar.muli v618 c128_i32_430
  let v620 : Index := Scalar.indexCast v619
  let c768_431 : Index := 768#32
  ![v620.toNat, 768]
def k0_dev18 (d0 : Dev nD) : Nat :=
  let c0_i32_445 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_444 : BitVec 32 := 1#32
  let v634 : BitVec 32 := Scalar.muli v8 c1_i32_444
  let v635 : BitVec 32 := Scalar.addi c0_i32_445 v634
  v635.toNat
def k0_dev19 (d0 : Dev nD) : Nat :=
  let c0_i32_510 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_509 : BitVec 32 := 1#32
  let v739 : BitVec 32 := Scalar.muli v5 c1_i32_509
  let v740 : BitVec 32 := Scalar.addi c0_i32_510 v739
  v740.toNat
def k0_dev20 (d0 : Dev nD) : Nat :=
  let c0_i32_541 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_540 : BitVec 32 := 1#32
  let v774 : BitVec 32 := Scalar.muli v8 c1_i32_540
  let v775 : BitVec 32 := Scalar.addi c0_i32_541 v774
  v775.toNat
def k0_dev21 (d0 : Dev nD) : Nat :=
  let c0_i32_572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_571 : BitVec 32 := 1#32
  let v809 : BitVec 32 := Scalar.muli v5 c1_i32_571
  let v810 : BitVec 32 := Scalar.addi c0_i32_572 v809
  v810.toNat
def k0_dev22 (d0 : Dev nD) : Nat :=
  let c0_i32_603 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_602 : BitVec 32 := 1#32
  let v844 : BitVec 32 := Scalar.muli v8 c1_i32_602
  let v845 : BitVec 32 := Scalar.addi c0_i32_603 v844
  v845.toNat
def k0_dev23 (d0 : Dev nD) : Nat :=
  let c0_i32_634 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_633 : BitVec 32 := 1#32
  let v879 : BitVec 32 := Scalar.muli v5 c1_i32_633
  let v880 : BitVec 32 := Scalar.addi c0_i32_634 v879
  v880.toNat
def k0_dev24 (d0 : Dev nD) : Nat :=
  let c0_i32_665 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_664 : BitVec 32 := 1#32
  let v914 : BitVec 32 := Scalar.muli v8 c1_i32_664
  let v915 : BitVec 32 := Scalar.addi c0_i32_665 v914
  v915.toNat
def k0_dev25 (d0 : Dev nD) : Nat :=
  let c0_i32_696 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_695 : BitVec 32 := 1#32
  let v949 : BitVec 32 := Scalar.muli v5 c1_i32_695
  let v950 : BitVec 32 := Scalar.addi c0_i32_696 v949
  v950.toNat
def k0_dev26 (d0 : Dev nD) : Nat :=
  let c0_i32_727 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_726 : BitVec 32 := 1#32
  let v984 : BitVec 32 := Scalar.muli v8 c1_i32_726
  let v985 : BitVec 32 := Scalar.addi c0_i32_727 v984
  v985.toNat
def k0_dev27 (d0 : Dev nD) : Nat :=
  let c0_i32_792 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_791 : BitVec 32 := 1#32
  let v1089 : BitVec 32 := Scalar.muli v5 c1_i32_791
  let v1090 : BitVec 32 := Scalar.addi c0_i32_792 v1089
  v1090.toNat
def k0_dev28 (d0 : Dev nD) : Nat :=
  let c0_i32_823 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_822 : BitVec 32 := 1#32
  let v1124 : BitVec 32 := Scalar.muli v8 c1_i32_822
  let v1125 : BitVec 32 := Scalar.addi c0_i32_823 v1124
  v1125.toNat
def k0_dev29 (d0 : Dev nD) : Nat :=
  let c0_i32_854 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_853 : BitVec 32 := 1#32
  let v1159 : BitVec 32 := Scalar.muli v5 c1_i32_853
  let v1160 : BitVec 32 := Scalar.addi c0_i32_854 v1159
  v1160.toNat
def k0_dev30 (d0 : Dev nD) : Nat :=
  let c0_i32_885 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_884 : BitVec 32 := 1#32
  let v1194 : BitVec 32 := Scalar.muli v8 c1_i32_884
  let v1195 : BitVec 32 := Scalar.addi c0_i32_885 v1194
  v1195.toNat
def k0_dev31 (d0 : Dev nD) : Nat :=
  let c0_i32_916 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_915 : BitVec 32 := 1#32
  let v1229 : BitVec 32 := Scalar.muli v5 c1_i32_915
  let v1230 : BitVec 32 := Scalar.addi c0_i32_916 v1229
  v1230.toNat
def k0_dev32 (d0 : Dev nD) : Nat :=
  let c0_i32_947 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_946 : BitVec 32 := 1#32
  let v1264 : BitVec 32 := Scalar.muli v8 c1_i32_946
  let v1265 : BitVec 32 := Scalar.addi c0_i32_947 v1264
  v1265.toNat
def k0_dev33 (d0 : Dev nD) : Nat :=
  let c0_i32_978 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_977 : BitVec 32 := 1#32
  let v1299 : BitVec 32 := Scalar.muli v5 c1_i32_977
  let v1300 : BitVec 32 := Scalar.addi c0_i32_978 v1299
  v1300.toNat
def k0_dev34 (d0 : Dev nD) : Nat :=
  let c0_i32_1009 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_1008 : BitVec 32 := 1#32
  let v1334 : BitVec 32 := Scalar.muli v8 c1_i32_1008
  let v1335 : BitVec 32 := Scalar.addi c0_i32_1009 v1334
  v1335.toNat
def k0_dev35 (d0 : Dev nD) : Nat :=
  let c0_i32_1074 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_1073 : BitVec 32 := 1#32
  let v1439 : BitVec 32 := Scalar.muli v5 c1_i32_1073
  let v1440 : BitVec 32 := Scalar.addi c0_i32_1074 v1439
  v1440.toNat
def k0_dev36 (d0 : Dev nD) : Nat :=
  let c0_i32_1105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_1104 : BitVec 32 := 1#32
  let v1474 : BitVec 32 := Scalar.muli v8 c1_i32_1104
  let v1475 : BitVec 32 := Scalar.addi c0_i32_1105 v1474
  v1475.toNat
def k0_dev37 (d0 : Dev nD) : Nat :=
  let c0_i32_1136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_1135 : BitVec 32 := 1#32
  let v1509 : BitVec 32 := Scalar.muli v5 c1_i32_1135
  let v1510 : BitVec 32 := Scalar.addi c0_i32_1136 v1509
  v1510.toNat
def k0_dev38 (d0 : Dev nD) : Nat :=
  let c0_i32_1167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_1166 : BitVec 32 := 1#32
  let v1544 : BitVec 32 := Scalar.muli v8 c1_i32_1166
  let v1545 : BitVec 32 := Scalar.addi c0_i32_1167 v1544
  v1545.toNat
def k0_dev39 (d0 : Dev nD) : Nat :=
  let c0_i32_1198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_1197 : BitVec 32 := 1#32
  let v1579 : BitVec 32 := Scalar.muli v5 c1_i32_1197
  let v1580 : BitVec 32 := Scalar.addi c0_i32_1198 v1579
  v1580.toNat
def k0_dev40 (d0 : Dev nD) : Nat :=
  let c0_i32_1229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_1228 : BitVec 32 := 1#32
  let v1614 : BitVec 32 := Scalar.muli v8 c1_i32_1228
  let v1615 : BitVec 32 := Scalar.addi c0_i32_1229 v1614
  v1615.toNat
def k0_dev41 (d0 : Dev nD) : Nat :=
  let c0_i32_1260 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_1259 : BitVec 32 := 1#32
  let v1649 : BitVec 32 := Scalar.muli v5 c1_i32_1259
  let v1650 : BitVec 32 := Scalar.addi c0_i32_1260 v1649
  v1650.toNat
def k0_dev42 (d0 : Dev nD) : Nat :=
  let c0_i32_1291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_1290 : BitVec 32 := 1#32
  let v1684 : BitVec 32 := Scalar.muli v8 c1_i32_1290
  let v1685 : BitVec 32 := Scalar.addi c0_i32_1291 v1684
  v1685.toNat
def k0_dev43 (d0 : Dev nD) : Nat :=
  let c0_i32_1354 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_1353 : BitVec 32 := 1#32
  let v1789 : BitVec 32 := Scalar.muli v5 c1_i32_1353
  let v1790 : BitVec 32 := Scalar.addi c0_i32_1354 v1789
  v1790.toNat
def k0_dev44 (d0 : Dev nD) : Nat :=
  let c0_i32_1385 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_1384 : BitVec 32 := 1#32
  let v1824 : BitVec 32 := Scalar.muli v8 c1_i32_1384
  let v1825 : BitVec 32 := Scalar.addi c0_i32_1385 v1824
  v1825.toNat
def k0_dev45 (d0 : Dev nD) : Nat :=
  let c0_i32_1416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_1415 : BitVec 32 := 1#32
  let v1859 : BitVec 32 := Scalar.muli v5 c1_i32_1415
  let v1860 : BitVec 32 := Scalar.addi c0_i32_1416 v1859
  v1860.toNat
def k0_dev46 (d0 : Dev nD) : Nat :=
  let c0_i32_1447 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_1446 : BitVec 32 := 1#32
  let v1894 : BitVec 32 := Scalar.muli v8 c1_i32_1446
  let v1895 : BitVec 32 := Scalar.addi c0_i32_1447 v1894
  v1895.toNat
def k0_dev47 (d0 : Dev nD) : Nat :=
  let c0_i32_1478 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_1477 : BitVec 32 := 1#32
  let v1929 : BitVec 32 := Scalar.muli v5 c1_i32_1477
  let v1930 : BitVec 32 := Scalar.addi c0_i32_1478 v1929
  v1930.toNat
def k0_dev48 (d0 : Dev nD) : Nat :=
  let c0_i32_1509 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_1508 : BitVec 32 := 1#32
  let v1964 : BitVec 32 := Scalar.muli v8 c1_i32_1508
  let v1965 : BitVec 32 := Scalar.addi c0_i32_1509 v1964
  v1965.toNat
def k0_dev49 (d0 : Dev nD) : Nat :=
  let c0_i32_1540 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_1539 : BitVec 32 := 1#32
  let v1999 : BitVec 32 := Scalar.muli v5 c1_i32_1539
  let v2000 : BitVec 32 := Scalar.addi c0_i32_1540 v1999
  v2000.toNat
def k0_dev50 (d0 : Dev nD) : Nat :=
  let c0_i32_1571 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_1570 : BitVec 32 := 1#32
  let v2034 : BitVec 32 := Scalar.muli v8 c1_i32_1570
  let v2035 : BitVec 32 := Scalar.addi c0_i32_1571 v2034
  v2035.toNat
def k0_dev51 (d0 : Dev nD) : Nat :=
  let c0_i32_1635 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_1634 : BitVec 32 := 1#32
  let v2139 : BitVec 32 := Scalar.muli v5 c1_i32_1634
  let v2140 : BitVec 32 := Scalar.addi c0_i32_1635 v2139
  v2140.toNat
def k0_dev52 (d0 : Dev nD) : Nat :=
  let c0_i32_1666 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_1665 : BitVec 32 := 1#32
  let v2174 : BitVec 32 := Scalar.muli v8 c1_i32_1665
  let v2175 : BitVec 32 := Scalar.addi c0_i32_1666 v2174
  v2175.toNat
def k0_dev53 (d0 : Dev nD) : Nat :=
  let c0_i32_1697 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_1696 : BitVec 32 := 1#32
  let v2209 : BitVec 32 := Scalar.muli v5 c1_i32_1696
  let v2210 : BitVec 32 := Scalar.addi c0_i32_1697 v2209
  v2210.toNat
def k0_dev54 (d0 : Dev nD) : Nat :=
  let c0_i32_1728 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_1727 : BitVec 32 := 1#32
  let v2244 : BitVec 32 := Scalar.muli v8 c1_i32_1727
  let v2245 : BitVec 32 := Scalar.addi c0_i32_1728 v2244
  v2245.toNat
def k0_dev55 (d0 : Dev nD) : Nat :=
  let c0_i32_1759 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_1758 : BitVec 32 := 1#32
  let v2279 : BitVec 32 := Scalar.muli v5 c1_i32_1758
  let v2280 : BitVec 32 := Scalar.addi c0_i32_1759 v2279
  v2280.toNat
def k0_dev56 (d0 : Dev nD) : Nat :=
  let c0_i32_1790 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_1789 : BitVec 32 := 1#32
  let v2314 : BitVec 32 := Scalar.muli v8 c1_i32_1789
  let v2315 : BitVec 32 := Scalar.addi c0_i32_1790 v2314
  v2315.toNat
def k0_dev57 (d0 : Dev nD) : Nat :=
  let c0_i32_1821 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_1820 : BitVec 32 := 1#32
  let v2349 : BitVec 32 := Scalar.muli v5 c1_i32_1820
  let v2350 : BitVec 32 := Scalar.addi c0_i32_1821 v2349
  v2350.toNat
def k0_dev58 (d0 : Dev nD) : Nat :=
  let c0_i32_1852 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_1851 : BitVec 32 := 1#32
  let v2384 : BitVec 32 := Scalar.muli v8 c1_i32_1851
  let v2385 : BitVec 32 := Scalar.addi c0_i32_1852 v2384
  v2385.toNat
def k0_dev59 (d0 : Dev nD) : Nat :=
  let c0_i32_1916 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_1915 : BitVec 32 := 1#32
  let v2489 : BitVec 32 := Scalar.muli v5 c1_i32_1915
  let v2490 : BitVec 32 := Scalar.addi c0_i32_1916 v2489
  v2490.toNat
def k0_dev60 (d0 : Dev nD) : Nat :=
  let c0_i32_1965 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_1964 : BitVec 32 := 1#32
  let v2545 : BitVec 32 := Scalar.muli v5 c1_i32_1964
  let v2546 : BitVec 32 := Scalar.addi c0_i32_1965 v2545
  v2546.toNat
def k0_dev61 (d0 : Dev nD) : Nat :=
  let c0_i32_2014 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_2013 : BitVec 32 := 1#32
  let v2601 : BitVec 32 := Scalar.muli v5 c1_i32_2013
  let v2602 : BitVec 32 := Scalar.addi c0_i32_2014 v2601
  v2602.toNat
def k0_dev62 (d0 : Dev nD) : Nat :=
  let c0_i32_2063 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_2062 : BitVec 32 := 1#32
  let v2657 : BitVec 32 := Scalar.muli v5 c1_i32_2062
  let v2658 : BitVec 32 := Scalar.addi c0_i32_2063 v2657
  v2658.toNat
def k0_off35 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_2102 : BitVec 32 := 128#32
  let v2708 : BitVec 32 := Scalar.muli v2 c128_i32_2102
  let v2709 : Index := Scalar.indexCast v2708
  let c0_2103 : Index := 0#32
  ![v2709.toNat, 0]
def k0_off36 (d0 : Dev nD) (c0_i32_2105 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2713 : BitVec 32 := Scalar.subi v2 c0_i32_2105
  let c64_i32_2106 : BitVec 32 := 64#32
  let v2714 : BitVec 32 := Scalar.addi v2713 c64_i32_2106
  let c16_i32_2107 : BitVec 32 := 16#32
  let v2715 : BitVec 32 := Scalar.remsi v2714 c16_i32_2107
  let c128_i32_2108 : BitVec 32 := 128#32
  let v2716 : BitVec 32 := Scalar.muli v2715 c128_i32_2108
  let c0_i32_2113 : BitVec 32 := 0#32
  ![v2716.toNat, 0]
def k0_dev63 (d0 : Dev nD) : Nat :=
  let c0_i32_2112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_2111 : BitVec 32 := 1#32
  let v2717 : BitVec 32 := Scalar.muli v5 c1_i32_2111
  let v2718 : BitVec 32 := Scalar.addi c0_i32_2112 v2717
  v2718.toNat
def k0_off37 (d0 : Dev nD) (c0_i32_2115 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2725 : BitVec 32 := Scalar.addi v2 c0_i32_2115
  let c64_i32_2116 : BitVec 32 := 64#32
  let v2726 : BitVec 32 := Scalar.addi v2725 c64_i32_2116
  let c16_i32_2117 : BitVec 32 := 16#32
  let v2727 : BitVec 32 := Scalar.remsi v2726 c16_i32_2117
  let c128_i32_2118 : BitVec 32 := 128#32
  let v2728 : BitVec 32 := Scalar.muli v2727 c128_i32_2118
  let c0_i32_2123 : BitVec 32 := 0#32
  ![v2728.toNat, 0]
def k0_dev64 (d0 : Dev nD) : Nat :=
  let c0_i32_2122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_2121 : BitVec 32 := 1#32
  let v2729 : BitVec 32 := Scalar.muli v8 c1_i32_2121
  let v2730 : BitVec 32 := Scalar.addi c0_i32_2122 v2729
  v2730.toNat
def k0_off38 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_2143 : BitVec 32 := 128#32
  let v2758 : BitVec 32 := Scalar.muli v2 c128_i32_2143
  let v2759 : Index := Scalar.indexCast v2758
  let c256_2144 : Index := 256#32
  ![v2759.toNat, 256]
def k0_off39 (d0 : Dev nD) (c0_i32_2146 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2763 : BitVec 32 := Scalar.subi v2 c0_i32_2146
  let c64_i32_2147 : BitVec 32 := 64#32
  let v2764 : BitVec 32 := Scalar.addi v2763 c64_i32_2147
  let c16_i32_2148 : BitVec 32 := 16#32
  let v2765 : BitVec 32 := Scalar.remsi v2764 c16_i32_2148
  let c128_i32_2149 : BitVec 32 := 128#32
  let v2766 : BitVec 32 := Scalar.muli v2765 c128_i32_2149
  let c256_i32_2154 : BitVec 32 := 256#32
  ![v2766.toNat, 256]
def k0_dev65 (d0 : Dev nD) : Nat :=
  let c0_i32_2153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_2152 : BitVec 32 := 1#32
  let v2767 : BitVec 32 := Scalar.muli v5 c1_i32_2152
  let v2768 : BitVec 32 := Scalar.addi c0_i32_2153 v2767
  v2768.toNat
def k0_off40 (d0 : Dev nD) (c0_i32_2156 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2775 : BitVec 32 := Scalar.addi v2 c0_i32_2156
  let c64_i32_2157 : BitVec 32 := 64#32
  let v2776 : BitVec 32 := Scalar.addi v2775 c64_i32_2157
  let c16_i32_2158 : BitVec 32 := 16#32
  let v2777 : BitVec 32 := Scalar.remsi v2776 c16_i32_2158
  let c128_i32_2159 : BitVec 32 := 128#32
  let v2778 : BitVec 32 := Scalar.muli v2777 c128_i32_2159
  let c256_i32_2164 : BitVec 32 := 256#32
  ![v2778.toNat, 256]
def k0_dev66 (d0 : Dev nD) : Nat :=
  let c0_i32_2163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_2162 : BitVec 32 := 1#32
  let v2779 : BitVec 32 := Scalar.muli v8 c1_i32_2162
  let v2780 : BitVec 32 := Scalar.addi c0_i32_2163 v2779
  v2780.toNat
def k0_off41 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_2184 : BitVec 32 := 128#32
  let v2808 : BitVec 32 := Scalar.muli v2 c128_i32_2184
  let v2809 : Index := Scalar.indexCast v2808
  let c512_2185 : Index := 512#32
  ![v2809.toNat, 512]
def k0_off42 (d0 : Dev nD) (c0_i32_2187 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2813 : BitVec 32 := Scalar.subi v2 c0_i32_2187
  let c64_i32_2188 : BitVec 32 := 64#32
  let v2814 : BitVec 32 := Scalar.addi v2813 c64_i32_2188
  let c16_i32_2189 : BitVec 32 := 16#32
  let v2815 : BitVec 32 := Scalar.remsi v2814 c16_i32_2189
  let c128_i32_2190 : BitVec 32 := 128#32
  let v2816 : BitVec 32 := Scalar.muli v2815 c128_i32_2190
  let c512_i32_2195 : BitVec 32 := 512#32
  ![v2816.toNat, 512]
def k0_dev67 (d0 : Dev nD) : Nat :=
  let c0_i32_2194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_2193 : BitVec 32 := 1#32
  let v2817 : BitVec 32 := Scalar.muli v5 c1_i32_2193
  let v2818 : BitVec 32 := Scalar.addi c0_i32_2194 v2817
  v2818.toNat
def k0_off43 (d0 : Dev nD) (c0_i32_2197 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2825 : BitVec 32 := Scalar.addi v2 c0_i32_2197
  let c64_i32_2198 : BitVec 32 := 64#32
  let v2826 : BitVec 32 := Scalar.addi v2825 c64_i32_2198
  let c16_i32_2199 : BitVec 32 := 16#32
  let v2827 : BitVec 32 := Scalar.remsi v2826 c16_i32_2199
  let c128_i32_2200 : BitVec 32 := 128#32
  let v2828 : BitVec 32 := Scalar.muli v2827 c128_i32_2200
  let c512_i32_2205 : BitVec 32 := 512#32
  ![v2828.toNat, 512]
def k0_dev68 (d0 : Dev nD) : Nat :=
  let c0_i32_2204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_2203 : BitVec 32 := 1#32
  let v2829 : BitVec 32 := Scalar.muli v8 c1_i32_2203
  let v2830 : BitVec 32 := Scalar.addi c0_i32_2204 v2829
  v2830.toNat
def k0_off44 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_2225 : BitVec 32 := 128#32
  let v2858 : BitVec 32 := Scalar.muli v2 c128_i32_2225
  let v2859 : Index := Scalar.indexCast v2858
  let c768_2226 : Index := 768#32
  ![v2859.toNat, 768]
def k0_off45 (d0 : Dev nD) (c0_i32_2228 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2863 : BitVec 32 := Scalar.subi v2 c0_i32_2228
  let c64_i32_2229 : BitVec 32 := 64#32
  let v2864 : BitVec 32 := Scalar.addi v2863 c64_i32_2229
  let c16_i32_2230 : BitVec 32 := 16#32
  let v2865 : BitVec 32 := Scalar.remsi v2864 c16_i32_2230
  let c128_i32_2231 : BitVec 32 := 128#32
  let v2866 : BitVec 32 := Scalar.muli v2865 c128_i32_2231
  let c768_i32_2236 : BitVec 32 := 768#32
  ![v2866.toNat, 768]
def k0_dev69 (d0 : Dev nD) : Nat :=
  let c0_i32_2235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_2234 : BitVec 32 := 1#32
  let v2867 : BitVec 32 := Scalar.muli v5 c1_i32_2234
  let v2868 : BitVec 32 := Scalar.addi c0_i32_2235 v2867
  v2868.toNat
def k0_off46 (d0 : Dev nD) (c0_i32_2238 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2875 : BitVec 32 := Scalar.addi v2 c0_i32_2238
  let c64_i32_2239 : BitVec 32 := 64#32
  let v2876 : BitVec 32 := Scalar.addi v2875 c64_i32_2239
  let c16_i32_2240 : BitVec 32 := 16#32
  let v2877 : BitVec 32 := Scalar.remsi v2876 c16_i32_2240
  let c128_i32_2241 : BitVec 32 := 128#32
  let v2878 : BitVec 32 := Scalar.muli v2877 c128_i32_2241
  let c768_i32_2246 : BitVec 32 := 768#32
  ![v2878.toNat, 768]
def k0_dev70 (d0 : Dev nD) : Nat :=
  let c0_i32_2245 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_2244 : BitVec 32 := 1#32
  let v2879 : BitVec 32 := Scalar.muli v8 c1_i32_2244
  let v2880 : BitVec 32 := Scalar.addi c0_i32_2245 v2879
  v2880.toNat
def k0_dev71 (d0 : Dev nD) : Nat :=
  let c0_i32_2261 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_2260 : BitVec 32 := 1#32
  let v2897 : BitVec 32 := Scalar.muli v5 c1_i32_2260
  let v2898 : BitVec 32 := Scalar.addi c0_i32_2261 v2897
  v2898.toNat
def k0_dev72 (d0 : Dev nD) : Nat :=
  let c0_i32_2277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_2276 : BitVec 32 := 1#32
  let v2915 : BitVec 32 := Scalar.muli v8 c1_i32_2276
  let v2916 : BitVec 32 := Scalar.addi c0_i32_2277 v2915
  v2916.toNat
def k0_dev73 (d0 : Dev nD) : Nat :=
  let c0_i32_2293 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_2292 : BitVec 32 := 1#32
  let v2933 : BitVec 32 := Scalar.muli v5 c1_i32_2292
  let v2934 : BitVec 32 := Scalar.addi c0_i32_2293 v2933
  v2934.toNat
def k0_dev74 (d0 : Dev nD) : Nat :=
  let c0_i32_2309 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_2308 : BitVec 32 := 1#32
  let v2951 : BitVec 32 := Scalar.muli v8 c1_i32_2308
  let v2952 : BitVec 32 := Scalar.addi c0_i32_2309 v2951
  v2952.toNat
def k0_dev75 (d0 : Dev nD) : Nat :=
  let c0_i32_2325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_2324 : BitVec 32 := 1#32
  let v2969 : BitVec 32 := Scalar.muli v5 c1_i32_2324
  let v2970 : BitVec 32 := Scalar.addi c0_i32_2325 v2969
  v2970.toNat
def k0_dev76 (d0 : Dev nD) : Nat :=
  let c0_i32_2341 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_2340 : BitVec 32 := 1#32
  let v2987 : BitVec 32 := Scalar.muli v8 c1_i32_2340
  let v2988 : BitVec 32 := Scalar.addi c0_i32_2341 v2987
  v2988.toNat
def k0_dev77 (d0 : Dev nD) : Nat :=
  let c0_i32_2357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_2356 : BitVec 32 := 1#32
  let v3005 : BitVec 32 := Scalar.muli v5 c1_i32_2356
  let v3006 : BitVec 32 := Scalar.addi c0_i32_2357 v3005
  v3006.toNat
def k0_dev78 (d0 : Dev nD) : Nat :=
  let c0_i32_2373 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_2372 : BitVec 32 := 1#32
  let v3023 : BitVec 32 := Scalar.muli v8 c1_i32_2372
  let v3024 : BitVec 32 := Scalar.addi c0_i32_2373 v3023
  v3024.toNat
def k0_dev79 (d0 : Dev nD) : Nat :=
  let c0_i32_2389 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_2388 : BitVec 32 := 1#32
  let v3041 : BitVec 32 := Scalar.muli v5 c1_i32_2388
  let v3042 : BitVec 32 := Scalar.addi c0_i32_2389 v3041
  v3042.toNat
def k0_dev80 (d0 : Dev nD) : Nat :=
  let c0_i32_2405 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_2404 : BitVec 32 := 1#32
  let v3059 : BitVec 32 := Scalar.muli v8 c1_i32_2404
  let v3060 : BitVec 32 := Scalar.addi c0_i32_2405 v3059
  v3060.toNat
def k0_dev81 (d0 : Dev nD) : Nat :=
  let c0_i32_2421 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_2420 : BitVec 32 := 1#32
  let v3077 : BitVec 32 := Scalar.muli v5 c1_i32_2420
  let v3078 : BitVec 32 := Scalar.addi c0_i32_2421 v3077
  v3078.toNat
def k0_dev82 (d0 : Dev nD) : Nat :=
  let c0_i32_2437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_2436 : BitVec 32 := 1#32
  let v3095 : BitVec 32 := Scalar.muli v8 c1_i32_2436
  let v3096 : BitVec 32 := Scalar.addi c0_i32_2437 v3095
  v3096.toNat
def k0_dev83 (d0 : Dev nD) : Nat :=
  let c0_i32_2453 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_2452 : BitVec 32 := 1#32
  let v3113 : BitVec 32 := Scalar.muli v5 c1_i32_2452
  let v3114 : BitVec 32 := Scalar.addi c0_i32_2453 v3113
  v3114.toNat
def k0_dev84 (d0 : Dev nD) : Nat :=
  let c0_i32_2469 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_2468 : BitVec 32 := 1#32
  let v3131 : BitVec 32 := Scalar.muli v8 c1_i32_2468
  let v3132 : BitVec 32 := Scalar.addi c0_i32_2469 v3131
  v3132.toNat
def k0_dev85 (d0 : Dev nD) : Nat :=
  let c0_i32_2485 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_2484 : BitVec 32 := 1#32
  let v3149 : BitVec 32 := Scalar.muli v5 c1_i32_2484
  let v3150 : BitVec 32 := Scalar.addi c0_i32_2485 v3149
  v3150.toNat
def k0_dev86 (d0 : Dev nD) : Nat :=
  let c0_i32_2501 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_2500 : BitVec 32 := 1#32
  let v3167 : BitVec 32 := Scalar.muli v8 c1_i32_2500
  let v3168 : BitVec 32 := Scalar.addi c0_i32_2501 v3167
  v3168.toNat
def k0_dev87 (d0 : Dev nD) : Nat :=
  let c0_i32_2517 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_2516 : BitVec 32 := 1#32
  let v3185 : BitVec 32 := Scalar.muli v5 c1_i32_2516
  let v3186 : BitVec 32 := Scalar.addi c0_i32_2517 v3185
  v3186.toNat
def k0_dev88 (d0 : Dev nD) : Nat :=
  let c0_i32_2533 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_2532 : BitVec 32 := 1#32
  let v3203 : BitVec 32 := Scalar.muli v8 c1_i32_2532
  let v3204 : BitVec 32 := Scalar.addi c0_i32_2533 v3203
  v3204.toNat
def k0_dev89 (d0 : Dev nD) : Nat :=
  let c0_i32_2549 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_2548 : BitVec 32 := 1#32
  let v3221 : BitVec 32 := Scalar.muli v5 c1_i32_2548
  let v3222 : BitVec 32 := Scalar.addi c0_i32_2549 v3221
  v3222.toNat
def k0_dev90 (d0 : Dev nD) : Nat :=
  let c0_i32_2565 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_2564 : BitVec 32 := 1#32
  let v3239 : BitVec 32 := Scalar.muli v8 c1_i32_2564
  let v3240 : BitVec 32 := Scalar.addi c0_i32_2565 v3239
  v3240.toNat
def k0_dev91 (d0 : Dev nD) : Nat :=
  let c0_i32_2581 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_2580 : BitVec 32 := 1#32
  let v3257 : BitVec 32 := Scalar.muli v5 c1_i32_2580
  let v3258 : BitVec 32 := Scalar.addi c0_i32_2581 v3257
  v3258.toNat
def k0_dev92 (d0 : Dev nD) : Nat :=
  let c0_i32_2597 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_2596 : BitVec 32 := 1#32
  let v3275 : BitVec 32 := Scalar.muli v8 c1_i32_2596
  let v3276 : BitVec 32 := Scalar.addi c0_i32_2597 v3275
  v3276.toNat
def k0_dev93 (d0 : Dev nD) : Nat :=
  let c0_i32_2613 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_2612 : BitVec 32 := 1#32
  let v3293 : BitVec 32 := Scalar.muli v5 c1_i32_2612
  let v3294 : BitVec 32 := Scalar.addi c0_i32_2613 v3293
  v3294.toNat
def k0_dev94 (d0 : Dev nD) : Nat :=
  let c0_i32_2629 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_2628 : BitVec 32 := 1#32
  let v3311 : BitVec 32 := Scalar.muli v8 c1_i32_2628
  let v3312 : BitVec 32 := Scalar.addi c0_i32_2629 v3311
  v3312.toNat
def k0_dev95 (d0 : Dev nD) : Nat :=
  let c0_i32_2645 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_2644 : BitVec 32 := 1#32
  let v3329 : BitVec 32 := Scalar.muli v5 c1_i32_2644
  let v3330 : BitVec 32 := Scalar.addi c0_i32_2645 v3329
  v3330.toNat
def k0_dev96 (d0 : Dev nD) : Nat :=
  let c0_i32_2661 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_2660 : BitVec 32 := 1#32
  let v3347 : BitVec 32 := Scalar.muli v8 c1_i32_2660
  let v3348 : BitVec 32 := Scalar.addi c0_i32_2661 v3347
  v3348.toNat
def k0_dev97 (d0 : Dev nD) : Nat :=
  let c0_i32_2677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_2676 : BitVec 32 := 1#32
  let v3365 : BitVec 32 := Scalar.muli v5 c1_i32_2676
  let v3366 : BitVec 32 := Scalar.addi c0_i32_2677 v3365
  v3366.toNat
def k0_dev98 (d0 : Dev nD) : Nat :=
  let c0_i32_2693 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_2692 : BitVec 32 := 1#32
  let v3383 : BitVec 32 := Scalar.muli v8 c1_i32_2692
  let v3384 : BitVec 32 := Scalar.addi c0_i32_2693 v3383
  v3384.toNat
def k0_dev99 (d0 : Dev nD) : Nat :=
  let c0_i32_2709 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_2708 : BitVec 32 := 1#32
  let v3401 : BitVec 32 := Scalar.muli v5 c1_i32_2708
  let v3402 : BitVec 32 := Scalar.addi c0_i32_2709 v3401
  v3402.toNat
def k0_dev100 (d0 : Dev nD) : Nat :=
  let c0_i32_2725 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_2724 : BitVec 32 := 1#32
  let v3419 : BitVec 32 := Scalar.muli v8 c1_i32_2724
  let v3420 : BitVec 32 := Scalar.addi c0_i32_2725 v3419
  v3420.toNat
def k0_dev101 (d0 : Dev nD) : Nat :=
  let c0_i32_2741 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_2740 : BitVec 32 := 1#32
  let v3437 : BitVec 32 := Scalar.muli v5 c1_i32_2740
  let v3438 : BitVec 32 := Scalar.addi c0_i32_2741 v3437
  v3438.toNat
def k0_dev102 (d0 : Dev nD) : Nat :=
  let c0_i32_2757 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_2756 : BitVec 32 := 1#32
  let v3455 : BitVec 32 := Scalar.muli v8 c1_i32_2756
  let v3456 : BitVec 32 := Scalar.addi c0_i32_2757 v3455
  v3456.toNat
def k0_dev103 (d0 : Dev nD) : Nat :=
  let c0_i32_2773 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_2772 : BitVec 32 := 1#32
  let v3473 : BitVec 32 := Scalar.muli v5 c1_i32_2772
  let v3474 : BitVec 32 := Scalar.addi c0_i32_2773 v3473
  v3474.toNat
def k0_dev104 (d0 : Dev nD) : Nat :=
  let c0_i32_2789 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_2788 : BitVec 32 := 1#32
  let v3491 : BitVec 32 := Scalar.muli v8 c1_i32_2788
  let v3492 : BitVec 32 := Scalar.addi c0_i32_2789 v3491
  v3492.toNat
def k0_dev105 (d0 : Dev nD) : Nat :=
  let c0_i32_2805 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_2804 : BitVec 32 := 1#32
  let v3509 : BitVec 32 := Scalar.muli v5 c1_i32_2804
  let v3510 : BitVec 32 := Scalar.addi c0_i32_2805 v3509
  v3510.toNat
def k0_dev106 (d0 : Dev nD) : Nat :=
  let c0_i32_2821 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_2820 : BitVec 32 := 1#32
  let v3527 : BitVec 32 := Scalar.muli v8 c1_i32_2820
  let v3528 : BitVec 32 := Scalar.addi c0_i32_2821 v3527
  v3528.toNat
def k0_dev107 (d0 : Dev nD) : Nat :=
  let c0_i32_2837 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_2836 : BitVec 32 := 1#32
  let v3545 : BitVec 32 := Scalar.muli v5 c1_i32_2836
  let v3546 : BitVec 32 := Scalar.addi c0_i32_2837 v3545
  v3546.toNat
def k0_dev108 (d0 : Dev nD) : Nat :=
  let c0_i32_2853 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_2852 : BitVec 32 := 1#32
  let v3563 : BitVec 32 := Scalar.muli v8 c1_i32_2852
  let v3564 : BitVec 32 := Scalar.addi c0_i32_2853 v3563
  v3564.toNat
def k0_dev109 (d0 : Dev nD) : Nat :=
  let c0_i32_2869 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_2868 : BitVec 32 := 1#32
  let v3581 : BitVec 32 := Scalar.muli v5 c1_i32_2868
  let v3582 : BitVec 32 := Scalar.addi c0_i32_2869 v3581
  v3582.toNat
def k0_dev110 (d0 : Dev nD) : Nat :=
  let c0_i32_2885 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_2884 : BitVec 32 := 1#32
  let v3599 : BitVec 32 := Scalar.muli v8 c1_i32_2884
  let v3600 : BitVec 32 := Scalar.addi c0_i32_2885 v3599
  v3600.toNat
def k0_dev111 (d0 : Dev nD) : Nat :=
  let c0_i32_2901 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_2900 : BitVec 32 := 1#32
  let v3617 : BitVec 32 := Scalar.muli v5 c1_i32_2900
  let v3618 : BitVec 32 := Scalar.addi c0_i32_2901 v3617
  v3618.toNat
def k0_dev112 (d0 : Dev nD) : Nat :=
  let c0_i32_2917 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_2916 : BitVec 32 := 1#32
  let v3635 : BitVec 32 := Scalar.muli v8 c1_i32_2916
  let v3636 : BitVec 32 := Scalar.addi c0_i32_2917 v3635
  v3636.toNat
def k0_dev113 (d0 : Dev nD) : Nat :=
  let c0_i32_2933 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_2932 : BitVec 32 := 1#32
  let v3653 : BitVec 32 := Scalar.muli v5 c1_i32_2932
  let v3654 : BitVec 32 := Scalar.addi c0_i32_2933 v3653
  v3654.toNat
def k0_dev114 (d0 : Dev nD) : Nat :=
  let c0_i32_2949 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_2948 : BitVec 32 := 1#32
  let v3671 : BitVec 32 := Scalar.muli v8 c1_i32_2948
  let v3672 : BitVec 32 := Scalar.addi c0_i32_2949 v3671
  v3672.toNat
def k0_dev115 (d0 : Dev nD) : Nat :=
  let c0_i32_2965 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_2964 : BitVec 32 := 1#32
  let v3689 : BitVec 32 := Scalar.muli v5 c1_i32_2964
  let v3690 : BitVec 32 := Scalar.addi c0_i32_2965 v3689
  v3690.toNat
def k0_dev116 (d0 : Dev nD) : Nat :=
  let c0_i32_2981 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_2980 : BitVec 32 := 1#32
  let v3707 : BitVec 32 := Scalar.muli v8 c1_i32_2980
  let v3708 : BitVec 32 := Scalar.addi c0_i32_2981 v3707
  v3708.toNat
def k0_dev117 (d0 : Dev nD) : Nat :=
  let c0_i32_2997 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_2996 : BitVec 32 := 1#32
  let v3725 : BitVec 32 := Scalar.muli v5 c1_i32_2996
  let v3726 : BitVec 32 := Scalar.addi c0_i32_2997 v3725
  v3726.toNat
def k0_dev118 (d0 : Dev nD) : Nat :=
  let c0_i32_3013 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v6 : BitVec 32 := Scalar.subi v2 c1_i32_2
  let c64_i32_3 : BitVec 32 := 64#32
  let v7 : BitVec 32 := Scalar.addi v6 c64_i32_3
  let c16_i32_4 : BitVec 32 := 16#32
  let v8 : BitVec 32 := Scalar.remsi v7 c16_i32_4
  let c1_i32_3012 : BitVec 32 := 1#32
  let v3743 : BitVec 32 := Scalar.muli v8 c1_i32_3012
  let v3744 : BitVec 32 := Scalar.addi c0_i32_3013 v3743
  v3744.toNat
def k0_dev119 (d0 : Dev nD) : Nat :=
  let c0_i32_3029 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_3028 : BitVec 32 := 1#32
  let v3761 : BitVec 32 := Scalar.muli v5 c1_i32_3028
  let v3762 : BitVec 32 := Scalar.addi c0_i32_3029 v3761
  v3762.toNat
def k0_dev120 (d0 : Dev nD) : Nat :=
  let c0_i32_3051 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_3050 : BitVec 32 := 1#32
  let v3785 : BitVec 32 := Scalar.muli v5 c1_i32_3050
  let v3786 : BitVec 32 := Scalar.addi c0_i32_3051 v3785
  v3786.toNat
def k0_dev121 (d0 : Dev nD) : Nat :=
  let c0_i32_3073 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_3072 : BitVec 32 := 1#32
  let v3809 : BitVec 32 := Scalar.muli v5 c1_i32_3072
  let v3810 : BitVec 32 := Scalar.addi c0_i32_3073 v3809
  v3810.toNat
def k0_dev122 (d0 : Dev nD) : Nat :=
  let c0_i32_3095 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c64_i32 : BitVec 32 := 64#32
  let v4 : BitVec 32 := Scalar.addi v3 c64_i32
  let c16_i32_1 : BitVec 32 := 16#32
  let v5 : BitVec 32 := Scalar.remsi v4 c16_i32_1
  let c1_i32_3094 : BitVec 32 := 1#32
  let v3833 : BitVec 32 := Scalar.muli v5 c1_i32_3094
  let v3834 : BitVec 32 := Scalar.addi c0_i32_3095 v3833
  v3834.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x512 : Shape := ⟨2, ![2048, 512]⟩
abbrev S512x64 : Shape := ⟨2, ![512, 64]⟩
abbrev S2048x2 : Shape := ⟨2, ![2048, 2]⟩
abbrev S64x512x1024 : Shape := ⟨3, ![64, 512, 1024]⟩
abbrev S2048x64 : Shape := ⟨2, ![2048, 64]⟩
abbrev S_ : Shape := ⟨0, ![]⟩
abbrev S2048 : Shape := ⟨1, ![2048]⟩
abbrev S2048x1 : Shape := ⟨2, ![2048, 1]⟩
abbrev S2048x512x1024 : Shape := ⟨3, ![2048, 512, 1024]⟩
abbrev S2048x1024 : Shape := ⟨2, ![2048, 1024]⟩

abbrev nBuf : Space → Nat
  | .hbm => 87
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x64, .f32⟩
  | .hbm, ⟨2, _⟩ => ⟨S2048x2, .i32⟩
  | .hbm, ⟨3, _⟩ => ⟨S64x512x1024, .f32⟩
  | .hbm, ⟨4, _⟩ => ⟨S2048x64, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S2048x64, .f32⟩
  | .hbm, ⟨9, _⟩ => ⟨S2048x64, .f32⟩
  | .hbm, ⟨10, _⟩ => ⟨S2048x64, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S2048x64, .f32⟩
  | .hbm, ⟨15, _⟩ => ⟨S2048x64, .f32⟩
  | .hbm, ⟨16, _⟩ => ⟨S2048x1, .i32⟩
  | .hbm, ⟨17, _⟩ => ⟨S2048, .i32⟩
  | .hbm, ⟨18, _⟩ => ⟨S2048x1, .i32⟩
  | .hbm, ⟨19, _⟩ => ⟨S2048, .i32⟩
  | .hbm, ⟨20, _⟩ => ⟨S2048, .i32⟩
  | .hbm, ⟨21, _⟩ => ⟨S_, .i32⟩
  | .hbm, ⟨22, _⟩ => ⟨S2048, .i32⟩
  | .hbm, ⟨23, _⟩ => ⟨S2048, .i1⟩
  | .hbm, ⟨24, _⟩ => ⟨S_, .i32⟩
  | .hbm, ⟨25, _⟩ => ⟨S2048, .i32⟩
  | .hbm, ⟨26, _⟩ => ⟨S2048, .i32⟩
  | .hbm, ⟨27, _⟩ => ⟨S2048, .i32⟩
  | .hbm, ⟨28, _⟩ => ⟨S_, .i32⟩
  | .hbm, ⟨29, _⟩ => ⟨S2048, .i32⟩
  | .hbm, ⟨30, _⟩ => ⟨S2048, .i1⟩
  | .hbm, ⟨31, _⟩ => ⟨S_, .i32⟩
  | .hbm, ⟨32, _⟩ => ⟨S2048, .i32⟩
  | .hbm, ⟨33, _⟩ => ⟨S2048, .i32⟩
  | .hbm, ⟨34, _⟩ => ⟨S2048, .i32⟩
  | .hbm, ⟨35, _⟩ => ⟨S2048x1, .i32⟩
  | .hbm, ⟨36, _⟩ => ⟨S2048x1, .i32⟩
  | .hbm, ⟨37, _⟩ => ⟨S2048x2, .i32⟩
  | .hbm, ⟨38, _⟩ => ⟨S2048, .f32⟩
  | .hbm, ⟨39, _⟩ => ⟨S_, .i32⟩
  | .hbm, ⟨40, _⟩ => ⟨S2048, .i32⟩
  | .hbm, ⟨41, _⟩ => ⟨S2048, .i1⟩
  | .hbm, ⟨42, _⟩ => ⟨S_, .i32⟩
  | .hbm, ⟨43, _⟩ => ⟨S2048, .i32⟩
  | .hbm, ⟨44, _⟩ => ⟨S2048, .i32⟩
  | .hbm, ⟨45, _⟩ => ⟨S2048, .i32⟩
  | .hbm, ⟨46, _⟩ => ⟨S_, .i32⟩
  | .hbm, ⟨47, _⟩ => ⟨S2048, .i32⟩
  | .hbm, ⟨48, _⟩ => ⟨S2048, .i1⟩
  | .hbm, ⟨49, _⟩ => ⟨S_, .i32⟩
  | .hbm, ⟨50, _⟩ => ⟨S2048, .i32⟩
  | .hbm, ⟨51, _⟩ => ⟨S2048, .i32⟩
  | .hbm, ⟨52, _⟩ => ⟨S2048, .i32⟩
  | .hbm, ⟨53, _⟩ => ⟨S2048x1, .i32⟩
  | .hbm, ⟨54, _⟩ => ⟨S2048x1, .i32⟩
  | .hbm, ⟨55, _⟩ => ⟨S2048x2, .i32⟩
  | .hbm, ⟨56, _⟩ => ⟨S2048, .f32⟩
  | .hbm, ⟨57, _⟩ => ⟨S2048, .f32⟩
  | .hbm, ⟨58, _⟩ => ⟨S_, .i32⟩
  | .hbm, ⟨59, _⟩ => ⟨S2048, .i32⟩
  | .hbm, ⟨60, _⟩ => ⟨S2048, .i1⟩
  | .hbm, ⟨61, _⟩ => ⟨S_, .i32⟩
  | .hbm, ⟨62, _⟩ => ⟨S2048, .i32⟩
  | .hbm, ⟨63, _⟩ => ⟨S2048, .i32⟩
  | .hbm, ⟨64, _⟩ => ⟨S2048, .i32⟩
  | .hbm, ⟨65, _⟩ => ⟨S2048x1, .i32⟩
  | .hbm, ⟨66, _⟩ => ⟨S2048x512x1024, .f32⟩
  | .hbm, ⟨67, _⟩ => ⟨S2048x1024, .f32⟩
  | .hbm, ⟨68, _⟩ => ⟨S_, .i32⟩
  | .hbm, ⟨69, _⟩ => ⟨S2048, .i32⟩
  | .hbm, ⟨70, _⟩ => ⟨S2048, .i1⟩
  | .hbm, ⟨71, _⟩ => ⟨S_, .i32⟩
  | .hbm, ⟨72, _⟩ => ⟨S2048, .i32⟩
  | .hbm, ⟨73, _⟩ => ⟨S2048, .i32⟩
  | .hbm, ⟨74, _⟩ => ⟨S2048, .i32⟩
  | .hbm, ⟨75, _⟩ => ⟨S2048x1, .i32⟩
  | .hbm, ⟨76, _⟩ => ⟨S2048x512x1024, .f32⟩
  | .hbm, ⟨77, _⟩ => ⟨S2048x1024, .f32⟩
  | .hbm, ⟨78, _⟩ => ⟨S2048, .f32⟩
  | .hbm, ⟨79, _⟩ => ⟨S2048x1, .f32⟩
  | .hbm, ⟨80, _⟩ => ⟨S2048x1024, .f32⟩
  | .hbm, ⟨81, _⟩ => ⟨S2048x1024, .f32⟩
  | .hbm, ⟨82, _⟩ => ⟨S2048, .f32⟩
  | .hbm, ⟨83, _⟩ => ⟨S2048x1, .f32⟩
  | .hbm, ⟨84, _⟩ => ⟨S2048x1024, .f32⟩
  | .hbm, ⟨85, _⟩ => ⟨S2048x1024, .f32⟩
  | .hbm, ⟨86, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_c_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_8 : Ref sig .tc := ⟨.hbm, 58, rfl⟩
abbrev main_v44 : Ref sig .tc := ⟨.hbm, 59, rfl⟩
abbrev main_v45 : Ref sig .tc := ⟨.hbm, 60, rfl⟩
abbrev main_c_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_10 : Ref sig .tc := ⟨.hbm, 68, rfl⟩
abbrev main_v52 : Ref sig .tc := ⟨.hbm, 69, rfl⟩
abbrev main_v53 : Ref sig .tc := ⟨.hbm, 70, rfl⟩
abbrev main_c_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Proof.Prog.lean ====
/-
# The kernel's body as a list of steps

One device runs the body in a straight line: the entry handshake, the router, then computing chunks of its own
partial product, starting transfers, waiting for transfers, adding what arrived to its accumulator, copying its own
rows out, and at the end waiting for every transfer it started. This module names those steps (`Step`), says what
each one does (`Step.run`), lists them in program order (`steps`), and states that the printed body is their run.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Tactic

@[expose] public section

noncomputable section

namespace Cert.Ring

open Cert.KernelIdeal Cert.KernelIdeal.Gen
open Idealize.ShloMosaic Idealize.ShloMosaic.TcCoe
open Idealize.SL.Sem

variable {F : FTy → Type} [FloatOps F]

/-- The programs of one device. -/
abbrev Code (F : FTy → Type) : Type → Type _ := Prog (TpuEff nD τ sig (Elt F) Λ₀ .tc)

/-! ## Transfers -/

/-- The four families of transfers: reducing to the right and to the left, gathering to the right and to the left. -/
inductive Lane where
  | rsR | rsL | agR | agL
  deriving DecidableEq

/-- How many transfers a family makes per column strip. -/
def Lane.len : Lane → Nat
  | .rsR => 8 | .rsL => 7 | .agR => 8 | .agL => 7

/-- Where a family's send semaphores begin within a strip's semaphores. -/
def Lane.base : Lane → Nat
  | .rsR => 0 | .rsL => 16 | .agR => 30 | .agL => 46

/-- One transfer a device starts: its column strip, its family, its number in the family. -/
structure Flt where
  si : Fin 4
  ln : Lane
  s : Fin ln.len
  deriving DecidableEq

theorem Flt.s_lt (f : Flt) : f.s.val < 8 := by
  obtain ⟨si, ln, s, hs⟩ := f; cases ln <;> simp only [Lane.len] at hs <;> simp only <;> omega

theorem Lane.base_lt (l : Lane) : l.base + 2 * l.len ≤ 60 := by cases l <;> decide

/-- The semaphore a transfer's departure is counted on, at the device that starts it. -/
def semS (f : Flt) : DmaSem sig :=
  ⟨5 + 60 * f.si.val + f.ln.base + f.s.val, by
    have h1 := f.si.isLt; have h2 := f.s.isLt; have h3 := Lane.base_lt f.ln
    show _ < 245; omega⟩
/-- The semaphore a transfer's arrival is counted on, at the device it goes to. -/
def semR (f : Flt) : DmaSem sig :=
  ⟨5 + 60 * f.si.val + f.ln.base + f.ln.len + f.s.val, by
    have h1 := f.si.isLt; have h2 := f.s.isLt; have h3 := Lane.base_lt f.ln
    show _ < 245; omega⟩

/-! ## The buffers -/

abbrev accM : Memref sig .tc .vmem S2048x1024 .f32 := Memref.whole cc0_scratch0
abbrev outM : Memref sig .tc .vmem S2048x1024 .f32 := Memref.whole cc0_stg4_0
abbrev wM : Memref sig .tc .vmem S2048x4 .f32 := Memref.whole cc0_scratch1
abbrev xM : Memref sig .tc .vmem S2048x512 .f32 := Memref.whole cc0_stg0_0

/-- The buffer of a strip that the left neighbour's partial sums land in. -/
def refR (si : Fin 4) : Ref sig .tc := match si with
  | 0 => cc0_scratch2 | 1 => cc0_scratch12 | 2 => cc0_scratch22 | 3 => cc0_scratch32
/-- The buffer of a strip that the right neighbour's partial sums land in. -/
def refL (si : Fin 4) : Ref sig .tc := match si with
  | 0 => cc0_scratch3 | 1 => cc0_scratch13 | 2 => cc0_scratch23 | 3 => cc0_scratch33

def memR (si : Fin 4) : Memref sig .tc .vmem S8x128x256 .f32 := match si with
  | 0 => Memref.whole cc0_scratch2 | 1 => Memref.whole cc0_scratch12
  | 2 => Memref.whole cc0_scratch22 | 3 => Memref.whole cc0_scratch32
def memL (si : Fin 4) : Memref sig .tc .vmem S7x128x256 .f32 := match si with
  | 0 => Memref.whole cc0_scratch3 | 1 => Memref.whole cc0_scratch13
  | 2 => Memref.whole cc0_scratch23 | 3 => Memref.whole cc0_scratch33

theorem inbR (s : Fin 8) : ∀ a, (![s.val, 0, 0] : Fin 3 → Nat) a + S1x128x256.size a ≤ S8x128x256.size a := by
  revert s; decide
theorem inbL (s : Fin 7) : ∀ a, (![s.val, 0, 0] : Fin 3 → Nat) a + S1x128x256.size a ≤ S7x128x256.size a := by
  revert s; decide

/-- The landing slot of number `s` in a buffer of eight, and in a buffer of seven. -/
def slotR (si : Fin 4) (s : Fin 8) : Memref sig .tc .vmem S128x256 .f32 :=
  ((memR si).slice (Rect.unit (s := S8x128x256) ![s.val, 0, 0] S1x128x256.size (inbR s)) (fun _ => rfl)).squeeze
    S128x256 squeezes_S1x128x256_S128x256
def slotL (si : Fin 4) (s : Fin 7) : Memref sig .tc .vmem S128x256 .f32 :=
  ((memL si).slice (Rect.unit (s := S7x128x256) ![s.val, 0, 0] S1x128x256.size (inbL s)) (fun _ => rfl)).squeeze
    S128x256 squeezes_S1x128x256_S128x256

/-- A block of 128 rows and 256 columns fits at these offsets. -/
def Inb (off : Fin 2 → Nat) : Prop := ∀ a, off a + S128x256.size a ≤ S2048x1024.size a

/-- Such a block of the accumulator, of the result. -/
def accAt (off : Fin 2 → Nat) (h : Inb off) : Memref sig .tc .vmem S128x256 .f32 :=
  accM.slice (Rect.unit (s := S2048x1024) off S128x256.size h) (fun _ => rfl)
def outAt (off : Fin 2 → Nat) (h : Inb off) : Memref sig .tc .vmem S128x256 .f32 :=
  outM.slice (Rect.unit (s := S2048x1024) off S128x256.size h) (fun _ => rfl)

/-! ## The offsets, as the kernel computes them -/

/-- The block a transfer leaves from. -/
def srcOff (d : Dev nD) (f : Flt) : Fin 2 → Nat :=
  let r : BitVec 32 := BitVec.ofNat 32 f.s.val
  match f.ln, f.si with
  | .rsR, 0 => k0_off7 d r | .rsR, 1 => k0_off9 d r | .rsR, 2 => k0_off11 d r | .rsR, 3 => k0_off13 d r
  | .rsL, 0 => k0_off8 d r | .rsL, 1 => k0_off10 d r | .rsL, 2 => k0_off12 d r | .rsL, 3 => k0_off14 d r
  | .agR, 0 => k0_off36 d r | .agR, 1 => k0_off39 d r | .agR, 2 => k0_off42 d r | .agR, 3 => k0_off45 d r
  | .agL, 0 => k0_off37 d r | .agL, 1 => k0_off40 d r | .agL, 2 => k0_off43 d r | .agL, 3 => k0_off46 d r

/-- The chunk of rows a transfer leaves from, counted from the device's own. -/
def srcChunk (f : Flt) : Nat := match f.ln with
  | .rsR => 8 - f.s.val | .rsL => 9 + f.s.val | .agR => 16 - f.s.val | .agL => f.s.val

/-- The block of a chunk (counted from the device's own) and a strip. -/
abbrev blk (d : Dev nD) (j : Nat) (si : Fin 4) : Fin 2 → Nat := ![128 * ((d.val + j) % 16), 256 * si.val]

theorem blk_inb (d : Dev nD) (j : Nat) (si : Fin 4) : Inb (blk d j si) := by
  have h := si.isLt
  have h2 : (d.val + j) % 16 < 16 := Nat.mod_lt _ (by decide)
  intro a
  fin_cases a
  · show 128 * ((d.val + j) % 16) + 128 ≤ 2048; omega
  · show 256 * si.val + 256 ≤ 1024; omega

theorem srcOff_rsR : ∀ (d : Dev nD) (si : Fin 4) (s : Fin 8), srcOff d ⟨si, .rsR, s⟩ = blk d (8 - s.val) si := by decide +kernel
theorem srcOff_rsL : ∀ (d : Dev nD) (si : Fin 4) (s : Fin 7), srcOff d ⟨si, .rsL, s⟩ = blk d (9 + s.val) si := by decide +kernel
theorem srcOff_agR : ∀ (d : Dev nD) (si : Fin 4) (s : Fin 8), srcOff d ⟨si, .agR, s⟩ = blk d (16 - s.val) si := by decide +kernel
theorem srcOff_agL : ∀ (d : Dev nD) (si : Fin 4) (s : Fin 7), srcOff d ⟨si, .agL, s⟩ = blk d s.val si := by decide +kernel

theorem srcOff_eq (d : Dev nD) (f : Flt) : srcOff d f = blk d (srcChunk f) f.si := by
  obtain ⟨si, ln, s⟩ := f
  cases ln
  · exact srcOff_rsR d si s
  · exact srcOff_rsL d si s
  · exact srcOff_agR d si s
  · exact srcOff_agL d si s

theorem srcOff_inb (d : Dev nD) (f : Flt) : Inb (srcOff d f) := srcOff_eq d f ▸ blk_inb d _ _

/-- The block what arrived is added to; the device's own block of a strip. -/
def combOffR (d : Dev nD) (si : Fin 4) (s : Fin 8) : Fin 2 → Nat :=
  let r : BitVec 32 := BitVec.ofNat 32 s.val
  match si with
  | 0 => k0_off27 d r | 1 => k0_off29 d r | 2 => k0_off31 d r | 3 => k0_off33 d r
def combOffL (d : Dev nD) (si : Fin 4) (s : Fin 7) : Fin 2 → Nat :=
  let r : BitVec 32 := BitVec.ofNat 32 s.val
  match si with
  | 0 => k0_off28 d r | 1 => k0_off30 d r | 2 => k0_off32 d r | 3 => k0_off34 d r
def ownOff (d : Dev nD) (si : Fin 4) : Fin 2 → Nat := match si with
  | 0 => k0_off35 d | 1 => k0_off38 d | 2 => k0_off41 d | 3 => k0_off44 d

theorem combOffR_eq : ∀ (d : Dev nD) (si : Fin 4) (s : Fin 8), combOffR d si s = blk d (7 - s.val) si := by decide +kernel
theorem combOffL_eq : ∀ (d : Dev nD) (si : Fin 4) (s : Fin 7), combOffL d si s = blk d (10 + s.val) si := by decide +kernel
theorem ownOff_eq : ∀ (d : Dev nD) (si : Fin 4), ownOff d si = blk d 0 si := by decide +kernel

theorem combOffR_inb (d : Dev nD) (si : Fin 4) (s : Fin 8) : Inb (combOffR d si s) := combOffR_eq d si s ▸ blk_inb d _ _
theorem combOffL_inb (d : Dev nD) (si : Fin 4) (s : Fin 7) : Inb (combOffL d si s) := combOffL_eq d si s ▸ blk_inb d _ _
theorem ownOff_inb (d : Dev nD) (si : Fin 4) : Inb (ownOff d si) := ownOff_eq d si ▸ blk_inb d _ _

/-- The neighbour a family's transfers go to, as the kernel computes it. -/
def peer (d : Dev nD) : Lane → Dev nD
  | .rsR | .agR => ⟨k0_dev3 d, k0_dev3_lt d⟩
  | .rsL | .agL => ⟨k0_dev4 d, k0_dev4_lt d⟩

/-! ## The primitives -/

/-- Start one transfer. -/
def sendP (src dst : Memref sig .tc .vmem S128x256 .f32) (sS sR : DmaSem sig) (n : Dev nD) : Code F PUnit :=
  Prog.lift (.enqueueDma src (.remote (Dev.tc n) dst (.dma sS)) (.dma sR) (View.wordExact_bits rfl) (View.wordExact_bits rfl)
    ⟨⟨rfl, Or.inl rfl⟩, trivial⟩)

/-- Wait until one transfer is counted. -/
def waitP (src dst : Memref sig .tc .vmem S128x256 .f32) (sm : DmaSem sig) : Code F PUnit :=
  Prog.lift (.waitDma2 sm src dst (View.wordExact_bits rfl) (View.wordExact_bits rfl))

/-- Add the block that arrived to the accumulator's. The accumulator's block is loaded once more before it is
    stored; that value is not used. -/
def combR (d : Dev nD) (si : Fin 4) (s : Fin 8) : Code F PUnit := do
  let a : Vec F S128x256 .f32 ← Prog.lift (.load accM (Rect.unit (s := S2048x1024) (combOffR d si s) S128x256.size (combOffR_inb d si s)).toLoadRect (View.loadsAt_vmem h_S128x256))
  let b : Vec F S1x128x256 .f32 ← Prog.lift (.load (memR si) (Rect.unit (s := S8x128x256) ![s.val, 0, 0] S1x128x256.size (inbR s)).toLoadRect (View.loadsAt_vmem h_S1x128x256))
  let _ : Vec F S128x256 .f32 ← Prog.lift (.load accM (Rect.unit (s := S2048x1024) (combOffR d si s) S128x256.size (combOffR_inb d si s)).toLoadRect (View.loadsAt_vmem h_S128x256))
  Prog.lift (.store accM (Rect.unit (s := S2048x1024) (combOffR d si s) S128x256.size (combOffR_inb d si s)) (k0_pay24 a b) Finset.univ (View.stores_vmem_bits_univ h_S128x256 rfl) (.inl rfl))
def combL (d : Dev nD) (si : Fin 4) (s : Fin 7) : Code F PUnit := do
  let a : Vec F S128x256 .f32 ← Prog.lift (.load accM (Rect.unit (s := S2048x1024) (combOffL d si s) S128x256.size (combOffL_inb d si s)).toLoadRect (View.loadsAt_vmem h_S128x256))
  let b : Vec F S1x128x256 .f32 ← Prog.lift (.load (memL si) (Rect.unit (s := S7x128x256) ![s.val, 0, 0] S1x128x256.size (inbL s)).toLoadRect (View.loadsAt_vmem h_S1x128x256))
  let _ : Vec F S128x256 .f32 ← Prog.lift (.load accM (Rect.unit (s := S2048x1024) (combOffL d si s) S128x256.size (combOffL_inb d si s)).toLoadRect (View.loadsAt_vmem h_S128x256))
  Prog.lift (.store accM (Rect.unit (s := S2048x1024) (combOffL d si s) S128x256.size (combOffL_inb d si s)) (k0_pay24 a b) Finset.univ (View.stores_vmem_bits_univ h_S128x256 rfl) (.inl rfl))

/-- Copy the device's own block of a strip from the accumulator to the result. -/
def ownP (d : Dev nD) (si : Fin 4) : Code F PUnit := do
  let a : Vec F S128x256 .f32 ← Prog.lift (.load accM (Rect.unit (s := S2048x1024) (ownOff d si) S128x256.size (ownOff_inb d si)).toLoadRect (View.loadsAt_vmem h_S128x256))
  let _ : Vec F S128x256 .f32 ← Prog.lift (.load outM (Rect.unit (s := S2048x1024) (ownOff d si) S128x256.size (ownOff_inb d si)).toLoadRect (View.loadsAt_vmem h_S128x256))
  Prog.lift (.store outM (Rect.unit (s := S2048x1024) (ownOff d si) S128x256.size (ownOff_inb d si)) a Finset.univ (View.stores_vmem_bits_univ h_S128x256 rfl) (.inl rfl))

/-- Compute one chunk of the device's partial product, from its rows of `x` and of the weights and from the four
    experts' matrices `E`. -/
def compP (E : FVec F S2048x1024 .f32) (ox o0 o1 o2 o3 oa : Fin 2 → Nat)
    (hx : ∀ a, ox a + S128x512.size a ≤ S2048x512.size a) (h0 : ∀ a, o0 a + S128x1.size a ≤ S2048x4.size a)
    (h1 : ∀ a, o1 a + S128x1.size a ≤ S2048x4.size a) (h2 : ∀ a, o2 a + S128x1.size a ≤ S2048x4.size a)
    (h3 : ∀ a, o3 a + S128x1.size a ≤ S2048x4.size a) (ha : ∀ a, oa a + S128x1024.size a ≤ S2048x1024.size a) : Code F PUnit := do
  let x : Vec F S128x512 .f32 ← Prog.lift (.load xM (Rect.unit (s := S2048x512) ox S128x512.size hx).toLoadRect (View.loadsAt_vmem h_S128x512))
  let w0 : Vec F S128x1 .f32 ← Prog.lift (.load wM (Rect.unit (s := S2048x4) o0 S128x1.size h0).toLoadRect (View.loadsAt_vmem h_S128x1))
  let w1 : Vec F S128x1 .f32 ← Prog.lift (.load wM (Rect.unit (s := S2048x4) o1 S128x1.size h1).toLoadRect (View.loadsAt_vmem h_S128x1))
  let w2 : Vec F S128x1 .f32 ← Prog.lift (.load wM (Rect.unit (s := S2048x4) o2 S128x1.size h2).toLoadRect (View.loadsAt_vmem h_S128x1))
  let w3 : Vec F S128x1 .f32 ← Prog.lift (.load wM (Rect.unit (s := S2048x4) o3 S128x1.size h3).toLoadRect (View.loadsAt_vmem h_S128x1))
  let _ : Vec F S128x1024 .f32 ← Prog.lift (.load accM (Rect.unit (s := S2048x1024) oa S128x1024.size ha).toLoadRect (View.loadsAt_vmem h_S128x1024))
  Prog.lift (.store accM (Rect.unit (s := S2048x1024) oa S128x1024.size ha) (k0_pay14 E x w0 w1 w2 w3) Finset.univ (View.stores_vmem_bits_univ h_S128x1024 rfl) (.inl rfl))

/-! ## The steps -/

/-- The chunks are computed in three groups: the two the first transfers leave from, then in each round one for the
    transfer to the right and one for the transfer to the left. -/
inductive Grp where
  | first (r : Fin 2) | right (r : Fin 7) | left (r : Fin 7)
  deriving DecidableEq

/-- The chunk a group's member computes, counted from the device's own. -/
def Grp.chunk : Grp → Nat
  | .first r => 8 + r.val | .right r => 7 - r.val | .left r => 10 + r.val

inductive Step where
  | comp (g : Grp)
  | send (f : Flt)
  | recv (f : Flt)
  | addR (si : Fin 4) (s : Fin 8)
  | addL (si : Fin 4) (s : Fin 7)
  | own (si : Fin 4)
  | sent (f : Flt)
  deriving DecidableEq

/-- The block a transfer leaves from, at the device that starts it. -/
def srcM (d : Dev nD) (f : Flt) : Memref sig .tc .vmem S128x256 .f32 := match f with
  | ⟨si, .rsR, s⟩ => accAt (srcOff d ⟨si, .rsR, s⟩) (srcOff_inb d _)
  | ⟨si, .rsL, s⟩ => accAt (srcOff d ⟨si, .rsL, s⟩) (srcOff_inb d _)
  | ⟨si, .agR, s⟩ => outAt (srcOff d ⟨si, .agR, s⟩) (srcOff_inb d _)
  | ⟨si, .agL, s⟩ => outAt (srcOff d ⟨si, .agL, s⟩) (srcOff_inb d _)

/-- The block a transfer lands in, at the device it goes to: a landing slot, or the same rows of the result. -/
def dstM (d : Dev nD) (f : Flt) : Memref sig .tc .vmem S128x256 .f32 := match f with
  | ⟨si, .rsR, s⟩ => slotR si s
  | ⟨si, .rsL, s⟩ => slotL si s
  | ⟨si, .agR, s⟩ => outAt (srcOff d ⟨si, .agR, s⟩) (srcOff_inb d _)
  | ⟨si, .agL, s⟩ => outAt (srcOff d ⟨si, .agL, s⟩) (srcOff_inb d _)

def Step.run (d : Dev nD) (E : FVec F S2048x1024 .f32) : Step → Code F PUnit
  | .comp (.first r) => compP E (k0_off1 d (BitVec.ofNat 32 (8 + r.val))) (k0_off2 d (BitVec.ofNat 32 (8 + r.val))) (k0_off3 d (BitVec.ofNat 32 (8 + r.val))) (k0_off4 d (BitVec.ofNat 32 (8 + r.val))) (k0_off5 d (BitVec.ofNat 32 (8 + r.val))) (k0_off6 d (BitVec.ofNat 32 (8 + r.val)))
      (k0_off1_inb d r) (k0_off2_inb d r) (k0_off3_inb d r) (k0_off4_inb d r) (k0_off5_inb d r) (k0_off6_inb d r)
  | .comp (.right r) => compP E (k0_off15 d (BitVec.ofNat 32 r.val)) (k0_off16 d (BitVec.ofNat 32 r.val)) (k0_off17 d (BitVec.ofNat 32 r.val)) (k0_off18 d (BitVec.ofNat 32 r.val)) (k0_off19 d (BitVec.ofNat 32 r.val)) (k0_off20 d (BitVec.ofNat 32 r.val))
      (k0_off15_inb d r) (k0_off16_inb d r) (k0_off17_inb d r) (k0_off18_inb d r) (k0_off19_inb d r) (k0_off20_inb d r)
  | .comp (.left r) => compP E (k0_off21 d (BitVec.ofNat 32 r.val)) (k0_off22 d (BitVec.ofNat 32 r.val)) (k0_off23 d (BitVec.ofNat 32 r.val)) (k0_off24 d (BitVec.ofNat 32 r.val)) (k0_off25 d (BitVec.ofNat 32 r.val)) (k0_off26 d (BitVec.ofNat 32 r.val))
      (k0_off21_inb d r) (k0_off22_inb d r) (k0_off23_inb d r) (k0_off24_inb d r) (k0_off25_inb d r) (k0_off26_inb d r)
  | .send f => sendP (srcM d f) (dstM d f) (semS f) (semR f) (peer d f.ln)
  | .recv f => waitP (srcM d f) (dstM d f) (semR f)
  | .addR si s => combR d si s
  | .addL si s => combL d si s
  | .own si => ownP d si
  | .sent f => waitP (dstM d f) (srcM d f) (semS f)

def runAll (d : Dev nD) (E : FVec F S2048x1024 .f32) : List Step → Code F PUnit
  | [] => pure ⟨⟩
  | st :: l => do st.run d E; runAll d E l

/-- The four strips, in order. -/
def strips : List (Fin 4) := [0, 1, 2, 3]
/-- The first seven rounds. -/
def rounds : List (Fin 7) := [0, 1, 2, 3, 4, 5, 6]
/-- A round that has a next one. -/
def up (r : Fin 7) : Fin 8 := ⟨r.val + 1, by omega⟩
def same (r : Fin 7) : Fin 8 := ⟨r.val, by omega⟩

/-- Both transfers of number `r`, to the right and to the left. -/
def pair (ag : Bool) (si : Fin 4) (r : Fin 7) : List Flt := match ag with
  | false => [⟨si, .rsR, same r⟩, ⟨si, .rsL, r⟩]
  | true => [⟨si, .agR, same r⟩, ⟨si, .agL, r⟩]

/-- What starts the next transfer to the left, if there is one. -/
def nextL (ln : Lane) (h : ln.len = 7) (si : Fin 4) (r : Fin 7) : List Step :=
  if hr : r.val + 1 < 7 then [.send ⟨si, ln, ⟨r.val + 1, by omega⟩⟩] else []

/-- A round of the reduction on one strip. -/
def reduce (r : Fin 7) (si : Fin 4) : List Step :=
  [.recv ⟨si, .rsR, same r⟩, .addR si (same r), .send ⟨si, .rsR, up r⟩, .recv ⟨si, .rsL, r⟩, .addL si r] ++ nextL .rsL rfl si r
/-- The reduction's last round on one strip: the device's own block is then complete and its gathering starts. -/
def lastReduce (si : Fin 4) : List Step :=
  [.recv ⟨si, .rsR, (7 : Fin 8)⟩, .addR si 7, .own si, .send ⟨si, .agR, (0 : Fin 8)⟩, .send ⟨si, .agL, (0 : Fin 7)⟩]
/-- A round of the gathering on one strip. -/
def gather (r : Fin 7) (si : Fin 4) : List Step :=
  [.recv ⟨si, .agR, same r⟩, .send ⟨si, .agR, up r⟩, .recv ⟨si, .agL, r⟩] ++ nextL .agL rfl si r

/-- The transfers, in the order they are started. -/
def started : List Flt :=
  (rounds.flatMap fun r => strips.flatMap fun si => pair false si r) ++ (strips.map fun si => ⟨si, .rsR, (7 : Fin 8)⟩)
    ++ (rounds.flatMap fun r => strips.flatMap fun si => pair true si r) ++ (strips.map fun si => ⟨si, .agR, (7 : Fin 8)⟩)

/-- The steps of a device, in program order. -/
def steps : List Step :=
  [.comp (.first 0), .comp (.first 1)] ++ (strips.flatMap fun si => (pair false si 0).map .send)
    ++ (rounds.flatMap fun r => [.comp (.right r), .comp (.left r)] ++ strips.flatMap (reduce r))
    ++ strips.flatMap lastReduce
    ++ (rounds.flatMap fun r => strips.flatMap (gather r))
    ++ (strips.map fun si => .recv ⟨si, .agR, (7 : Fin 8)⟩)
    ++ started.map .sent

/-! ## The whole body -/

/-- The barrier semaphore of the runtime. -/
def barS : Sem sig := (SemArray.scalar (sig.barrier 0 rfl) : Sems sig S_).sem

/-- The number of the device along the mesh, as the kernel computes it. -/
def myW (d : Dev nD) : BitVec 32 := Scalar.remsi (Scalar.divsi (Dev.word d) 1#32) 16#32

/-- The weights of the device's four experts, one column each. -/
def wcol (d : Dev nD) (p : FVec F S2048x64 .f32) (i : Vec F S2048x2 .i32) : Fin 4 → FVec F S2048x1 .f32
  | 0 => k0_pay8 (myW d) p (k0_pay2 i) (k0_pay3 i)
  | 1 => k0_pay10 (k0_pay9 (myW d) p (k0_pay2 i) (k0_pay3 i))
  | 2 => k0_pay11 (myW d) (k0_pay3 i) (k0_pay4 (k0_pay2 i)) (k0_pay5 p (k0_pay3 i)) (k0_pay6 p (k0_pay2 i)) (k0_pay7 p (k0_pay2 i) (k0_pay3 i))
  | 3 => k0_pay12 (myW d) (k0_pay3 i) (k0_pay4 (k0_pay2 i)) (k0_pay5 p (k0_pay3 i)) (k0_pay6 p (k0_pay2 i)) (k0_pay7 p (k0_pay2 i) (k0_pay3 i))

theorem inbW (e : Fin 4) : ∀ a, (![0, e.val] : Fin 2 → Nat) a + S2048x1.size a ≤ S2048x4.size a := by
  revert e; decide

/-- Store the weights of one expert. -/
def wstore (d : Dev nD) (p : FVec F S2048x64 .f32) (i : Vec F S2048x2 .i32) (e : Fin 4) : Code F PUnit := do
  let _ : Vec F S2048x1 .f32 ← Prog.lift (.load wM (Rect.unit (s := S2048x4) ![0, e.val] S2048x1.size (inbW e)).toLoadRect (View.loadsAt_vmem h_S2048x1))
  Prog.lift (.store wM (Rect.unit (s := S2048x4) ![0, e.val] S2048x1.size (inbW e)) (wcol d p i e) Finset.univ (View.stores_vmem_bits_univ h_S2048x1 rfl) (.inl rfl))

/-- The handshake: tell both neighbours the device has entered, and wait until both have told it. -/
def handshake (d : Dev nD) : Code F PUnit := do
  semSignalWord (⟨k0_dev1 d, k0_dev1_lt d⟩ : Dev nD) barS 1#32
  semSignalWord (⟨k0_dev2 d, k0_dev2_lt d⟩ : Dev nD) barS 1#32
  semWaitWord barS 2#32

/-- The body, as steps. -/
def body : Code F PUnit := do
  let d ← Prog.lift .deviceId
  handshake d
  let x : Vec F S2048x512 .f32 ← Prog.lift (.load xM (Rect.unit (s := S2048x512) ![0, 0] S2048x512.size inb_S2048x512_S2048x512_0_0).toLoadRect (View.loadsAt_vmem h_S2048x512))
  let g : Vec F S512x64 .f32 ← Prog.lift (.load (Memref.whole cc0_stg1_0) (Rect.unit (s := S512x64) ![0, 0] S512x64.size inb_S512x64_S512x64_0_0).toLoadRect (View.loadsAt_vmem h_S512x64))
  let i : Vec F S2048x2 .i32 ← Prog.lift (.load (Memref.whole cc0_stg2_0) (Rect.unit (s := S2048x2) ![0, 0] S2048x2.size inb_S2048x2_S2048x2_0_0).toLoadRect (View.loadsAt_vmem h_S2048x2))
  wstore d (k0_pay1 x g) i 0
  wstore d (k0_pay1 x g) i 1
  wstore d (k0_pay1 x g) i 2
  wstore d (k0_pay1 x g) i 3
  let e : Vec F S4x512x1024 .f32 ← Prog.lift (.load (Memref.whole cc0_stg3_0) (Rect.unit (s := S4x512x1024) ![0, 0, 0] S4x512x1024.size inb_S4x512x1024_S4x512x1024_0_0_0).toLoadRect (View.loadsAt_vmem h_S4x512x1024))
  runAll d (k0_pay13 e) steps

set_option maxRecDepth 100000 in
/-- The printed body is the run of its steps. -/
theorem printed_body : cc0_body (F := F)
    (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7
    cc0_scratch8 cc0_scratch9 cc0_scratch10 cc0_scratch11 (Memref.whole cc0_scratch12) (Memref.isWhole_whole _)
    (Memref.whole cc0_scratch13) (Memref.isWhole_whole _) cc0_scratch14 cc0_scratch15 cc0_scratch16 cc0_scratch17
    cc0_scratch18 cc0_scratch19 cc0_scratch20 cc0_scratch21 (Memref.whole cc0_scratch22) (Memref.isWhole_whole _)
    (Memref.whole cc0_scratch23) (Memref.isWhole_whole _) cc0_scratch24 cc0_scratch25 cc0_scratch26 cc0_scratch27
    cc0_scratch28 cc0_scratch29 cc0_scratch30 cc0_scratch31 (Memref.whole cc0_scratch32) (Memref.isWhole_whole _)
    (Memref.whole cc0_scratch33) (Memref.isWhole_whole _) cc0_scratch34 cc0_scratch35 cc0_scratch36 cc0_scratch37
    cc0_scratch38 cc0_scratch39 cc0_scratch40 cc0_scratch41 = body (F := F) := by
  sl_kernel_rfl

end Cert.Ring
-- ==== Proof.Sched.lean ====
/-
# What is handed over, and when

The semaphores' cells, the contents every block holds at each point, the schedule of what each counted signal or
transfer hands over, what each device owes at launch, and the order in which waiting is allowed.
-/
module

public import proofs.«01_k».proof.Proof.Prog
public import Idealize.ShloMosaic.Lib.Pipeline.Launch
public import Idealize.ShloMosaic.Lib.Pipeline.Kit

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

set_option backward.proofsInPublic true in
def nxt (c : Dev nD) : Dev nD := ⟨(c.val + 1) % 16, Nat.mod_lt _ (by decide)⟩
set_option backward.proofsInPublic true in
def prv (c : Dev nD) : Dev nD := ⟨(c.val + 15) % 16, Nat.mod_lt _ (by decide)⟩

theorem prv_nxt : ∀ c : Dev nD, prv (nxt c) = c := by decide
theorem nxt_prv : ∀ c : Dev nD, nxt (prv c) = c := by decide

theorem dev1_eq (c : Dev nD) : (⟨k0_dev1 c, k0_dev1_lt c⟩ : Dev nD) = prv c :=
  Fin.ext ((k0_dev1_eq c).trans (by show (c.val + 63) % 16 = (c.val + 15) % 16; omega))
theorem dev2_eq (c : Dev nD) : (⟨k0_dev2 c, k0_dev2_lt c⟩ : Dev nD) = nxt c :=
  Fin.ext ((k0_dev2_eq c).trans (by show (c.val + 65) % 16 = (c.val + 1) % 16; omega))

/-- The neighbour a family's transfers go to, and the one they come from. -/
def dest (c : Dev nD) : Lane → Dev nD
  | .rsR | .agR => nxt c
  | .rsL | .agL => prv c
def orig (c : Dev nD) : Lane → Dev nD
  | .rsR | .agR => prv c
  | .rsL | .agL => nxt c

theorem peer_eq (c : Dev nD) (l : Lane) : peer c l = dest c l := by
  have h3 := k0_dev3_eq c
  have h4 := k0_dev4_eq c
  cases l
  · exact Fin.ext (h3.trans (by show (c.val + 65) % 16 = (c.val + 1) % 16; omega))
  · exact Fin.ext (h4.trans (by show (c.val + 63) % 16 = (c.val + 15) % 16; omega))
  · exact Fin.ext (h3.trans (by show (c.val + 65) % 16 = (c.val + 1) % 16; omega))
  · exact Fin.ext (h4.trans (by show (c.val + 63) % 16 = (c.val + 15) % 16; omega))

theorem orig_dest (c : Dev nD) (l : Lane) : orig (dest c l) l = c := by
  cases l <;> first | exact prv_nxt c | exact nxt_prv c
theorem dest_orig (c : Dev nD) (l : Lane) : dest (orig c l) l = c := by
  cases l <;> first | exact prv_nxt c | exact nxt_prv c

def turn (l : Lane) : Dev nD ≃ Dev nD := ⟨(dest · l), (orig · l), (orig_dest · l), (dest_orig · l)⟩

/-! ## The transfers and the cells, counted -/

instance : Fintype Lane := ⟨{.rsR, .rsL, .agR, .agL}, fun x => by cases x <;> decide⟩

def fltEquiv : (Fin 4 × (Σ l : Lane, Fin l.len)) ≃ Flt where
  toFun p := ⟨p.1, p.2.1, p.2.2⟩
  invFun f := ⟨f.si, f.ln, f.s⟩
  left_inv _ := rfl
  right_inv _ := rfl
instance : Fintype Flt := Fintype.ofEquiv _ fltEquiv

theorem started_nodup : started.Nodup := by decide +kernel
theorem mem_started' : ∀ (si : Fin 4) (l : Lane) (s : Fin l.len), (⟨si, l, s⟩ : Flt) ∈ started := by
  intro si l
  cases l
  · revert si; decide +kernel
  · revert si; decide +kernel
  · revert si; decide +kernel
  · revert si; decide +kernel
theorem mem_started (f : Flt) : f ∈ started := mem_started' f.si f.ln f.s

/-- The semaphores: the runtime's, and each transfer's two. -/
abbrev Cx : Type := Option (Flt × Bool)
def csem : Cx → SemLoc sig
  | none => .reg barS
  | some (f, false) => .dma (semS f)
  | some (f, true) => .dma (semR f)

theorem codes_nodup : (started.map (fun f => (semS f).val) ++ started.map (fun f => (semR f).val)).Nodup := by decide +kernel

theorem semS_inj {f g : Flt} (h : semS f = semS g) : f = g :=
  List.inj_on_of_nodup_map (List.nodup_append.mp codes_nodup).1 (mem_started f) (mem_started g) (congrArg Fin.val h)
theorem semR_inj {f g : Flt} (h : semR f = semR g) : f = g :=
  List.inj_on_of_nodup_map (List.nodup_append.mp codes_nodup).2.1 (mem_started f) (mem_started g) (congrArg Fin.val h)
theorem semS_ne_semR (f g : Flt) : semS f ≠ semR g := fun h =>
  (List.nodup_append.mp codes_nodup).2.2 _ (List.mem_map_of_mem (mem_started f)) _ (List.mem_map_of_mem (mem_started g)) (congrArg Fin.val h)

theorem csem_inj : Function.Injective csem := by
  intro x y h
  match x, y, h with
  | none, none, _ => rfl
  | none, some (_, false), h => cases h
  | none, some (_, true), h => cases h
  | some (_, false), none, h => cases h
  | some (_, true), none, h => cases h
  | some (f, false), some (g, false), h => rw [semS_inj (SemLoc.dma.inj h)]
  | some (f, true), some (g, true), h => rw [semR_inj (SemLoc.dma.inj h)]
  | some (f, false), some (g, true), h => exact absurd (SemLoc.dma.inj h) (semS_ne_semR f g)
  | some (f, true), some (g, false), h => exact absurd (SemLoc.dma.inj h).symm (semS_ne_semR g f)

abbrev kcell (ck : Dev nD × Cx) : GSem nD τ sig := ((ck.1 : Thread nD τ), csem ck.2)
abbrev barCell (c : Dev nD) : GSem nD τ sig := ((c : Thread nD τ), .reg barS)
abbrev sendCell (c : Dev nD) (f : Flt) : GSem nD τ sig := ((c : Thread nD τ), .dma (semS f))
abbrev recvCell (c : Dev nD) (f : Flt) : GSem nD τ sig := ((c : Thread nD τ), .dma (semR f))

theorem kcell_injective : Function.Injective kcell := by
  rintro ⟨c, k⟩ ⟨c', k'⟩ h
  have h1 : c = c' := congrArg (fun g : GSem nD τ sig => g.1.1) h
  subst h1
  exact congrArg (Prod.mk c) (csem_inj (congrArg Prod.snd h : csem k = csem k'))

open Classical in
/-- Which of the cells a semaphore of a thread is, if any. -/
def cx (g : GSem nD τ sig) : Option (Dev nD × Cx) := if h : ∃ ck, kcell ck = g then some h.choose else none

theorem cx_kcell (ck : Dev nD × Cx) : cx (kcell ck) = some ck := by
  have h : ∃ ck', kcell ck' = kcell ck := ⟨ck, rfl⟩
  unfold cx
  rw [dif_pos h, kcell_injective h.choose_spec]

theorem cx_bar (c : Dev nD) : cx (barCell c) = some (c, none) := cx_kcell (c, none)
theorem cx_send (c : Dev nD) (f : Flt) : cx (sendCell c f) = some (c, some (f, false)) := cx_kcell (c, some (f, false))
theorem cx_recv (c : Dev nD) (f : Flt) : cx (recvCell c f) = some (c, some (f, true)) := cx_kcell (c, some (f, true))

/-! ## Contents -/

/-- What a device computes from: `x`, the weights of its experts, its experts' matrices. -/
structure Data (F : FTy → Type) where
  x : Dev nD → Vec F S2048x512 .f32
  w : Dev nD → Vec F S2048x4 .f32
  e : Dev nD → FVec F S2048x1024 .f32

/-- The chunk of number `j`, counted from device `c`'s own. -/
abbrev ch (c : Dev nD) (j : Nat) : Fin 16 := ⟨(c.val + j) % 16, Nat.mod_lt _ (by decide)⟩

theorem inbX (k : Fin 16) : ∀ a, (![128 * k.val, 0] : Fin 2 → Nat) a + S128x512.size a ≤ S2048x512.size a := by
  have h2 := k.isLt
  intro a; fin_cases a
  · show 128 * k.val + 128 ≤ 2048; omega
  · show 0 + 512 ≤ 512; omega
theorem inbC (k : Fin 16) (e : Fin 4) : ∀ a, (![128 * k.val, e.val] : Fin 2 → Nat) a + S128x1.size a ≤ S2048x4.size a := by
  have h2 := k.isLt
  have h3 := e.isLt
  intro a; fin_cases a
  · show 128 * k.val + 128 ≤ 2048; omega
  · show e.val + 1 ≤ 4; omega
theorem inbA (k : Fin 16) : ∀ a, (![128 * k.val, 0] : Fin 2 → Nat) a + S128x1024.size a ≤ S2048x1024.size a := by
  have h2 := k.isLt
  intro a; fin_cases a
  · show 128 * k.val + 128 ≤ 2048; omega
  · show 0 + 1024 ≤ 1024; omega
theorem inbS (si : Fin 4) : ∀ a, (![0, 256 * si.val] : Fin 2 → Nat) a + S128x256.size a ≤ S128x1024.size a := by
  have h3 := si.isLt
  intro a; fin_cases a
  · show 0 + 128 ≤ 128; omega
  · show 256 * si.val + 256 ≤ 1024; omega

abbrev rectX (k : Fin 16) : Rect S2048x512 := Rect.unit (s := S2048x512) ![128 * k.val, 0] S128x512.size (inbX k)
abbrev rectC (k : Fin 16) (e : Fin 4) : Rect S2048x4 := Rect.unit (s := S2048x4) ![128 * k.val, e.val] S128x1.size (inbC k e)
abbrev rectA (k : Fin 16) : Rect S2048x1024 := Rect.unit (s := S2048x1024) ![128 * k.val, 0] S128x1024.size (inbA k)
abbrev rectS (si : Fin 4) : Rect S128x1024 := Rect.unit (s := S128x1024) ![0, 256 * si.val] S128x256.size (inbS si)

variable (V : Data F)

/-- A device's own product on chunk `k` of the rows. -/
def rowC (c : Dev nD) (k : Fin 16) : FVec F S128x1024 .f32 :=
  k0_pay14 (V.e c) (fun i => V.x c ((rectX k).emb i)) (fun i => V.w c ((rectC k 0).emb i)) (fun i => V.w c ((rectC k 1).emb i))
    (fun i => V.w c ((rectC k 2).emb i)) (fun i => V.w c ((rectC k 3).emb i))

/-- One strip of it, the chunk counted from the device's own. -/
def partB (c : Dev nD) (j : Nat) (si : Fin 4) : FVec F S128x256 .f32 := fun i => rowC V c (ch c j) ((rectS si).emb i)

def addB (a b : FVec F S128x256 .f32) : FVec F S128x256 .f32 := fun i => FloatOps.addf (a i) (b i)

/-- What device `c` sends to the right with number `s`: its own product and those of the `s` devices before it. -/
def accR (si : Fin 4) : Nat → Dev nD → FVec F S128x256 .f32
  | 0, c => partB V c 8 si
  | s + 1, c => addB (partB V c (7 - s) si) (accR si s (prv c))
/-- What device `c` sends to the left with number `s`: its own product and those of the `s` devices after it. -/
def accL (si : Fin 4) : Nat → Dev nD → FVec F S128x256 .f32
  | 0, c => partB V c 9 si
  | s + 1, c => addB (partB V c (10 + s) si) (accL si s (nxt c))

/-- The sum over all devices, on device `c`'s own chunk. -/
def fin (c : Dev nD) (si : Fin 4) : FVec F S128x256 .f32 := addB (accL V si 7 c) (accR V si 7 (prv c))

/-- What a device's accumulator holds on chunk `j` after `v` additions. -/
def accV (c : Dev nD) (j : Nat) (si : Fin 4) : Fin 3 → FVec F S128x256 .f32
  | 0 => partB V c j si
  | 1 => if j = 0 then accL V si 7 c else if j ≤ 8 then accR V si (8 - j) c else accL V si (j - 9) c
  | 2 => fin V c si

/-- What a transfer carries, from the device that starts it. -/
def carried (c : Dev nD) (f : Flt) : FVec F S128x256 .f32 := match f.ln with
  | .rsR => accR V f.si f.s.val c
  | .rsL => accL V f.si f.s.val c
  | .agR => fin V ⟨(c.val + (16 - f.s.val)) % 16, Nat.mod_lt _ (by decide)⟩ f.si
  | .agL => fin V ⟨(c.val + f.s.val) % 16, Nat.mod_lt _ (by decide)⟩ f.si

/-! ## Blocks -/

theorem accAt_congr {o o' : Fin 2 → Nat} (e : o = o') (h : Inb o) (h' : Inb o') : accAt o h = accAt o' h' := by subst e; rfl
theorem outAt_congr {o o' : Fin 2 → Nat} (e : o = o') (h : Inb o) (h' : Inb o') : outAt o h = outAt o' h' := by subst e; rfl

abbrev accB (c : Dev nD) (j : Nat) (si : Fin 4) := accAt (blk c j si) (blk_inb c j si)
abbrev outB (c : Dev nD) (j : Nat) (si : Fin 4) := outAt (blk c j si) (blk_inb c j si)

/-- Device `c` holds a block, reading `X`. -/
abbrev has (c : Dev nD) (m : Memref sig .tc .vmem S128x256 .f32) (q : PosShare TreeShare) (X : FVec F S128x256 .f32) : sProp 𝕄 :=
  owns (Ix := Unit) (Name := ℕ) (U := UU) (Lvl := ℕ) (c : Thread nD τ) m q X
/-- Device `c` holds a block, whatever it reads. -/
def raw (c : Dev nD) (m : Memref sig .tc .vmem S128x256 .f32) : sProp 𝕄 :=
  iprop(∃ f : Buf (Elt F) (m.view.loc (c : Thread nD τ)), m.view.loc (c : Thread nD τ) ↦[m.view.set]{fullShare} f)

omit [FloatOps F] in
instance raw_storable (c : Dev nD) (m) : BI.Storable (upEmb : UEmb _ 𝕄) (raw (F := F) c m) := by unfold raw; infer_instance

/-- The two shares the device's own block of the result is sent under, to the right and to the left. -/
def half (b : Bool) : PosShare TreeShare := if b then fullShare.right else fullShare.left

def shr (f : Flt) : PosShare TreeShare := match f.ln with
  | .rsR | .rsL => fullShare
  | .agR => if f.s.val = 0 then half false else fullShare
  | .agL => if f.s.val = 0 then half true else fullShare

/-- A transfer's source, held by the device that starts it; its destination, held by the device it goes to. -/
def srcPay (c : Dev nD) (f : Flt) : sProp 𝕄 := has c (srcM c f) (shr f) (carried V c f)
def dstPay (c : Dev nD) (f : Flt) : sProp 𝕄 := has c (dstM (orig c f.ln) f) fullShare (carried V (orig c f.ln) f)
/-- A transfer's destination before it lands. -/
def land (c : Dev nD) (f : Flt) : sProp 𝕄 := raw c (dstM (orig c f.ln) f)

/-! ## The schedule -/

/-- The transfers to the right (`true`) and to the left. -/
def toward : Bool → List Flt
  | true => started.filter fun f => f.ln = .rsR || f.ln = .agR
  | false => started.filter fun f => f.ln = .rsL || f.ln = .agL

/-- What a neighbour's signal hands over: that neighbour's destinations of the device's transfers to it. -/
def barPay (c : Dev nD) (d : Bool) : sProp 𝕄 := bigSepL (toward d) fun f => land (F := F) (dest c f.ln) f

abbrev N : ℕ := (slotR 0 0 : Memref sig .tc .vmem S128x256 .f32).view.dmaCredit
theorem N_pos : 0 < N := View.dmaCredit_pos _ (by decide)

def payX (V : Data F) : Option (Dev nD × Cx) → Bool → sProp 𝕄
  | some (c, none), d => barPay c d
  | some (c, some (f, false)), _ => srcPay V c f
  | some (c, some (f, true)), _ => dstPay V c f
  | none, _ => iprop(emp)

def dutyX : Option (Dev nD × Cx) → Finset Bool
  | some (_, none) => Finset.univ
  | some (_, some _) => {false}
  | none => ∅

def amtX : Option (Dev nD × Cx) → ℕ
  | some (_, none) => 1
  | _ => N

def ringRd : Rounds.Schedule (GSem nD τ sig) Bool 𝕄 where
  duties g r := if r = 0 then dutyX (cx g) else ∅
  unitless _ := False
  amount g _ _ := amtX (cx g)
  payload g _ d := payX V (cx g) d
  amount_pos g _ _ _ := by
    unfold amtX; split
    · exact Nat.one_pos
    · exact N_pos

omit [FloatOps F] in
instance bigSepL_storable {I : Type} (l : List I) (Φ : I → sProp 𝕄) [h : ∀ i, BI.Storable (upEmb : UEmb _ 𝕄) (Φ i)] :
    BI.Storable (upEmb : UEmb _ 𝕄) (bigSepL l Φ) := by
  induction l with
  | nil => rw [bigSepL_nil]; exact (inferInstance : BI.Storable (upEmb : UEmb _ 𝕄) iprop(emp))
  | cons a l ih =>
    cases l with
    | nil => rw [bigSepL_singleton]; exact h a
    | cons b l => rw [bigSepL_cons_cons]; exact (haveI := h a; haveI := ih; inferInstance : BI.Storable (upEmb : UEmb _ 𝕄) iprop(Φ a ∗ bigSepL (b :: l) Φ))

instance payX_storable (o : Option (Dev nD × Cx)) (d : Bool) : BI.Storable (upEmb : UEmb _ 𝕄) (payX V o d) := by
  unfold payX
  split
  · unfold barPay land; infer_instance
  · unfold srcPay has; infer_instance
  · unfold dstPay has; infer_instance
  · exact (inferInstance : BI.Storable (upEmb : UEmb _ 𝕄) iprop(emp))

instance ringRd_payload_storable (g : GSem nD τ sig) (r : ℕ) (d : Bool) :
    BI.Storable (upEmb : UEmb _ 𝕄) ((ringRd (F := F) V).payload g r d) := payX_storable V _ d

section Sched
variable (c : Dev nD) (f : Flt)

theorem duties_zero (g : GSem nD τ sig) : (ringRd (F := F) V).duties g 0 = dutyX (cx g) := by dsimp only [ringRd]; exact if_pos rfl
theorem duties_later (g : GSem nD τ sig) : ∀ r, 1 ≤ r → (ringRd (F := F) V).duties g r = ∅ :=
  fun r hr => by dsimp only [ringRd]; exact if_neg (by omega)
theorem duties_bar : (ringRd (F := F) V).duties (barCell c) 0 = Finset.univ := by rw [duties_zero, cx_bar]; rfl
theorem duties_send : (ringRd (F := F) V).duties (sendCell c f) 0 = {false} := by rw [duties_zero, cx_send]; rfl
theorem duties_recv : (ringRd (F := F) V).duties (recvCell c f) 0 = {false} := by rw [duties_zero, cx_recv]; rfl

theorem amount_bar (d : Bool) : (ringRd (F := F) V).amount (barCell c) 0 d = 1 := by show amtX (cx (barCell c)) = 1; rw [cx_bar]; rfl
theorem amount_send (d : Bool) : (ringRd (F := F) V).amount (sendCell c f) 0 d = N := by show amtX (cx (sendCell c f)) = N; rw [cx_send]; rfl
theorem amount_recv (d : Bool) : (ringRd (F := F) V).amount (recvCell c f) 0 d = N := by show amtX (cx (recvCell c f)) = N; rw [cx_recv]; rfl

theorem expect_bar : (ringRd (F := F) V).expect (barCell c) 0 = 2 := by
  unfold Schedule.expect Schedule.amountOf
  rw [duties_bar, Finset.sum_congr rfl fun d _ => amount_bar V c d, Finset.sum_const, Finset.card_univ, Fintype.card_bool, smul_eq_mul]
theorem expect_send : (ringRd (F := F) V).expect (sendCell c f) 0 = N := by
  unfold Schedule.expect Schedule.amountOf; rw [duties_send, Finset.sum_singleton, amount_send]
theorem expect_recv : (ringRd (F := F) V).expect (recvCell c f) 0 = N := by
  unfold Schedule.expect Schedule.amountOf; rw [duties_recv, Finset.sum_singleton, amount_recv]

theorem payload_bar (d : Bool) : (ringRd (F := F) V).payload (barCell c) 0 d = barPay c d := by show payX V (cx (barCell c)) d = _; rw [cx_bar]; rfl
theorem payload_send (d : Bool) : (ringRd (F := F) V).payload (sendCell c f) 0 d = srcPay V c f := by
  show payX V (cx (sendCell c f)) d = _; rw [cx_send]; rfl
theorem payload_recv (d : Bool) : (ringRd (F := F) V).payload (recvCell c f) 0 d = dstPay V c f := by
  show payX V (cx (recvCell c f)) d = _; rw [cx_recv]; rfl

theorem rest_bar : bigSep ((ringRd (F := F) V).duties (barCell c) 0 \ ∅) (fun d => (ringRd (F := F) V).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
theorem rest_send : bigSep ((ringRd (F := F) V).duties (sendCell c f) 0 \ ∅) (fun d => (ringRd (F := F) V).payload (sendCell c f) 0 d) = srcPay V c f := by
  rw [Finset.sdiff_empty, duties_send, bigSep_singleton, payload_send]
theorem rest_recv : bigSep ((ringRd (F := F) V).duties (recvCell c f) 0 \ ∅) (fun d => (ringRd (F := F) V).payload (recvCell c f) 0 d) = dstPay V c f := by
  rw [Finset.sdiff_empty, duties_recv, bigSep_singleton, payload_recv]

end Sched

/-! ## What is owed, and the levels -/

/-- The credits of the transfers of a list, owed to the devices they go to; the head is paid first. -/
def owed (c : Dev nD) : List Flt → CellTallies nD τ sig Unit
  | [] => 0
  | f :: l => owed c l + tallyAt (recvCell (dest c f.ln) f) () N

/-- Before the handshake a device also owes each neighbour's barrier cell a unit; the left one's is paid first. -/
def O₁ (c : Dev nD) : CellTallies nD τ sig Unit := owed c started + tallyAt (barCell (nxt c)) () 1
def O₀ (c : Dev nD) : CellTallies nD τ sig Unit := O₁ c + tallyAt (barCell (prv c)) () 1

/-- How many steps of the schedule come before a transfer. -/
def stage (f : Flt) : ℕ := match f.ln with
  | .rsR | .rsL => f.s.val | .agR | .agL => 8 + f.s.val

def lvX : Option (Dev nD × Cx) → ℕ
  | some (_, none) => 1
  | some (_, some (f, true)) => 2 + stage f
  | _ => 0

def L (g : GSem nD τ sig) : Finset Unit := if g.1.2 = .tc then {()} else ∅
def lv (g : GSem nD τ sig) (_ : Unit) : ℕ := lvX (cx g)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [cx_bar]; rfl
theorem lv_recv (c : Dev nD) (f : Flt) (u : Unit) : lv (recvCell c f) u = 2 + stage f := by unfold lv; rw [cx_recv]; rfl

theorem add_tally_pos {A : CellTallies nD τ sig Unit} {g g' : GSem nD τ sig} {n : ℕ} {u : Unit} (h : 0 < (A + tallyAt g' () n) g u) :
    0 < A g u ∨ g = g' := by
  by_cases hg : g = g'
  · exact .inr hg
  · rw [Pi.add_apply, Finsupp.add_apply, tallyAt_apply, if_neg (fun h' => hg h'.1)] at h
    exact .inl h

theorem owed_pos {c : Dev nD} {g : GSem nD τ sig} {u : Unit} : ∀ {l : List Flt}, 0 < owed c l g u → ∃ f ∈ l, g = recvCell (dest c f.ln) f := by
  intro l
  induction l with
  | nil => intro h; exact absurd h (Nat.lt_irrefl 0)
  | cons f l ih =>
    intro h
    rcases add_tally_pos (A := owed c l) h with h | h
    · obtain ⟨f', h1, h2⟩ := ih h
      exact ⟨f', List.mem_cons_of_mem _ h1, h2⟩
    · exact ⟨f, List.mem_cons_self, h⟩

theorem O₀_pos {c : Dev nD} {g : GSem nD τ sig} {u : Unit} (h : 0 < O₀ c g u) :
    (∃ f ∈ started, g = recvCell (dest c f.ln) f) ∨ g = barCell (nxt c) ∨ g = barCell (prv c) := by
  rcases add_tally_pos (A := O₁ c) h with h | h
  · rcases add_tally_pos (A := owed c started) h with h | h
    · exact .inl (owed_pos h)
    · exact .inr (.inl h)
  · exact .inr (.inr h)

omit [FloatOps F] in
/-- A wait for a semaphore below everything owed is allowed. -/
theorem mayWait_owed (c : Dev nD) (sm : SemLoc sig) (l : List Flt) (k : ℕ) (hk : lv ((c : Thread nD τ), sm) () ≤ k) (h : ∀ f ∈ l, k < 2 + stage f) :
    (levAts L lv : sProp 𝕄) ⊢ MayWait (c : Thread nD τ) sm () (owed c l) :=
  MayOwe.of_cut (L := L) (lev := lv) k (fun p hp => by rw [Finset.mem_singleton.mp hp, L_tc]; exact Finset.mem_singleton_self _)
    (fun g u hg => by obtain ⟨f, _, rfl⟩ := owed_pos hg; rw [L_tc]; exact Finset.mem_singleton_self _)
    (fun p hp => by rw [Finset.mem_singleton.mp hp]; exact hk)
    (fun g u hg => by obtain ⟨f, hf, rfl⟩ := owed_pos hg; rw [lv_recv]; exact h f hf)

omit [FloatOps F] in
theorem mayWait_bar (c : Dev nD) : (levAts L lv : sProp 𝕄) ⊢ MayWait (c : Thread nD τ) (.reg barS) () (owed c started) :=
  mayWait_owed c _ _ 1 (lv_bar c ()).le fun f _ => by omega

omit [FloatOps F] in
theorem mayWait_stage (c : Dev nD) (q : DmaSem sig) (hq : ∀ f, q ≠ semR f) (O : CellTallies nD τ sig Unit) (hO : O = O₀ c ∨ O = 0) :
    (levAts L lv : sProp 𝕄) ⊢ MayWait (c : Thread nD τ) (.dma q) () O := by
  have hl : lv ((c : Thread nD τ), .dma q) () ≤ 0 := by
    unfold lv cx
    split
    · rename_i h
      obtain ⟨⟨d, k⟩, hk⟩ : ∃ ck, ck = h.choose := ⟨_, rfl⟩
      have hs := h.choose_spec
      rw [← hk] at hs ⊢
      have h2 : csem k = .dma q := congrArg Prod.snd hs
      match k, h2 with
      | some (f, false), _ => exact le_refl _
      | some (f, true), h2 => exact absurd (SemLoc.dma.inj h2).symm (hq f)
    · exact le_refl _
  rcases hO with rfl | rfl
  · refine MayOwe.of_cut (L := L) (lev := lv) 0 (fun p hp => by rw [Finset.mem_singleton.mp hp, L_tc]; exact Finset.mem_singleton_self _)
      (fun g u hg => by rcases O₀_pos hg with ⟨f, _, rfl⟩ | rfl | rfl <;> exact Finset.mem_singleton_self _)
      (fun p hp => by rw [Finset.mem_singleton.mp hp]; exact hl)
      (fun g u hg => by
        rcases O₀_pos hg with ⟨f, _, rfl⟩ | rfl | rfl
        · rw [lv_recv]; omega
        · rw [lv_bar]; decide
        · rw [lv_bar]; decide)
  · rw [MayWait_zero]; iintro -; iempintro

end Cert.Ring
-- ==== Proof.Steps.lean ====
/-
# The steps, one at a time

What a device holds is written as a list of tokens. Every step takes some of them and leaves others; `walk` runs this
over the list of steps.
-/
module

public import proofs.«01_k».proof.Proof.Sched
public import Idealize.ShloMosaic.Lib.Tactic
public import Mathlib.Tactic.IntervalCases

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A program of device `c` runs to `Q`. -/
abbrev wpc (c : Dev nD) {α : Type} (p : Code F α) (Q : α → sProp 𝕄) : sProp 𝕄 :=
  wp frame (wpE (defs₀ (F := F)) 𝒱₀ (c : Thread nD τ) none) Set.univ p Q

/-! ## Tokens -/

inductive Tok where
  | ready (f : Flt) | flying (f : Flt) | done (f : Flt)
  | expect (f : Flt) | got (f : Flt) | inb (f : Flt)
  | row (j : Fin 16) | acc (j : Fin 16) (si : Fin 4) (v : Fin 3)
  | raw (si : Fin 4) | out (j : Fin 16) (si : Fin 4) | half (si : Fin 4) (b : Bool)
  | env
  deriving DecidableEq

def cj (n : Nat) : Fin 16 := ⟨n % 16, Nat.mod_lt _ (by decide)⟩

/-- The block of the result a token names: reads the whole sum over devices of that chunk. -/
def outR (V : Data F) (c : Dev nD) (j : Nat) (si : Fin 4) (q : PosShare TreeShare) : sProp 𝕄 :=
  has c (outB c j si) q (fin V ⟨(c.val + j) % 16, Nat.mod_lt _ (by decide)⟩ si)

/-- The rows of a chunk, of the accumulator, whatever they hold. -/
def rowR (c : Dev nD) (j : Nat) : sProp 𝕄 :=
  iprop(∃ f : Buf (Elt F) ((c : Thread nD τ).loc cc0_scratch0), ((c : Thread nD τ).loc cc0_scratch0) ↦[(accM.access (rectA (ch c j))).set]{fullShare} f)

/-- The rows of `x` and the weights, which are only read. -/
def envR (V : Data F) (c : Dev nD) : sProp 𝕄 :=
  iprop((((c : Thread nD τ).loc cc0_stg0_0) ↦{fullShare} (V.x c : Buf (Elt F) ((c : Thread nD τ).loc cc0_stg0_0)))
    ∗ (((c : Thread nD τ).loc cc0_scratch1) ↦{fullShare} (V.w c : Buf (Elt F) ((c : Thread nD τ).loc cc0_scratch1))))

def interp (V : Data F) (c : Dev nD) : Tok → sProp 𝕄
  | .ready f => iprop(atPos ER (sendCell c f) 0 ∅ 0 ∗ dutyTok ER (sendCell c f) 0 false ∗ dutyTok ER (recvCell (dest c f.ln) f) 0 false
      ∗ land (F := F) (dest c f.ln) f)
  | .flying f => iprop(atPos ER (sendCell c f) 0 ∅ 0 ∗ cred (tallyAt (sendCell c f) () N))
  | .done f => semVal (sendCell c f) 0
  | .expect f => iprop(atPos ER (recvCell c f) 0 ∅ 0 ∗ cred (tallyAt (recvCell c f) () N))
  | .got f => semVal (recvCell c f) 0
  | .inb f => dstPay V c f
  | .row j => rowR c j.val
  | .acc j si v => has c (accB c j.val si) fullShare (accV V c j.val si v)
  | .raw si => raw c (outB c 0 si)
  | .out j si => outR V c j.val si fullShare
  | .half si b => outR V c 0 si (half b)
  | .env => envR V c

def hold (V : Data F) (c : Dev nD) (T : List Tok) : sProp 𝕄 := bigSepM (T : Multiset Tok) (interp V c)

variable (V : Data F)

theorem hold_nil (c : Dev nD) : hold V c [] = iprop(emp) := rfl
theorem hold_cons (c : Dev nD) (t : Tok) (T : List Tok) : hold V c (t :: T) = iprop(interp V c t ∗ hold V c T) := bigSepM_cons t (T : Multiset Tok) _
theorem hold_append (c : Dev nD) (T T' : List Tok) : hold V c (T ++ T') = iprop(hold V c T ∗ hold V c T') := bigSepM_add (T : Multiset Tok) (T' : Multiset Tok) _

/-! ## What each step takes and leaves -/

def srcTok (f : Flt) : Tok := match f.ln with
  | .rsR => .acc (cj (8 - f.s.val)) f.si (if f.s.val = 0 then 0 else 1)
  | .rsL => .acc (cj (9 + f.s.val)) f.si (if f.s.val = 0 then 0 else 1)
  | .agR => if f.s.val = 0 then .half f.si false else .out (cj (16 - f.s.val)) f.si
  | .agL => if f.s.val = 0 then .half f.si true else .out (cj f.s.val) f.si

def dstTok (f : Flt) : Tok := match f.ln with
  | .rsR | .rsL => .inb f
  | .agR => .out (cj (15 - f.s.val)) f.si
  | .agL => .out (cj (1 + f.s.val)) f.si

def Step.pre : Step → List Tok
  | .comp g => [.env, .row (cj g.chunk)]
  | .send f => [.ready f, srcTok f]
  | .recv f => [.expect f]
  | .addR si s => [.acc (cj (7 - s.val)) si (if s.val = 7 then 1 else 0), .inb ⟨si, .rsR, s⟩]
  | .addL si s => [.acc (cj (10 + s.val)) si 0, .inb ⟨si, .rsL, s⟩]
  | .own si => [.acc (cj 0) si 2, .raw si]
  | .sent f => [.flying f]

def Step.post : Step → List Tok
  | .comp g => [.env, .acc (cj g.chunk) 0 0, .acc (cj g.chunk) 1 0, .acc (cj g.chunk) 2 0, .acc (cj g.chunk) 3 0]
  | .send f => [.flying f]
  | .recv f => [.got f, dstTok f]
  | .addR si s => [.acc (cj (7 - s.val)) si (if s.val = 7 then 2 else 1), .inb ⟨si, .rsR, s⟩]
  | .addL si s => [.acc (cj (10 + s.val)) si 1, .inb ⟨si, .rsL, s⟩]
  | .own si => [.acc (cj 0) si 2, .half si false, .half si true]
  | .sent f => [.done f, srcTok f]

def sends : List Step → List Flt
  | [] => []
  | .send f :: l => f :: sends l
  | _ :: l => sends l

/-- A wait is allowed when everything still owed is for later transfers. -/
def Step.allowed (l : List Step) : Step → Bool
  | .recv f => (sends l).all fun g => decide (stage f < stage g)
  | _ => true

/-! ## The cells' records -/

variable (K : Dev nD × Cx → ℕ)

def records : sProp 𝕄 :=
  iprop((bigSep Finset.univ fun ck : Dev nD × Cx => cellInv ER (ringRd V) (K ck) (kcell ck))
    ∗ (bigSep Finset.univ fun ck : Dev nD × Cx => reached ER (kcell ck) 0) ∗ levAts L lv)

instance records_persistent : BI.Persistent (records V K) := by unfold records; infer_instance

theorem records_inv (ck : Dev nD × Cx) : records V K ⊢ cellInv ER (ringRd V) (K ck) (kcell ck) := by
  have h : (bigSep Finset.univ fun ck : Dev nD × Cx => cellInv ER (ringRd V) (K ck) (kcell ck)) ⊢ cellInv ER (ringRd V) (K ck) (kcell ck) :=
    bigSep_elim (Finset.mem_univ ck)
  unfold records; iintro ⟨H, -, -⟩; iapply h; iexact H
theorem records_reached (ck : Dev nD × Cx) : records V K ⊢ reached ER (kcell ck) 0 := by
  have h : (bigSep Finset.univ fun ck : Dev nD × Cx => (reached ER (kcell ck) 0 : sProp 𝕄)) ⊢ reached ER (kcell ck) 0 :=
    bigSep_elim (Finset.mem_univ ck)
  unfold records; iintro ⟨-, H, -⟩; iapply h; iexact H

/-! ## Tokens and payloads -/

theorem accB_has {c : Dev nD} {o : Fin 2 → Nat} (j : Nat) (si : Fin 4) (e : o = blk c j si) (h : Inb o) (q : PosShare TreeShare) {X Y : FVec F S128x256 .f32} (hX : X = Y) :
    has c (accAt o h) q X = has c (accB c j si) q Y := by subst e; subst hX; rfl
theorem outB_has {c : Dev nD} {o : Fin 2 → Nat} (j : Nat) (si : Fin 4) (e : o = blk c j si) (h : Inb o) (q : PosShare TreeShare) {X Y : FVec F S128x256 .f32} (hX : X = Y) :
    has c (outAt o h) q X = has c (outB c j si) q Y := by subst e; subst hX; rfl

theorem blk_congr (c d : Dev nD) {j k : Nat} (si : Fin 4) (h : (c.val + j) % 16 = (d.val + k) % 16) : blk c j si = blk d k si := by
  unfold blk; rw [h]

theorem src_tok (c : Dev nD) (f : Flt) : interp V c (srcTok f) = srcPay V c f := by
  have hc : c.val < 16 := c.isLt
  obtain ⟨si, ln, s, hs⟩ := f
  cases ln
  · refine (accB_has _ si ((srcOff_eq c ⟨si, .rsR, s, hs⟩).trans (blk_congr c c si ?_)) _ _ ?_).symm
    · show (c.val + (8 - s)) % 16 = (c.val + (8 - s) % 16) % 16; omega
    · have hs' : s < 8 := hs
      interval_cases s <;> rfl
  · refine (accB_has _ si ((srcOff_eq c ⟨si, .rsL, s, hs⟩).trans (blk_congr c c si ?_)) _ _ ?_).symm
    · show (c.val + (9 + s)) % 16 = (c.val + (9 + s) % 16) % 16; omega
    · have hs' : s < 7 := hs
      interval_cases s <;> rfl
  · by_cases h0 : s = 0
    · subst h0
      refine (outB_has 0 si ((srcOff_eq c ⟨si, .agR, 0, hs⟩).trans (blk_congr c c si ?_)) _ _ ?_).symm
      · show (c.val + 16) % 16 = (c.val + 0) % 16; omega
      · show fin V _ si = fin V _ si
        congr 1; apply Fin.ext; show (c.val + 16) % 16 = (c.val + 0) % 16; omega
    · have e1 : srcTok ⟨si, .agR, s, hs⟩ = .out (cj (16 - s)) si := if_neg h0
      have e2 : shr ⟨si, .agR, s, hs⟩ = fullShare := if_neg h0
      unfold srcPay
      rw [e1, e2]
      have hs' : s < 8 := hs
      refine (outB_has _ si ((srcOff_eq c ⟨si, .agR, s, hs⟩).trans (blk_congr c c si ?_)) _ _ ?_).symm
      · show (c.val + (16 - s)) % 16 = (c.val + (16 - s) % 16) % 16; omega
      · show fin V _ si = fin V _ si
        congr 1; apply Fin.ext; show (c.val + (16 - s)) % 16 = (c.val + (16 - s) % 16) % 16; omega
  · by_cases h0 : s = 0
    · subst h0
      refine (outB_has 0 si ((srcOff_eq c ⟨si, .agL, 0, hs⟩).trans (blk_congr c c si ?_)) _ _ ?_).symm
      · show (c.val + 0) % 16 = (c.val + 0) % 16; rfl
      · show fin V _ si = fin V _ si
        rfl
    · have e1 : srcTok ⟨si, .agL, s, hs⟩ = .out (cj s) si := if_neg h0
      have e2 : shr ⟨si, .agL, s, hs⟩ = fullShare := if_neg h0
      unfold srcPay
      rw [e1, e2]
      have hs' : s < 7 := hs
      refine (outB_has _ si ((srcOff_eq c ⟨si, .agL, s, hs⟩).trans (blk_congr c c si ?_)) _ _ ?_).symm
      · show (c.val + s) % 16 = (c.val + s % 16) % 16; omega
      · show fin V _ si = fin V _ si
        congr 1; apply Fin.ext; show (c.val + s) % 16 = (c.val + s % 16) % 16; omega

theorem dst_tok (c : Dev nD) (f : Flt) : interp V c (dstTok f) = dstPay V c f := by
  have hc : c.val < 16 := c.isLt
  obtain ⟨si, ln, s, hs⟩ := f
  cases ln
  · rfl
  · rfl
  · have hs' : s < 8 := hs
    refine (outB_has _ si ((srcOff_eq (prv c) ⟨si, .agR, s, hs⟩).trans (blk_congr (prv c) c si ?_)) _ _ ?_).symm
    · show ((c.val + 15) % 16 + (16 - s)) % 16 = (c.val + (15 - s) % 16) % 16; omega
    · show fin V _ si = fin V _ si
      congr 1; apply Fin.ext; show ((c.val + 15) % 16 + (16 - s)) % 16 = (c.val + (15 - s) % 16) % 16; omega
  · have hs' : s < 7 := hs
    refine (outB_has _ si ((srcOff_eq (nxt c) ⟨si, .agL, s, hs⟩).trans (blk_congr (nxt c) c si ?_)) _ _ ?_).symm
    · show ((c.val + 1) % 16 + s) % 16 = (c.val + (1 + s) % 16) % 16; omega
    · show fin V _ si = fin V _ si
      congr 1; apply Fin.ext; show ((c.val + 1) % 16 + s) % 16 = (c.val + (1 + s) % 16) % 16; omega

/-! ## Starting a transfer -/

theorem amount_dst (d : Dev nD) (f : Flt) (sm : DmaSem sig) : (dstM d f).view.amount (.dma sm) = N := by
  obtain ⟨si, ln, s⟩ := f
  cases ln <;> rfl

/-- A transfer between any two blocks, on any two cells of the schedule. -/
theorem send_rule (Rd : Rounds.Schedule (GSem nD τ sig) Bool 𝕄) [∀ g r d, BI.Storable (upEmb : UEmb _ 𝕄) (Rd.payload g r d)] (c n : Dev nD) (src dst : Memref sig .tc .vmem S128x256 .f32) (sS sR : DmaSem sig) (κ₁ κ₂ : ℕ) (q : PosShare TreeShare) (M : ℕ)
    (hM : dst.view.amount (.dma sR) = M)
    (hd₁ : false ∈ Rd.duties ((c : Thread nD τ), .dma sS) 0) (hd₂ : false ∈ Rd.duties ((n : Thread nD τ), .dma sR) 0)
    (ha₁ : Rd.amount ((c : Thread nD τ), .dma sS) 0 false = M) (ha₂ : Rd.amount ((n : Thread nD τ), .dma sR) 0 false = M)
    (fs : Buf (Elt F) (src.view.loc (c : Thread nD τ))) (fd : Buf (Elt F) (dst.view.loc (n : Thread nD τ)))
    (hp₁ : (src.view.loc (c : Thread nD τ) ↦[src.view.set]{q} fs) ⊢ Rd.payload ((c : Thread nD τ), .dma sS) 0 false)
    (hp₂ : (dst.view.loc (n : Thread nD τ) ↦[dst.view.set]{fullShare} (dst.view.write (Elt F) fd (src.view.read (Elt F) fs) Finset.univ))
      ⊢ Rd.payload ((n : Thread nD τ), .dma sR) 0 false)
    (O : CellTallies nD τ sig Unit) (W : Waits sig Unit) {α : Type} {Q : α → sProp 𝕄} {k : PUnit → Code F α} :
    iprop(cellInv ER Rd κ₁ ((c : Thread nD τ), .dma sS) ∗ cellInv ER Rd κ₂ ((n : Thread nD τ), .dma sR)
        ∗ (src.view.loc (c : Thread nD τ) ↦[src.view.set]{q} fs) ∗ (dst.view.loc (n : Thread nD τ) ↦[dst.view.set]{fullShare} fd)
        ∗ owes (c : Thread nD τ) (O + tallyAt ((n : Thread nD τ), .dma sR) () M) W
        ∗ dutyTok ER ((c : Thread nD τ), .dma sS) 0 false ∗ reached ER ((c : Thread nD τ), .dma sS) 0
        ∗ dutyTok ER ((n : Thread nD τ), .dma sR) 0 false ∗ reached ER ((n : Thread nD τ), .dma sR) 0)
      ⊢ iprop(((cred (tallyAt ((c : Thread nD τ), .dma sS) () M) ∗ owes (c : Thread nD τ) O W) -∗ wpc c (k ⟨⟩) Q)
          -∗ wpc c (sendP src dst sS sR n >>= k) Q) :=
  Rounds.wp_send_pointsTo 𝒱₀ ER Rd (c : Thread nD τ) none (c' := (n : Thread nD τ)) (src := src) (dst := dst)
    (sS := .dma sS) (sem := .dma sR) (κ₁ := κ₁) (κ₂ := κ₂)
    (r₁ := 0) (r₂ := 0) (d₁ := false) (d₂ := false) (fs := fs) (fd := fd)
    hd₁ hd₂ () () M hM ha₁ ha₂ O rfl (W := W) hp₁ hp₂

theorem send_ok (c n : Dev nD) (f : Flt) (hn : n = dest c f.ln) (O : CellTallies nD τ sig Unit) {α : Type} {Q : α → sProp 𝕄} {k : PUnit → Code F α} :
    iprop(records V K ∗ interp V c (.ready f) ∗ interp V c (srcTok f) ∗ (∃ W, owes (c : Thread nD τ) (O + tallyAt (recvCell (dest c f.ln) f) () N) W))
      ⊢ iprop(((interp V c (.flying f) ∗ (∃ W, owes (c : Thread nD τ) O W)) -∗ wpc c (k ⟨⟩) Q)
          -∗ wpc c (sendP (srcM c f) (dstM c f) (semS f) (semR f) n >>= k) Q) := by
  subst hn
  rw [src_tok]
  unfold srcPay has owns
  simp only [interp, land, orig_dest]
  unfold raw
  have hp1 : ∀ fs : Buf (Elt F) ((srcM c f).view.loc (c : Thread nD τ)), (srcM c f).view.read (Elt F) fs = carried V c f →
      (((srcM c f).view.loc (c : Thread nD τ) ↦[(srcM c f).view.set]{shr f} fs) ⊢ (ringRd V).payload (sendCell c f) 0 false) := by
    intro fs hfs
    rw [payload_send]; unfold srcPay has owns
    iintro H; iexists fs; isplitr
    · ipureintro; exact hfs
    · iexact H
  have hp2 : ∀ (fs : Buf (Elt F) ((srcM c f).view.loc (c : Thread nD τ))) (fd : Buf (Elt F) ((dstM c f).view.loc (dest c f.ln : Thread nD τ))), (srcM c f).view.read (Elt F) fs = carried V c f →
      (((dstM c f).view.loc (dest c f.ln : Thread nD τ) ↦[(dstM c f).view.set]{fullShare} ((dstM c f).view.write (Elt F) fd ((srcM c f).view.read (Elt F) fs) Finset.univ))
        ⊢ (ringRd V).payload (recvCell (dest c f.ln) f) 0 false) := by
    intro fs fd hfs
    rw [payload_recv]; unfold dstPay has owns; rw [orig_dest]
    iintro H; iexists _; isplitr [H]
    rotate_left
    · iexact H
    · ipureintro; rw [View.read_write_univ]; exact hfs
  iintro ⟨#Hr, ⟨Hat, HtS, HtR, ⟨%fd, Hd⟩⟩, ⟨%fs, %hfs, Hs⟩, ⟨%W, HO⟩⟩ Hk
  have hi1 := records_inv V K (c, some (f, false))
  have hi2 := records_inv V K (dest c f.ln, some (f, true))
  have hr1 := records_reached V K (c, some (f, false))
  have hr2 := records_reached V K (dest c f.ln, some (f, true))
  have hd1 : false ∈ (ringRd V).duties (sendCell c f) 0 := by rw [duties_send]; exact Finset.mem_singleton_self _
  have hd2 : false ∈ (ringRd V).duties (recvCell (dest c f.ln) f) 0 := by rw [duties_recv]; exact Finset.mem_singleton_self _
  have hN := amount_dst c f (semR f)
  have ha1 := amount_send V c f false
  have ha2 := amount_recv V (dest c f.ln) f false
  iapply (send_rule (ringRd V) c (dest c f.ln) (srcM c f) (dstM c f) (semS f) (semR f) (K (c, some (f, false))) (K (dest c f.ln, some (f, true))) (shr f) N
    hN hd1 hd2 ha1 ha2 fs fd (hp1 fs hfs) (hp2 fs fd hfs) O W) $$ [Hs Hd HO HtS HtR]
  · isplitr; · iapply hi1; iexact Hr
    isplitr; · iapply hi2; iexact Hr
    isplitl [Hs]; · iexact Hs
    isplitl [Hd]; · iexact Hd
    isplitl [HO]; · iexact HO
    isplitl [HtS]; · iexact HtS
    isplitr; · iapply hr1; iexact Hr
    isplitl [HtR]; · iexact HtR
    iapply hr2; iexact Hr
  iintro ⟨Hc, HO⟩
  iapply Hk
  isplitl [Hat Hc]
  · isplitl [Hat] <;> iassumption
  · iexists W; iexact HO

/-! ## The waits -/

theorem mayWait_recv (c : Dev nD) (f : Flt) (l : List Flt) (hl : ∀ g ∈ l, stage f < stage g) :
    records V K ⊢ MayWait (c : Thread nD τ) (.dma (semR f)) () (owed c l) := by
  have h1 : lv (recvCell c f) () ≤ 2 + stage f := (lv_recv c f ()).le
  have h2 : ∀ g ∈ l, 2 + stage f < 2 + stage g := fun g hg => by have := hl g hg; omega
  have h := mayWait_owed (F := F) c (.dma (semR f)) l (2 + stage f) h1 h2
  unfold records; iintro ⟨-, -, H⟩; iapply h; iexact H

theorem mayWait_sent (c : Dev nD) (f : Flt) (l : List Flt) : records V K ⊢ MayWait (c : Thread nD τ) (.dma (semS f)) () (owed c l) := by
  have h1 : lv (sendCell c f) () ≤ 0 := by
    have h : lv (sendCell c f) () = 0 := by unfold lv; rw [cx_send]; rfl
    exact h.le
  have h := mayWait_owed (F := F) c (.dma (semS f)) l 0 h1 fun g hg => by omega
  unfold records; iintro ⟨-, -, H⟩; iapply h; iexact H

theorem recv_ok (c : Dev nD) (f : Flt) (l : List Flt) (hl : ∀ g ∈ l, stage f < stage g) {α : Type} {Q : α → sProp 𝕄} {k : PUnit → Code F α} :
    iprop(records V K ∗ interp V c (.expect f) ∗ (∃ W, owes (c : Thread nD τ) (owed c l) W))
      ⊢ iprop(((interp V c (.got f) ∗ interp V c (dstTok f) ∗ (∃ W, owes (c : Thread nD τ) (owed c l) W)) -∗ wpc c (k ⟨⟩) Q)
          -∗ wpc c (waitP (srcM c f) (dstM c f) (semR f) >>= k) Q) := by
  have hmw : records V K ⊢ MayWait (c : Thread nD τ) (.dma (semR f)) () (owed c l) :=
    mayWait_recv V K c f l hl
  rw [dst_tok]
  simp only [interp]
  iintro ⟨#Hr, ⟨Hat, Hc⟩, ⟨%W, HO⟩⟩ Hk
  simp only [waitP, Prog.lift, Prog.bind_op, Prog.bind_ret]
  iapply (Rounds.wp_wait_rest_token 𝒱₀ ER (ringRd V) (c : Thread nD τ) none (κ := K (c, some (f, true))) (sm := .dma (semR f)) (k' := N)
      (fun Kt => (wpE_waitDma2_eq 𝒱₀ (c : Thread nD τ) none Set.univ Kt).trans (by rw [show (dstM c f).view.dmaCredit = N from amount_dst c f (semR f)])) (Set.mem_univ _) () (O := owed c l) (W := W) (R := 0) (m := 0) (T := ∅)
      (by rw [expect_recv, Nat.zero_add])) $$ [Hc HO Hat]
  · isplitr; · iapply (records_inv V K (c, some (f, true))); iexact Hr
    isplitl [Hc]; · iexact Hc
    isplitl [HO]; · iexact HO
    isplitr; · iapply hmw; iexact Hr
    iexact Hat
  iintro ⟨HO, Hat, -, Hpay⟩
  ihave Hpay := (Entails.of_eq (rest_recv V c f)) $$ Hpay
  imod (Rounds.cell_close ER (ringRd V) (Set.mem_univ (K (c, some (f, true)))) (fun h => h) (R := 0 + 1) (duties_later V (recvCell c f))) $$ [Hat] with Hz
  · isplitr; · iapply (records_inv V K (c, some (f, true))); iexact Hr
    iexact Hat
  iapply Hk
  isplitl [Hz]; · iexact Hz
  isplitl [Hpay]; · iexact Hpay
  iexists _; iexact HO

theorem sent_ok (c : Dev nD) (f : Flt) (l : List Flt) {α : Type} {Q : α → sProp 𝕄} {k : PUnit → Code F α} :
    iprop(records V K ∗ interp V c (.flying f) ∗ (∃ W, owes (c : Thread nD τ) (owed c l) W))
      ⊢ iprop(((interp V c (.done f) ∗ interp V c (srcTok f) ∗ (∃ W, owes (c : Thread nD τ) (owed c l) W)) -∗ wpc c (k ⟨⟩) Q)
          -∗ wpc c (waitP (dstM c f) (srcM c f) (semS f) >>= k) Q) := by
  rw [src_tok]
  simp only [interp]
  iintro ⟨#Hr, ⟨Hat, Hc⟩, ⟨%W, HO⟩⟩ Hk
  simp only [waitP, Prog.lift, Prog.bind_op, Prog.bind_ret]
  have hN : (srcM c f).view.dmaCredit = N := by
    obtain ⟨si, ln, s⟩ := f
    cases ln <;> rfl
  have hmw : records V K ⊢ MayWait (c : Thread nD τ) (.dma (semS f)) () (owed c l) :=
    mayWait_sent V K c f l
  iapply (Rounds.wp_wait_rest_token 𝒱₀ ER (ringRd V) (c : Thread nD τ) none (κ := K (c, some (f, false))) (sm := .dma (semS f)) (k' := N)
      (fun Kt => (wpE_waitDma2_eq 𝒱₀ (c : Thread nD τ) none Set.univ Kt).trans (by rw [hN])) (Set.mem_univ _) () (O := owed c l) (W := W) (R := 0) (m := 0) (T := ∅)
      (by rw [expect_send, Nat.zero_add])) $$ [Hc HO Hat]
  · isplitr; · iapply (records_inv V K (c, some (f, false))); iexact Hr
    isplitl [Hc]; · iexact Hc
    isplitl [HO]; · iexact HO
    isplitr; · iapply hmw; iexact Hr
    iexact Hat
  iintro ⟨HO, Hat, -, Hpay⟩
  ihave Hpay := (Entails.of_eq (rest_send V c f)) $$ Hpay
  imod (Rounds.cell_close ER (ringRd V) (Set.mem_univ (K (c, some (f, false)))) (fun h => h) (R := 0 + 1) (duties_later V (sendCell c f))) $$ [Hat] with Hz
  · isplitr; · iapply (records_inv V K (c, some (f, false))); iexact Hr
    iexact Hat
  iapply Hk
  isplitl [Hz]; · iexact Hz
  isplitl [Hpay]; · iexact Hpay
  iexists _; iexact HO

end Cert.Ring
-- ==== Proof.Loads.lean ====
/-
# The steps that load and store

Adding what arrived, copying the device's own block out, computing a chunk.
-/
module

public import proofs.«01_k».proof.Proof.Steps
public import Idealize.ShloMosaic.Lib.Ring

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Data F)

/-! ## Adding what arrived -/

/-- The three loads and the store, over any landing slot. -/
def combP {z : Fin 3 → Nat} (m : Memref sig .tc .vmem ⟨3, z⟩ .f32) (o : Fin 2 → Nat) (ho : Inb o) (o3 : Fin 3 → Nat)
    (h3 : ∀ a, o3 a + S1x128x256.size a ≤ z a) : Code F PUnit := do
  let a : Vec F S128x256 .f32 ← Prog.lift (.load accM (Rect.unit (s := S2048x1024) o S128x256.size ho).toLoadRect (View.loadsAt_vmem h_S128x256))
  let b : Vec F S1x128x256 .f32 ← Prog.lift (.load m (Rect.unit (s := ⟨3, z⟩) o3 S1x128x256.size h3).toLoadRect (View.loadsAt_vmem h_S1x128x256))
  let _ : Vec F S128x256 .f32 ← Prog.lift (.load accM (Rect.unit (s := S2048x1024) o S128x256.size ho).toLoadRect (View.loadsAt_vmem h_S128x256))
  Prog.lift (.store accM (Rect.unit (s := S2048x1024) o S128x256.size ho) (k0_pay24 a b) Finset.univ (View.stores_vmem_bits_univ h_S128x256 rfl) (.inl rfl))

/-- A landing slot of a buffer of slots. -/
abbrev slotOf {z : Fin 3 → Nat} (m : Memref sig .tc .vmem ⟨3, z⟩ .f32) (o3 : Fin 3 → Nat)
    (h3 : ∀ a, o3 a + S1x128x256.size a ≤ z a) : Memref sig .tc .vmem S128x256 .f32 :=
  (m.slice (Rect.unit (s := ⟨3, z⟩) o3 S1x128x256.size h3) (fun _ => rfl)).squeeze S128x256 squeezes_S1x128x256_S128x256

theorem pay24_eq (a : FVec F S128x256 .f32) (b : Vec F S1x128x256 .f32) :
    k0_pay24 a b = addB a (shapeCast S128x256 b shapeCasts_S1x128x256_S128x256) := by
  unfold k0_pay24
  exact funext fun i => congrArg _ (Shape.reshapeEquiv_self _ i)

theorem acc_eq (c : Dev nD) (o : Fin 2 → Nat) (ho : Inb o) (q : PosShare TreeShare) (X : FVec F S128x256 .f32) :
    has c (accAt o ho) q X = iprop(∃ f : Buf (Elt F) ((accM.access (Rect.unit (s := S2048x1024) o S128x256.size ho)).loc (c : Thread nD τ)),
      ⌜(accM.access (Rect.unit (s := S2048x1024) o S128x256.size ho)).read (Elt F) f = X⌝
        ∗ ((accM.access (Rect.unit (s := S2048x1024) o S128x256.size ho)).loc (c : Thread nD τ) ↦[(accM.access (Rect.unit (s := S2048x1024) o S128x256.size ho)).set]{q} f)) := rfl
theorem out_eq (c : Dev nD) (o : Fin 2 → Nat) (ho : Inb o) (q : PosShare TreeShare) (X : FVec F S128x256 .f32) :
    has c (outAt o ho) q X = iprop(∃ f : Buf (Elt F) ((outM.access (Rect.unit (s := S2048x1024) o S128x256.size ho)).loc (c : Thread nD τ)),
      ⌜(outM.access (Rect.unit (s := S2048x1024) o S128x256.size ho)).read (Elt F) f = X⌝
        ∗ ((outM.access (Rect.unit (s := S2048x1024) o S128x256.size ho)).loc (c : Thread nD τ) ↦[(outM.access (Rect.unit (s := S2048x1024) o S128x256.size ho)).set]{q} f)) := rfl
theorem outRaw_eq (c : Dev nD) (o : Fin 2 → Nat) (ho : Inb o) :
    raw (F := F) c (outAt o ho) = iprop(∃ f : Buf (Elt F) ((outM.access (Rect.unit (s := S2048x1024) o S128x256.size ho)).loc (c : Thread nD τ)),
      ((outM.access (Rect.unit (s := S2048x1024) o S128x256.size ho)).loc (c : Thread nD τ) ↦[(outM.access (Rect.unit (s := S2048x1024) o S128x256.size ho)).set]{fullShare} f)) := rfl
theorem slot_eq {z : Fin 3 → Nat} (c : Dev nD) (m : Memref sig .tc .vmem ⟨3, z⟩ .f32) (o3 : Fin 3 → Nat)
    (h3 : ∀ a, o3 a + S1x128x256.size a ≤ z a) (q : PosShare TreeShare) (X : FVec F S128x256 .f32) :
    has c (slotOf m o3 h3) q X = iprop(∃ f : Buf (Elt F) ((m.access (Rect.unit (s := ⟨3, z⟩) o3 S1x128x256.size h3)).loc (c : Thread nD τ)),
      ⌜shapeCast S128x256 ((m.access (Rect.unit (s := ⟨3, z⟩) o3 S1x128x256.size h3)).read (Elt F) f) shapeCasts_S1x128x256_S128x256 = X⌝
        ∗ ((m.access (Rect.unit (s := ⟨3, z⟩) o3 S1x128x256.size h3)).loc (c : Thread nD τ) ↦[(m.access (Rect.unit (s := ⟨3, z⟩) o3 S1x128x256.size h3)).set]{q} f)) := by
  unfold has owns slotOf
  rw [Memref.view_squeeze, View.set_reshape]; rfl

theorem comb_ok {z : Fin 3 → Nat} (c : Dev nD) (m : Memref sig .tc .vmem ⟨3, z⟩ .f32) (o : Fin 2 → Nat) (ho : Inb o) (o3 : Fin 3 → Nat)
    (h3 : ∀ a, o3 a + S1x128x256.size a ≤ z a) (A X : FVec F S128x256 .f32) {α : Type} {Q : α → sProp 𝕄} {k : PUnit → Code F α} :
    iprop(has c (accAt o ho) fullShare A ∗ has c (slotOf m o3 h3) fullShare X)
      ⊢ iprop(((has c (accAt o ho) fullShare (addB A X) ∗ has c (slotOf m o3 h3) fullShare X) -∗ wpc c (k ⟨⟩) Q)
          -∗ wpc c (combP m o ho o3 h3 >>= k) Q) := by
  rw [acc_eq, acc_eq, slot_eq]
  iintro ⟨⟨%f, %hf, Ha⟩, ⟨%g, %hg, Hs⟩⟩ Hk
  simp only [combP, Prog.lift, Prog.bind_op, Prog.bind_ret]
  iapply (wp_load_rect 𝒱₀ (c : Thread nD τ) none Set.univ (m := accM) (r := Rect.unit (s := S2048x1024) o S128x256.size ho) (Finset.Subset.refl _)) $$ Ha; iintro Ha
  iapply (wp_load_rect 𝒱₀ (c : Thread nD τ) none Set.univ (m := m) (r := Rect.unit (s := ⟨3, z⟩) o3 S1x128x256.size h3) (Finset.Subset.refl _)) $$ Hs; iintro Hs
  iapply (wp_load_rect 𝒱₀ (c : Thread nD τ) none Set.univ (m := accM) (r := Rect.unit (s := S2048x1024) o S128x256.size ho) (Finset.Subset.refl _)) $$ Ha; iintro Ha
  iapply (wp_store 𝒱₀ (c : Thread nD τ) none Set.univ (m := accM) (r := Rect.unit (s := S2048x1024) o S128x256.size ho) (Mk := Finset.univ) (by rw [View.setOn_univ])) $$ Ha; iintro Ha
  iapply Hk
  isplitl [Ha]
  · iexists _; isplitr [Ha]
    rotate_left
    · iexact Ha
    · ipureintro
      refine (View.read_write_univ _ _).trans ?_
      rw [pay24_eq, ← hf, ← hg]
  · iexists g; isplitr
    · ipureintro; exact hg
    · iexact Hs

theorem addR_ok (c : Dev nD) (si : Fin 4) (s : Fin 8) {α : Type} {Q : α → sProp 𝕄} {k : PUnit → Code F α} :
    iprop(interp V c (.acc (cj (7 - s.val)) si (if s.val = 7 then 1 else 0)) ∗ interp V c (.inb ⟨si, .rsR, s⟩))
      ⊢ iprop(((interp V c (.acc (cj (7 - s.val)) si (if s.val = 7 then 2 else 1)) ∗ interp V c (.inb ⟨si, .rsR, s⟩)) -∗ wpc c (k ⟨⟩) Q)
          -∗ wpc c (combR c si s >>= k) Q) := by
  have hb : combOffR c si s = blk c (cj (7 - s.val)).val si := (combOffR_eq c si s).trans (blk_congr c c si (by show (c.val + (7 - s.val)) % 16 = (c.val + (7 - s.val) % 16) % 16; omega))
  have e1 : interp V c (.acc (cj (7 - s.val)) si (if s.val = 7 then 1 else 0)) = has c (accAt (combOffR c si s) (combOffR_inb c si s)) fullShare (accV V c (cj (7 - s.val)).val si (if s.val = 7 then 1 else 0)) :=
    (accB_has _ si hb _ _ rfl).symm
  have e2 : interp V c (.acc (cj (7 - s.val)) si (if s.val = 7 then 2 else 1))
      = has c (accAt (combOffR c si s) (combOffR_inb c si s)) fullShare (addB (accV V c (cj (7 - s.val)).val si (if s.val = 7 then 1 else 0)) (accR V si s.val (prv c))) := by
    refine (accB_has _ si hb _ _ ?_).symm
    obtain ⟨s, hs⟩ := s
    interval_cases s <;> rfl
  rw [e1, e2]
  exact comb_ok c (memR si) _ _ _ (inbR s) _ _

theorem partB_mod (c : Dev nD) (si : Fin 4) (j k : Nat) (h : (c.val + j) % 16 = (c.val + k) % 16) : partB V c j si = partB V c k si := by
  have : ch c j = ch c k := Fin.ext h
  unfold partB; rw [this]

theorem addL_ok (c : Dev nD) (si : Fin 4) (s : Fin 7) {α : Type} {Q : α → sProp 𝕄} {k : PUnit → Code F α} :
    iprop(interp V c (.acc (cj (10 + s.val)) si 0) ∗ interp V c (.inb ⟨si, .rsL, s⟩))
      ⊢ iprop(((interp V c (.acc (cj (10 + s.val)) si 1) ∗ interp V c (.inb ⟨si, .rsL, s⟩)) -∗ wpc c (k ⟨⟩) Q)
          -∗ wpc c (combL c si s >>= k) Q) := by
  have hb : combOffL c si s = blk c (cj (10 + s.val)).val si := (combOffL_eq c si s).trans (blk_congr c c si (by show (c.val + (10 + s.val)) % 16 = (c.val + (10 + s.val) % 16) % 16; omega))
  have e1 : interp V c (.acc (cj (10 + s.val)) si 0) = has c (accAt (combOffL c si s) (combOffL_inb c si s)) fullShare (accV V c (cj (10 + s.val)).val si 0) :=
    (accB_has _ si hb _ _ rfl).symm
  have e2 : interp V c (.acc (cj (10 + s.val)) si 1)
      = has c (accAt (combOffL c si s) (combOffL_inb c si s)) fullShare (addB (accV V c (cj (10 + s.val)).val si 0) (accL V si s.val (nxt c))) := by
    refine (accB_has _ si hb _ _ ?_).symm
    have hp : accV V c (cj (10 + s.val)).val si 0 = partB V c (10 + s.val) si := partB_mod V c si _ _ (by show (c.val + (10 + s.val) % 16) % 16 = (c.val + (10 + s.val)) % 16; omega)
    rw [hp]
    obtain ⟨s, hs⟩ := s
    interval_cases s
    iterate 6 rfl
    have hv : accV V c (cj (10 + 6)).val si 1 = accL V si 7 c := by simp only [accV]; exact if_pos rfl
    have h7 : accL V si 7 c = addB (partB V c 16 si) (accL V si 6 (nxt c)) := by rw [accL]
    exact h7.symm.trans hv.symm
  rw [e1, e2]
  exact comb_ok c (memL si) _ _ _ (inbL s) _ _

/-! ## Copying the device's own block -/

theorem own_ok (c : Dev nD) (si : Fin 4) {α : Type} {Q : α → sProp 𝕄} {k : PUnit → Code F α} :
    iprop(interp V c (.acc (cj 0) si 2) ∗ interp V c (.raw si))
      ⊢ iprop(((interp V c (.acc (cj 0) si 2) ∗ interp V c (.half si false) ∗ interp V c (.half si true)) -∗ wpc c (k ⟨⟩) Q)
          -∗ wpc c (ownP c si >>= k) Q) := by
  have hb : ownOff c si = blk c 0 si := ownOff_eq c si
  have e1 : interp V c (.acc (cj 0) si 2) = has c (accAt (ownOff c si) (ownOff_inb c si)) fullShare (fin V c si) :=
    (accB_has _ si hb _ _ rfl).symm
  have e2 : interp V c (.raw si) = raw c (outAt (ownOff c si) (ownOff_inb c si)) := by
    show raw c (outB c 0 si) = _
    rw [outAt_congr hb (ownOff_inb c si) (blk_inb c 0 si)]
  have hc : (⟨(c.val + 0) % 16, Nat.mod_lt _ (by decide)⟩ : Dev nD) = c := by
    have hc : c.val < 16 := c.isLt
    apply Fin.ext; show (c.val + 0) % 16 = c.val; omega
  have e3 : ∀ b, interp V c (.half si b) = has c (outAt (ownOff c si) (ownOff_inb c si)) (half b) (fin V c si) := fun b => by
    show has c (outB c 0 si) (half b) (fin V _ si) = _
    rw [hc]
    exact (outB_has _ si hb _ _ rfl).symm
  rw [e1, e2, e3, e3]
  rw [acc_eq, outRaw_eq, out_eq, out_eq]
  iintro ⟨⟨%f, %hf, Ha⟩, ⟨%g, Hs⟩⟩ Hk
  simp only [ownP, Prog.lift, Prog.bind_op, Prog.bind_ret]
  iapply (wp_load_rect 𝒱₀ (c : Thread nD τ) none Set.univ (m := accM) (r := Rect.unit (s := S2048x1024) (ownOff c si) S128x256.size (ownOff_inb c si)) (Finset.Subset.refl _)) $$ Ha; iintro Ha
  iapply (wp_load_rect 𝒱₀ (c : Thread nD τ) none Set.univ (m := outM) (r := Rect.unit (s := S2048x1024) (ownOff c si) S128x256.size (ownOff_inb c si)) (Finset.Subset.refl _)) $$ Hs; iintro Hs
  iapply (wp_store 𝒱₀ (c : Thread nD τ) none Set.univ (m := outM) (r := Rect.unit (s := S2048x1024) (ownOff c si) S128x256.size (ownOff_inb c si)) (Mk := Finset.univ) (by rw [View.setOn_univ])) $$ Hs; iintro Hs
  have hr : ∀ w, (outM.access (Rect.unit (s := S2048x1024) (ownOff c si) S128x256.size (ownOff_inb c si))).read (Elt F) ((outM.access (Rect.unit (s := S2048x1024) (ownOff c si) S128x256.size (ownOff_inb c si))).write (Elt F) g w Finset.univ) = w :=
    fun w => View.read_write_univ _ _
  ihave Hs := (pointsTo_share (PosShare.mem_left_op_right fullShare)).1 $$ Hs
  icases Hs with ⟨H1, H2⟩
  iapply Hk
  isplitl [Ha]
  · iexists f; isplitr
    · ipureintro; exact hf
    · iexact Ha
  isplitl [H1]
  · iexists _; isplitr [H1]
    rotate_left
    · iexact H1
    · ipureintro; exact (hr _).trans hf
  · iexists _; isplitr [H2]
    rotate_left
    · iexact H2
    · ipureintro; exact (hr _).trans hf

/-! ## Computing a chunk -/

/-- The elements of a block, as elements of the accumulator. -/
def blkSet (c : Dev nD) (j : Nat) (si : Fin 4) : Finset S2048x1024.Idx := (accB c j si).view.set
def rowSet (k : Fin 16) : Finset S2048x1024.Idx := (accM.access (rectA k)).set

theorem mem_accB (o : Fin 2 → Nat) (ho : Inb o) (i : S2048x1024.Idx) :
    i ∈ (accAt o ho).view.set ↔ ∀ a, o a ≤ (i a).val ∧ (i a).val < o a + S128x256.size a := by
  have h : (accAt o ho).view.set = (Rect.unit (s := S2048x1024) o S128x256.size ho).set :=
    View.set_slice_whole cc0_scratch0 (Rect.unit (s := S2048x1024) o S128x256.size ho)
  rw [h]; exact Rect.mem_set_unit

theorem mem_row (k : Fin 16) (i : S2048x1024.Idx) :
    i ∈ rowSet k ↔ 128 * k.val ≤ (i 0).val ∧ (i 0).val < 128 * k.val + 128 := by
  have h : (accM.access (rectA k)).set = (rectA k).set := View.set_slice_whole cc0_scratch0 (rectA k)
  show i ∈ (accM.access (rectA k)).set ↔ _
  rw [h]
  refine Rect.mem_set_unit.trans ⟨fun h => h 0, fun h a => ?_⟩
  have h1 : (i 1).val < 1024 := (i 1).isLt
  fin_cases a
  · exact h
  · exact ⟨Nat.zero_le _, by show (i 1).val < 0 + 1024; omega⟩

theorem mem_blk (c : Dev nD) (j : Nat) (si : Fin 4) (i : S2048x1024.Idx) :
    i ∈ blkSet c j si ↔ (128 * (ch c j).val ≤ (i 0).val ∧ (i 0).val < 128 * (ch c j).val + 128) ∧ 256 * si.val ≤ (i 1).val ∧ (i 1).val < 256 * si.val + 256 := by
  refine (mem_accB _ _ i).trans ⟨fun h => ⟨h 0, h 1⟩, fun h a => ?_⟩
  fin_cases a
  · exact h.1
  · exact h.2

theorem row_set (c : Dev nD) (j : Nat) : Finset.univ.biUnion (blkSet c j) = rowSet (ch c j) := by
  ext i
  have h1 : (i 1).val < 1024 := (i 1).isLt
  rw [Finset.mem_biUnion, mem_row]
  constructor
  · rintro ⟨si, -, h⟩
    exact ((mem_blk c j si i).mp h).1
  · intro h
    refine ⟨⟨(i 1).val / 256, by omega⟩, Finset.mem_univ _, (mem_blk c j _ i).mpr ⟨h, ?_⟩⟩
    show 256 * ((i 1).val / 256) ≤ _ ∧ _ < 256 * ((i 1).val / 256) + 256
    omega

theorem row_disj (c : Dev nD) (j : Nat) (si si' : Fin 4) (h : si ≠ si') : Disjoint (blkSet c j si) (blkSet c j si') := by
  rw [Finset.disjoint_left]
  intro i h1 h2
  have h1 := ((mem_blk c j si i).mp h1).2
  have h2 := ((mem_blk c j si' i).mp h2).2
  exact h (Fin.ext (by omega))

theorem row_read (c : Dev nD) (j : Nat) (si : Fin 4) (f : Buf (Elt F) ((c : Thread nD τ).loc cc0_scratch0)) (w : FVec F S128x1024 .f32) :
    (accB c j si).view.read (Elt F) ((accM.access (rectA (ch c j))).write (Elt F) f w Finset.univ) = fun i => w ((rectS si).emb i) := by
  funext i
  have he : (accB c j si).view.emb i = (accM.access (rectA (ch c j))).emb ((rectS si).emb i) := by
    funext a
    apply Fin.ext
    fin_cases a
    · show 128 * ((c.val + j) % 16) + 1 * (i 0).val = 128 * ((c.val + j) % 16) + 1 * (0 + 1 * (i 0).val); omega
    · show 256 * si.val + 1 * (i 1).val = 0 + 1 * (256 * si.val + 1 * (i 1).val); omega
  have h1 := View.read_write_univ (v := accM.access (rectA (ch c j))) (Val := Elt F) f w
  have h2 := congrFun h1 ((rectS si).emb i)
  generalize (accM.access (rectA (ch c j))).write (Elt F) f w Finset.univ = g at h2 ⊢
  refine Eq.trans ?_ h2
  show g ((accB c j si).view.emb i) = g ((accM.access (rectA (ch c j))).emb ((rectS si).emb i))
  exact congrArg g he

theorem blk_has (c : Dev nD) (j : Nat) (si : Fin 4) (f : Buf (Elt F) ((c : Thread nD τ).loc cc0_scratch0)) :
    (((accM.access (rectA (ch c j))).loc (c : Thread nD τ) ↦[blkSet c j si]{fullShare} ((accM.access (rectA (ch c j))).write (Elt F) f (rowC V c (ch c j)) Finset.univ)) : sProp 𝕄)
      ⊢ has c (accB c j si) fullShare (partB V c j si) := by
  unfold has owns
  iintro H
  iexists _; isplitr [H]
  rotate_left
  · iexact H
  · ipureintro; exact row_read c j si f _

theorem row_split (c : Dev nD) (j : Nat) (f : Buf (Elt F) ((c : Thread nD τ).loc cc0_scratch0)) :
    (((accM.access (rectA (ch c j))).loc (c : Thread nD τ) ↦[rowSet (ch c j)]{fullShare} ((accM.access (rectA (ch c j))).write (Elt F) f (rowC V c (ch c j)) Finset.univ)) : sProp 𝕄)
      ⊢ iprop(has c (accB c j 0) fullShare (partB V c j 0) ∗ has c (accB c j 1) fullShare (partB V c j 1)
            ∗ has c (accB c j 2) fullShare (partB V c j 2) ∗ has c (accB c j 3) fullShare (partB V c j 3)) := by
  refine (Entails.of_eq (Ring.pointsTo_sub_blocks (blkSet c j) (row_disj c j) _ (row_set c j) _)).trans ?_
  refine (Entails.of_eq (bigSep_univ_eq_bigSepL [(0 : Fin 4), 1, 2, 3] (by decide) (by decide) _)).trans ?_
  generalize hG : (accM.access (rectA (ch c j))).write (Elt F) f (rowC V c (ch c j)) Finset.univ = g
  refine (Entails.of_eq (show _ = iprop(((accM.access (rectA (ch c j))).loc (c : Thread nD τ) ↦[blkSet c j 0]{fullShare} g) ∗ ((accM.access (rectA (ch c j))).loc (c : Thread nD τ) ↦[blkSet c j 1]{fullShare} g)
    ∗ ((accM.access (rectA (ch c j))).loc (c : Thread nD τ) ↦[blkSet c j 2]{fullShare} g) ∗ ((accM.access (rectA (ch c j))).loc (c : Thread nD τ) ↦[blkSet c j 3]{fullShare} g)) from rfl)).trans ?_
  subst hG
  iintro ⟨A0, A1, A2, A3⟩
  isplitl [A0]; · iapply (blk_has V c j 0 f); iexact A0
  isplitl [A1]; · iapply (blk_has V c j 1 f); iexact A1
  isplitl [A2]; · iapply (blk_has V c j 2 f); iexact A2
  iapply (blk_has V c j 3 f); iexact A3

theorem comp_ok (c : Dev nD) (j : Nat) (ox o0 o1 o2 o3 oa : Fin 2 → Nat)
    (hx : ∀ a, ox a + S128x512.size a ≤ S2048x512.size a) (h0 : ∀ a, o0 a + S128x1.size a ≤ S2048x4.size a)
    (h1 : ∀ a, o1 a + S128x1.size a ≤ S2048x4.size a) (h2 : ∀ a, o2 a + S128x1.size a ≤ S2048x4.size a)
    (h3 : ∀ a, o3 a + S128x1.size a ≤ S2048x4.size a) (ha : ∀ a, oa a + S128x1024.size a ≤ S2048x1024.size a)
    (ex : ox = ![128 * (ch c j).val, 0]) (e0 : o0 = ![128 * (ch c j).val, 0]) (e1 : o1 = ![128 * (ch c j).val, 1])
    (e2 : o2 = ![128 * (ch c j).val, 2]) (e3 : o3 = ![128 * (ch c j).val, 3]) (ea : oa = ![128 * (ch c j).val, 0])
    {α : Type} {Q : α → sProp 𝕄} {k : PUnit → Code F α} :
    iprop(envR V c ∗ rowR c j)
      ⊢ iprop(((envR V c ∗ has c (accB c j 0) fullShare (partB V c j 0) ∗ has c (accB c j 1) fullShare (partB V c j 1)
            ∗ has c (accB c j 2) fullShare (partB V c j 2) ∗ has c (accB c j 3) fullShare (partB V c j 3)) -∗ wpc c (k ⟨⟩) Q)
          -∗ wpc c (compP (V.e c) ox o0 o1 o2 o3 oa hx h0 h1 h2 h3 ha >>= k) Q) := by
  subst ex e0 e1 e2 e3 ea
  unfold envR rowR
  iintro ⟨⟨Hx, Hw⟩, ⟨%f, Ha⟩⟩ Hk
  simp only [compP, Prog.lift, Prog.bind_op, Prog.bind_ret]
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (wp_load_rect 𝒱₀ (c : Thread nD τ) none Set.univ (m := accM) (r := rectA (ch c j)) (Finset.Subset.refl _)) $$ Ha; iintro Ha
  iapply (wp_store 𝒱₀ (c : Thread nD τ) none Set.univ (m := accM) (r := rectA (ch c j)) (Mk := Finset.univ) (by rw [View.setOn_univ])) $$ Ha; iintro Ha
  iapply Hk
  isplitl [Hx Hw]
  · isplitl [Hx] <;> iassumption
  iapply (row_split V c j f)
  iexact Ha

end Cert.Ring
-- ==== Proof.Walk.lean ====
/-
# Running the steps

Each step takes its tokens and leaves others; the whole list is run by checking, step by step, that the tokens it
takes are there.
-/
module

public import proofs.«01_k».proof.Proof.Loads

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Data F) (K : Dev nD × Cx → ℕ)

/-! ## One step -/

theorem hold_one (c : Dev nD) (t : Tok) : hold V c [t] = interp V c t := by
  show bigSepM ({t} : Multiset Tok) (interp V c) = _
  exact bigSepM_singleton _ _

theorem hold_cons2 (c : Dev nD) (t u : Tok) : hold V c [t, u] = iprop(interp V c t ∗ interp V c u) := by
  rw [hold_cons, hold_one]

theorem comp_off (c : Dev nD) (n j e : Nat) (h : n % 16 = (c.val + j) % 16) : (![128 * (n % 16), e] : Fin 2 → Nat) = ![128 * (ch c j).val, e] := by
  rw [h]

theorem comp_step (c : Dev nD) (g : Grp) {α : Type} {Q : α → sProp 𝕄} {k : PUnit → Code F α} :
    iprop(envR V c ∗ rowR c (cj g.chunk).val)
      ⊢ iprop(((envR V c ∗ has c (accB c (cj g.chunk).val 0) fullShare (partB V c (cj g.chunk).val 0) ∗ has c (accB c (cj g.chunk).val 1) fullShare (partB V c (cj g.chunk).val 1)
            ∗ has c (accB c (cj g.chunk).val 2) fullShare (partB V c (cj g.chunk).val 2) ∗ has c (accB c (cj g.chunk).val 3) fullShare (partB V c (cj g.chunk).val 3)) -∗ wpc c (k ⟨⟩) Q)
          -∗ wpc c ((Step.comp g).run c (V.e c) >>= k) Q) := by
  cases g with
  | first r =>
    have hh : (c.val + r.val + 72) % 16 = (c.val + (cj (8 + r.val)).val) % 16 := by show _ = (c.val + (8 + r.val) % 16) % 16; omega
    exact comp_ok V c (cj (8 + r.val)).val _ _ _ _ _ _ _ _ _ _ _ _
      ((k0_off1_eq c r).trans (comp_off c _ _ _ hh)) ((k0_off2_eq c r).trans (comp_off c _ _ _ hh)) ((k0_off3_eq c r).trans (comp_off c _ _ _ hh))
      ((k0_off4_eq c r).trans (comp_off c _ _ _ hh)) ((k0_off5_eq c r).trans (comp_off c _ _ _ hh)) ((k0_off6_eq c r).trans (comp_off c _ _ _ hh))
  | right r =>
    have hr := r.isLt
    have hh : (c.val + 71 - r.val) % 16 = (c.val + (cj (7 - r.val)).val) % 16 := by show _ = (c.val + (7 - r.val) % 16) % 16; omega
    exact comp_ok V c (cj (7 - r.val)).val _ _ _ _ _ _ _ _ _ _ _ _
      ((k0_off15_eq c r).trans (comp_off c _ _ _ hh)) ((k0_off16_eq c r).trans (comp_off c _ _ _ hh)) ((k0_off17_eq c r).trans (comp_off c _ _ _ hh)) ((k0_off18_eq c r).trans (comp_off c _ _ _ hh)) ((k0_off19_eq c r).trans (comp_off c _ _ _ hh)) ((k0_off20_eq c r).trans (comp_off c _ _ _ hh))
  | left r =>
    have hr := r.isLt
    have hh : (c.val + r.val + 74) % 16 = (c.val + (cj (10 + r.val)).val) % 16 := by show _ = (c.val + (10 + r.val) % 16) % 16; omega
    exact comp_ok V c (cj (10 + r.val)).val _ _ _ _ _ _ _ _ _ _ _ _
      ((k0_off21_eq c r).trans (comp_off c _ _ _ hh)) ((k0_off22_eq c r).trans (comp_off c _ _ _ hh)) ((k0_off23_eq c r).trans (comp_off c _ _ _ hh)) ((k0_off24_eq c r).trans (comp_off c _ _ _ hh)) ((k0_off25_eq c r).trans (comp_off c _ _ _ hh)) ((k0_off26_eq c r).trans (comp_off c _ _ _ hh))

theorem step_ok (c : Dev nD) (st : Step) (l : List Step) (ha : st.allowed l = true) {α : Type} {Q : α → sProp 𝕄} {k : PUnit → Code F α} :
    iprop(records V K ∗ hold V c st.pre ∗ (∃ W, owes (c : Thread nD τ) (owed c (sends (st :: l))) W))
      ⊢ iprop(((hold V c st.post ∗ (∃ W, owes (c : Thread nD τ) (owed c (sends l)) W)) -∗ wpc c (k ⟨⟩) Q)
          -∗ wpc c (st.run c (V.e c) >>= k) Q) := by
  cases st with
  | comp g =>
    show iprop(records V K ∗ hold V c [.env, .row (cj g.chunk)] ∗ (∃ W, owes (c : Thread nD τ) (owed c (sends l)) W)) ⊢ _
    simp only [Step.post, hold_cons, hold_nil, interp, accV]
    iintro ⟨#Hr, ⟨He, Hrow, -⟩, HO⟩ Hk
    iapply (comp_step V c g) $$ [He Hrow]
    · isplitl [He] <;> iassumption
    iintro ⟨He, A0, A1, A2, A3⟩
    iapply Hk
    isplitr [HO]
    rotate_left
    · iexact HO
    isplitl [He]; · iexact He
    isplitl [A0]; · iexact A0
    isplitl [A1]; · iexact A1
    isplitl [A2]; · iexact A2
    isplitl [A3]; · iexact A3
    iempintro
  | send f =>
    simp only [Step.pre, Step.post, hold_cons2, hold_one]
    iintro ⟨#Hr, ⟨H1, H2⟩, HO⟩ Hk
    iapply (send_ok V K c (peer c f.ln) f (peer_eq c f.ln) (owed c (sends l))) $$ [H1 H2 HO]
    · isplitr; · iexact Hr
      isplitl [H1]; · iexact H1
      isplitl [H2]; · iexact H2
      iexact HO
    iexact Hk
  | recv f =>
    have hl : ∀ g ∈ sends l, stage f < stage g := fun g hg => of_decide_eq_true (List.all_eq_true.mp ha g hg)
    simp only [Step.pre, Step.post, hold_cons2, hold_one]
    iintro ⟨#Hr, H1, HO⟩ Hk
    iapply (recv_ok V K c f (sends l) hl) $$ [H1 HO]
    · isplitr; · iexact Hr
      isplitl [H1]; · iexact H1
      iexact HO
    iintro ⟨A, B, C⟩
    iapply Hk
    isplitr [C]
    · isplitl [A] <;> iassumption
    · iexact C
  | addR si s =>
    simp only [Step.pre, Step.post, hold_cons2, hold_one]
    iintro ⟨#Hr, ⟨H1, H2⟩, HO⟩ Hk
    iapply (addR_ok V c si s) $$ [H1 H2]
    · isplitl [H1] <;> iassumption
    iintro H
    iapply Hk
    isplitl [H]; · iexact H
    iexact HO
  | addL si s =>
    simp only [Step.pre, Step.post, hold_cons2, hold_one]
    iintro ⟨#Hr, ⟨H1, H2⟩, HO⟩ Hk
    iapply (addL_ok V c si s) $$ [H1 H2]
    · isplitl [H1] <;> iassumption
    iintro H
    iapply Hk
    isplitl [H]; · iexact H
    iexact HO
  | own si =>
    simp only [Step.pre, Step.post]
    rw [hold_cons2, hold_cons, hold_cons2]
    iintro ⟨#Hr, ⟨H1, H2⟩, HO⟩ Hk
    iapply (own_ok V c si) $$ [H1 H2]
    · isplitl [H1]; · iexact H1
      iexact H2
    iintro H
    iapply Hk
    isplitl [H]; · iexact H
    iexact HO
  | sent f =>
    simp only [Step.pre, Step.post, hold_cons2, hold_one]
    iintro ⟨#Hr, H1, HO⟩ Hk
    iapply (sent_ok V K c f (sends l)) $$ [H1 HO]
    · isplitr; · iexact Hr
      isplitl [H1]; · iexact H1
      iexact HO
    iintro ⟨A, B, C⟩
    iapply Hk
    isplitr [C]
    · isplitl [A] <;> iassumption
    · iexact C

/-! ## The list of steps -/

def Flt.same (f g : Flt) : Bool := Nat.beq f.s.val g.s.val && (Nat.beq f.si.val g.si.val && Nat.beq f.ln.base g.ln.base)

theorem Flt.same_eq {f g : Flt} (h : f.same g = true) : f = g := by
  obtain ⟨si, ln, s, hs⟩ := f
  obtain ⟨ti, mn, t, ht⟩ := g
  simp only [Flt.same, Bool.and_eq_true, Bool.and_eq_true] at h
  obtain ⟨h1, h2, h3⟩ := h
  have h2 : si = ti := Fin.ext (Nat.eq_of_beq_eq_true h2)
  have h1 : s = t := Nat.eq_of_beq_eq_true h1
  have h3 : ln = mn := by cases ln <;> cases mn <;> first | rfl | exact absurd h3 (by decide)
  subst h1 h2 h3
  rfl

/-- The kind of a token, and the numbers it names, in one number. -/
def Flt.code (f : Flt) : Nat := 16 * (4 * f.ln.base + f.si.val) + f.s.val

def Tok.kind : Tok → Nat
  | .ready _ => 0 | .flying _ => 1 | .done _ => 2 | .expect _ => 3 | .got _ => 4 | .inb _ => 5
  | .row _ => 6 | .acc _ _ _ => 7 | .raw _ => 8 | .out _ _ => 9 | .half _ _ => 10 | .env => 11

def Tok.arg : Tok → Nat
  | .ready f | .flying f | .done f | .expect f | .got f | .inb f => f.code
  | .row j => j.val | .acc j si v => 16 * (4 * v.val + si.val) + j.val | .raw si => si.val | .out j si => 16 * si.val + j.val
  | .half si b => match b with | false => si.val | true => 4 + si.val
  | .env => 0

def Tok.same (a b : Tok) : Bool := match Nat.beq a.kind b.kind with
  | true => Nat.beq a.arg b.arg
  | false => false

theorem Flt.code_inj {f g : Flt} (h : f.code = g.code) : f = g := by
  have h1 := f.s_lt
  have h2 := g.s_lt
  refine Flt.same_eq ?_
  have h3 := f.si.isLt
  have h4 := g.si.isLt
  unfold Flt.code at h
  have e1 : f.s.val = g.s.val := by omega
  have e2 : f.si.val = g.si.val := by omega
  have e3 : f.ln.base = g.ln.base := by omega
  unfold Flt.same
  rw [e1, e2, e3]
  simp only [Nat.beq_refl, Bool.and_self]

theorem Tok.same_eq {a b : Tok} (h : a.same b = true) : a = b := by
  unfold Tok.same at h
  split at h
  · rename_i hk
    have hk := Nat.eq_of_beq_eq_true hk
    have ha := Nat.eq_of_beq_eq_true h
    clear h
    cases a <;> cases b <;> simp only [Tok.kind] at hk <;> (try omega) <;> clear hk <;> simp only [Tok.arg] at ha
    iterate 6 exact congrArg _ (Flt.code_inj ha)
    · exact congrArg _ (Fin.ext ha)
    · rename_i j si v k ti w
      have e1 : j = k := by omega
      have e2 : si = ti := by omega
      have e3 : v = w := by omega
      subst e1 e2 e3; rfl
    · exact congrArg _ (Fin.ext ha)
    · rename_i j si k ti
      have e1 : j = k := by omega
      have e2 : si = ti := by omega
      subst e1 e2; rfl
    · rename_i si x ti y
      have h1 := si.isLt
      have h2 := ti.isLt
      cases x <;> cases y <;> simp only at ha <;> first | omega | (have e : si = ti := by omega); subst e; rfl
    · rfl
  · cases h

/-- The tokens left once `t` is taken. -/
def take (t : Tok) : List Tok → Option (List Tok)
  | [] => none
  | x :: T => match x.same t with
    | true => some T
    | false => (take t T).map (x :: ·)

def takeAll : List Tok → List Tok → Option (List Tok)
  | [], T => some T
  | t :: ts, T => (take t T).bind (takeAll ts)

def walk : List Step → List Tok → Option (List Tok)
  | [], T => some T
  | st :: l, T => match st.allowed l with
    | true => (takeAll st.pre T).bind fun T' => walk l (st.post ++ T')
    | false => none

theorem take_perm (t : Tok) : ∀ T T' : List Tok, take t T = some T' → T.Perm (t :: T')
  | [], _, h => by cases h
  | x :: T, T', h => by
    unfold take at h
    split at h
    · rename_i hx
      cases h
      rw [Tok.same_eq hx]
    · obtain ⟨T'', h', rfl⟩ := Option.map_eq_some_iff.mp h
      exact ((take_perm t T T'' h').cons x).trans (List.Perm.swap t x T'')

theorem takeAll_perm : ∀ ts T T' : List Tok, takeAll ts T = some T' → T.Perm (ts ++ T')
  | [], T, T', h => by cases h; exact List.Perm.refl _
  | t :: ts, T, T', h => by
    obtain ⟨T'', h1, h2⟩ := Option.bind_eq_some_iff.mp h
    exact (take_perm t T T'' h1).trans ((takeAll_perm ts T'' T' h2).cons t)

theorem hold_perm (c : Dev nD) {T T' : List Tok} (h : T.Perm T') : hold V c T = hold V c T' := by
  unfold hold; rw [Multiset.coe_eq_coe.mpr h]

theorem takeAll_ok (c : Dev nD) {ts T T' : List Tok} (h : takeAll ts T = some T') : hold V c T = iprop(hold V c ts ∗ hold V c T') := by
  rw [hold_perm V c (takeAll_perm ts T T' h), hold_append]

theorem walk_ok (c : Dev nD) {Q : PUnit → sProp 𝕄} : ∀ (l : List Step) (T T' : List Tok), walk l T = some T' →
    iprop(records V K ∗ hold V c T ∗ (∃ W, owes (c : Thread nD τ) (owed c (sends l)) W))
      ⊢ iprop(((hold V c T' ∗ (∃ W, owes (c : Thread nD τ) 0 W)) -∗ Q ⟨⟩) -∗ wpc c (runAll c (V.e c) l) Q)
  | [], T, T', h => by
    cases h
    show iprop(records V K ∗ hold V c T ∗ (∃ W, owes (c : Thread nD τ) 0 W)) ⊢ _
    iintro ⟨#Hr, HT, HO⟩ Hk
    simp only [runAll, Prog.pure_eq_ret]
    unfold wpc
    rw [wp_ret]
    imodintro
    iapply Hk
    isplitl [HT] <;> iassumption
  | st :: l, T, T', h => by
    unfold walk at h
    split at h
    · rename_i ha
      obtain ⟨T'', h1, h2⟩ := Option.bind_eq_some_iff.mp h
      have ih := walk_ok c (Q := Q) l (st.post ++ T'') T' h2
      rw [takeAll_ok V c h1]
      rw [hold_append] at ih
      unfold runAll
      iintro ⟨#Hr, ⟨H1, H2⟩, HO⟩ Hk
      iapply (step_ok V K c st l ha (k := fun _ => runAll c (V.e c) l)) $$ [H1 HO]
      · isplitr; · iexact Hr
        isplitl [H1] <;> iassumption
      iintro ⟨H1, HO⟩
      iapply ih $$ [H1 H2 HO]
      · isplitr; · iexact Hr
        isplitr [HO]
        · isplitl [H1] <;> iassumption
        · iexact HO
      iexact Hk
    · cases h

/-! ## The check -/

/-- The chunks with the strips; the same without the device's own chunk. -/
def spots : List (Fin 16 × Fin 4) := (List.finRange 16).flatMap fun j => strips.map fun si => (j, si)
def others : List (Fin 16 × Fin 4) := (List.finRange 15).flatMap fun j => strips.map fun si => (cj (j.val + 1), si)
/-- The strips with the numbers of the transfers of a family. -/
def pr8 : List (Fin 4 × Fin 8) := strips.flatMap fun si => (List.finRange 8).map fun s => (si, s)
def pr7 : List (Fin 4 × Fin 7) := strips.flatMap fun si => (List.finRange 7).map fun s => (si, s)

/-- What a device holds before its first step. -/
def T₀ : List Tok := .env :: (started.map .ready ++ (started.map .expect ++ ((List.finRange 16).map .row ++ strips.map .raw)))

/-- How often a chunk of the accumulator has been added to at the end. -/
def lastV (j : Nat) : Fin 3 := if j = 0 then 2 else if j = 8 ∨ j = 9 then 0 else 1

/-- What it holds after its last. -/
def T₁ : List Tok := .env :: (started.map .done ++ (started.map .got
  ++ ((pr8.map fun p => .inb ⟨p.1, .rsR, p.2⟩) ++ ((pr7.map fun p => .inb ⟨p.1, .rsL, p.2⟩)
  ++ ((spots.map fun p => .acc p.1 p.2 (lastV p.1.val)) ++ ((others.map fun p => .out p.1 p.2)
  ++ ((strips.map fun si => .half si false) ++ (strips.map fun si => .half si true))))))))

theorem walk_steps : ((walk steps T₀).bind (takeAll T₁)) = some [] := by decide +kernel

theorem sends_steps : sends steps = started := by decide +kernel

end Cert.Ring
-- ==== Proof.Split.lean ====
/-
# Buffers in parts

The landing buffers as their slots, the accumulator as its rows and its blocks, the result as its blocks; and the
lists those parts are counted by.
-/
module

public import proofs.«01_k».proof.Proof.Walk
public import Idealize.ShloMosaic.Lib.Pipeline.BigSepL

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Data F)

/-! ## Lists of parts -/

theorem sepL_bag {I : Type} (l : List I) (Φ : I → sProp 𝕄) : bigSepL l Φ = bigSepM (l : Multiset I) Φ := by
  induction l with
  | nil => rfl
  | cons a l ih => rw [bigSepL_cons, ih]; exact (bigSepM_cons a (l : Multiset I) Φ).symm

theorem sepL_perm {I : Type} {l l' : List I} (h : l.Perm l') (Φ : I → sProp 𝕄) : bigSepL l Φ = bigSepL l' Φ := by
  rw [sepL_bag, sepL_bag, Multiset.coe_eq_coe.mpr h]

theorem sepL_flatMap {I J : Type} (l : List I) (g : I → List J) (Φ : J → sProp 𝕄) :
    bigSepL (l.flatMap g) Φ = bigSepL l fun i => bigSepL (g i) Φ := by
  induction l with
  | nil => rfl
  | cons a l ih => rw [List.flatMap_cons, bigSepL_append, bigSepL_cons, ih]; rfl

theorem sepL_congr {I : Type} {l : List I} {Φ Ψ : I → sProp 𝕄} (h : ∀ i ∈ l, Φ i = Ψ i) : bigSepL l Φ = bigSepL l Ψ := by
  induction l with
  | nil => rfl
  | cons a l ih => rw [bigSepL_cons, bigSepL_cons, h a List.mem_cons_self, ih fun i hi => h i (List.mem_cons_of_mem _ hi)]

theorem hold_list (c : Dev nD) (T : List Tok) : hold V c T = bigSepL T (interp V c) := (sepL_bag _ _).symm

theorem sep_fin {n : ℕ} (Φ : Fin n → sProp 𝕄) : bigSep Finset.univ Φ = bigSepL (List.finRange n) Φ :=
  bigSep_univ_eq_bigSepL (List.finRange n) (by ext i; simp) (List.nodup_finRange n) Φ

theorem sep_strips (Φ : Fin 4 → sProp 𝕄) : bigSep Finset.univ Φ = bigSepL strips Φ :=
  bigSep_univ_eq_bigSepL strips (by decide) (by decide) Φ

theorem sep_flt (Φ : Flt → sProp 𝕄) : bigSep Finset.univ Φ = bigSepL started Φ :=
  bigSep_univ_eq_bigSepL started (by ext f; simp [mem_started f]) started_nodup Φ

/-! ## Landing slots -/

theorem inbS' {n : ℕ} (s : Fin n) : ∀ a, (![s.val, 0, 0] : Fin 3 → Nat) a + S1x128x256.size a ≤ (![n, 128, 256] : Fin 3 → Nat) a := by
  have := s.isLt
  intro a; fin_cases a
  · show s.val + 1 ≤ n; omega
  · exact le_refl 128
  · exact le_refl 256

section Slots

variable {n : ℕ} (m : Memref sig .tc .vmem ⟨3, ![n, 128, 256]⟩ .f32) (hw : m.view.set = Finset.univ)

abbrev slotRect (s : Fin n) : Rect (⟨3, ![n, 128, 256]⟩ : Shape) := Rect.unit (s := ⟨3, ![n, 128, 256]⟩) ![s.val, 0, 0] S1x128x256.size (inbS' s)

def slotSet (s : Fin n) : Finset m.view.ty.Idx := (slotRect s).set.map m.view.emb

theorem slot_set (s : Fin n) : (slotOf m ![s.val, 0, 0] (inbS' s)).view.set = slotSet m s := by
  unfold slotSet
  refine Eq.trans ?_ (View.set_slice m.view (slotRect s))
  exact View.set_reshape _ _

theorem slot_disj (s s' : Fin n) (h : s ≠ s') : Disjoint (slotSet m s) (slotSet m s') := by
  unfold slotSet
  rw [Finset.disjoint_map, Finset.disjoint_left]
  intro i h1 h2
  have h1 := Rect.mem_set_unit.mp h1 0
  have h2 := Rect.mem_set_unit.mp h2 0
  refine h (Fin.ext ?_)
  change s.val ≤ (i 0).val ∧ (i 0).val < s.val + 1 at h1
  change s'.val ≤ (i 0).val ∧ (i 0).val < s'.val + 1 at h2
  omega

include hw in
theorem slot_cover : Finset.univ.biUnion (slotSet m) = Finset.univ := by
  rw [← hw]
  ext i
  rw [Finset.mem_biUnion]
  constructor
  · intro _; rw [hw]; exact Finset.mem_univ _
  · intro hi
    obtain ⟨x, -, rfl⟩ := Finset.mem_map.mp hi
    refine ⟨x 0, Finset.mem_univ _, Finset.mem_map_of_mem _ (Rect.mem_set_unit.mpr fun a => ?_)⟩
    have h1 : (x 1).val < 128 := (x 1).isLt
    have h2 : (x 2).val < 256 := (x 2).isLt
    fin_cases a
    · show (x 0).val ≤ (x 0).val ∧ (x 0).val < (x 0).val + 1; omega
    · show 0 ≤ (x 1).val ∧ (x 1).val < 0 + 128; omega
    · show 0 ≤ (x 2).val ∧ (x 2).val < 0 + 256; omega

theorem slot_raw (c : Dev nD) (s : Fin n) : raw (F := F) c (slotOf m ![s.val, 0, 0] (inbS' s))
    = iprop(∃ f : Buf (Elt F) (m.view.loc (c : Thread nD τ)), m.view.loc (c : Thread nD τ) ↦[slotSet m s]{fullShare} f) := by
  unfold raw
  rw [slot_set]

def slotP (c : Dev nD) (s : Fin n) : sProp 𝕄 :=
  iprop(∃ f : Buf (Elt F) (m.view.loc (c : Thread nD τ)), m.view.loc (c : Thread nD τ) ↦[slotSet m s]{fullShare} f)

include hw in
theorem slotP_split (c : Dev nD) (f : Buf (Elt F) (m.view.loc (c : Thread nD τ))) :
    (m.view.loc (c : Thread nD τ) ↦{fullShare} f) ⊢ (bigSep Finset.univ fun s => slotP m c s : sProp 𝕄) := by
  have h1 : ∀ s : Fin n, (m.view.loc (c : Thread nD τ) ↦[slotSet m s]{fullShare} f) ⊢ (slotP m c s : sProp 𝕄) := fun s => by
    unfold slotP; iintro H; iexists f; iexact H
  have h2 := Ring.pointsTo_blocks (Ix := Unit) (Name := ℕ) (U := UU) (Lvl := ℕ) (ℓ := m.view.loc (c : Thread nD τ)) (slotSet m) (slot_disj m) (slot_cover m hw) (q := fullShare) f
  rw [h2]
  exact bigSep_mono fun s _ => h1 s

include hw in
theorem slotP_join (c : Dev nD) (f₀ : Buf (Elt F) (m.view.loc (c : Thread nD τ))) :
    (bigSep Finset.univ fun s => slotP m c s : sProp 𝕄) ⊢ iprop(∃ f : Buf (Elt F) (m.view.loc (c : Thread nD τ)), m.view.loc (c : Thread nD τ) ↦{fullShare} f) := by
  unfold slotP
  exact Ring.pointsTo_blocks_join_exists (Ix := Unit) (Name := ℕ) (U := UU) (Lvl := ℕ) (ℓ := m.view.loc (c : Thread nD τ)) (slotSet m) (slot_disj m) (slot_cover m hw) f₀

theorem slotP_raw (c : Dev nD) : (bigSepL (List.finRange n) fun s => raw c (slotOf m ![s.val, 0, 0] (inbS' s)) : sProp 𝕄) = bigSep Finset.univ fun s => slotP m c s := by
  rw [sep_fin]
  exact sepL_congr fun s _ => slot_raw m c s

end Slots

theorem memR_whole (si : Fin 4) : (memR si).view.set = Finset.univ := by fin_cases si <;> exact View.set_whole _
theorem memL_whole (si : Fin 4) : (memL si).view.set = Finset.univ := by fin_cases si <;> exact View.set_whole _

/-! ## The accumulator -/

theorem rows_disj (c : Dev nD) (j j' : Fin 16) (h : j ≠ j') : Disjoint (rowSet (ch c j.val)) (rowSet (ch c j'.val)) := by
  rw [Finset.disjoint_left]
  intro i h1 h2
  have h1 := (mem_row _ i).mp h1
  have h2 := (mem_row _ i).mp h2
  have hc : c.val < 16 := c.isLt
  have : (ch c j.val).val = (ch c j'.val).val := by omega
  change (c.val + j.val) % 16 = (c.val + j'.val) % 16 at this
  exact h (Fin.ext (by omega))

theorem rows_cover (c : Dev nD) : Finset.univ.biUnion (fun j : Fin 16 => rowSet (ch c j.val)) = Finset.univ := by
  ext i
  have h0 : (i 0).val < 2048 := (i 0).isLt
  have hc : c.val < 16 := c.isLt
  simp only [Finset.mem_biUnion, Finset.mem_univ, true_and, iff_true]
  refine ⟨⟨((i 0).val / 128 + 16 - c.val) % 16, Nat.mod_lt _ (by decide)⟩, (mem_row _ i).mpr ?_⟩
  have : (ch c (((i 0).val / 128 + 16 - c.val) % 16)).val = (i 0).val / 128 := by
    show (c.val + ((i 0).val / 128 + 16 - c.val) % 16) % 16 = _
    omega
  rw [this]; omega

/-- The accumulator, whatever it holds, as its sixteen chunks of rows. -/
theorem rows_split (c : Dev nD) :
    iprop(∃ f : Buf (Elt F) ((c : Thread nD τ).loc cc0_scratch0), ((c : Thread nD τ).loc cc0_scratch0) ↦{fullShare} f)
      ⊢ (bigSepL (List.finRange 16) fun j => rowR (F := F) c j.val : sProp 𝕄) := by
  rw [← sep_fin]
  iintro ⟨%f, H⟩
  have h1 : ∀ s : Fin 16, (((c : Thread nD τ).loc cc0_scratch0) ↦[rowSet (ch c s.val)]{fullShare} f) ⊢ (rowR (F := F) c s.val : sProp 𝕄) := fun s => by
    unfold rowR; iintro H; iexists f; iexact H
  have h : (((c : Thread nD τ).loc cc0_scratch0) ↦{fullShare} f) ⊢ (bigSep Finset.univ fun j : Fin 16 => rowR (F := F) c j.val : sProp 𝕄) :=
    (Entails.of_eq (Ring.pointsTo_blocks (ℓ := (c : Thread nD τ).loc cc0_scratch0) (fun j : Fin 16 => rowSet (ch c j.val)) (rows_disj c) (rows_cover c) f)).trans
      (bigSep_mono fun s _ => h1 s)
  iapply h; iexact H

theorem blks_disj (c : Dev nD) (p p' : Fin 16 × Fin 4) (h : p ≠ p') : Disjoint (blkSet c p.1.val p.2) (blkSet c p'.1.val p'.2) := by
  rw [Finset.disjoint_left]
  intro i h1 h2
  have h1 := (mem_blk c _ _ i).mp h1
  have h2 := (mem_blk c _ _ i).mp h2
  have hc : c.val < 16 := c.isLt
  have h3 : (ch c p.1.val).val = (ch c p'.1.val).val := by omega
  change (c.val + p.1.val) % 16 = (c.val + p'.1.val) % 16 at h3
  exact h (Prod.ext (Fin.ext (by omega)) (Fin.ext (by omega)))

theorem blks_cover (c : Dev nD) : Finset.univ.biUnion (fun p : Fin 16 × Fin 4 => blkSet c p.1.val p.2) = Finset.univ := by
  ext i
  have h0 : (i 0).val < 2048 := (i 0).isLt
  have h1 : (i 1).val < 1024 := (i 1).isLt
  have hc : c.val < 16 := c.isLt
  simp only [Finset.mem_biUnion, Finset.mem_univ, true_and, iff_true]
  refine ⟨(⟨((i 0).val / 128 + 16 - c.val) % 16, Nat.mod_lt _ (by decide)⟩, ⟨(i 1).val / 256, by omega⟩), (mem_blk c _ _ i).mpr ?_⟩
  have : (ch c (((i 0).val / 128 + 16 - c.val) % 16)).val = (i 0).val / 128 := by
    show (c.val + ((i 0).val / 128 + 16 - c.val) % 16) % 16 = _
    omega
  rw [this]
  show _ ∧ 256 * ((i 1).val / 256) ≤ _ ∧ _ < 256 * ((i 1).val / 256) + 256
  omega

/-- All blocks, by chunk (counted from the device's own) and strip. -/
theorem sep_spots (Φ : Fin 16 × Fin 4 → sProp 𝕄) : bigSep Finset.univ Φ = bigSepL spots Φ :=
  bigSep_univ_eq_bigSepL spots (by decide +kernel) (by decide +kernel) Φ

theorem has_raw (c : Dev nD) (m : Memref sig .tc .vmem S128x256 .f32) (X : FVec F S128x256 .f32) : has c m fullShare X ⊢ raw c m := by
  unfold has owns raw
  iintro ⟨%f, -, H⟩
  iexists f; iexact H

/-- Its blocks join back to the accumulator. -/
theorem acc_join (c : Dev nD) :
    (bigSepL spots fun p => raw (F := F) c (accB c p.1.val p.2) : sProp 𝕄)
      ⊢ iprop(∃ f : Buf (Elt F) ((c : Thread nD τ).loc cc0_scratch0), ((c : Thread nD τ).loc cc0_scratch0) ↦{fullShare} f) := by
  rw [← sep_spots]
  exact Ring.pointsTo_blocks_join_exists (ℓ := (c : Thread nD τ).loc cc0_scratch0) (fun p : Fin 16 × Fin 4 => blkSet c p.1.val p.2) (blks_disj c) (blks_cover c) (fun _ => default)

/-! ## The result -/

theorem mem_outB (c : Dev nD) (j : Nat) (si : Fin 4) : (outB c j si).view.set = blkSet c j si := by
  have h : (outB c j si).view.set = (Rect.unit (s := S2048x1024) (blk c j si) S128x256.size (blk_inb c j si)).set :=
    View.set_slice_whole cc0_stg4_0 (Rect.unit (s := S2048x1024) (blk c j si) S128x256.size (blk_inb c j si))
  have h' : (accB c j si).view.set = (Rect.unit (s := S2048x1024) (blk c j si) S128x256.size (blk_inb c j si)).set :=
    View.set_slice_whole cc0_scratch0 (Rect.unit (s := S2048x1024) (blk c j si) S128x256.size (blk_inb c j si))
  exact h.trans h'.symm

theorem out_split (c : Dev nD) :
    iprop(∃ f : Buf (Elt F) ((c : Thread nD τ).loc cc0_stg4_0), ((c : Thread nD τ).loc cc0_stg4_0) ↦{fullShare} f)
      ⊢ (bigSepL spots fun p => raw (F := F) c (outB c p.1.val p.2) : sProp 𝕄) := by
  rw [← sep_spots]
  iintro ⟨%f, H⟩
  have h1 : ∀ s : Fin 16 × Fin 4, (((c : Thread nD τ).loc cc0_stg4_0) ↦[blkSet c s.1.val s.2]{fullShare} f) ⊢ (raw (F := F) c (outB c s.1.val s.2) : sProp 𝕄) := fun s => by
    unfold raw; rw [mem_outB]; iintro H; iexists f; iexact H
  have h : (((c : Thread nD τ).loc cc0_stg4_0) ↦{fullShare} f) ⊢ (bigSep Finset.univ fun p : Fin 16 × Fin 4 => raw (F := F) c (outB c p.1.val p.2) : sProp 𝕄) :=
    (Entails.of_eq (Ring.pointsTo_blocks (ℓ := (c : Thread nD τ).loc cc0_stg4_0) (fun p : Fin 16 × Fin 4 => blkSet c p.1.val p.2) (blks_disj c) (blks_cover c) f)).trans
      (bigSep_mono fun s _ => h1 s)
  iapply h; iexact H

/-- An index inside a block. -/
def inBlk (i : S2048x1024.Idx) : S128x256.Idx := fun a => ⟨(i a).val % S128x256.size a, Nat.mod_lt _ (by fin_cases a <;> decide)⟩

/-- The whole result: every device ends with the same. -/
def outV : (cc0_stg4_0 : Ref sig .tc).ty.Contents (Elt F) := fun i : S2048x1024.Idx =>
  fin V (⟨(i 0).val / 128, by have h : (i 0).val < 2048 := (i 0).isLt; show _ < 16; omega⟩ : Dev nD) ⟨(i 1).val / 256, by have h : (i 1).val < 1024 := (i 1).isLt; omega⟩ (inBlk i)

/-- A block of the result with its final contents. -/
def outP (q : PosShare TreeShare) (c : Dev nD) (p : Fin 16 × Fin 4) : sProp 𝕄 :=
  ((c : Thread nD τ).loc cc0_stg4_0) ↦[blkSet c p.1.val p.2]{q} (outV V : Buf (Elt F) ((c : Thread nD τ).loc cc0_stg4_0))

theorem outB_read (q : PosShare TreeShare) (c : Dev nD) (p : Fin 16 × Fin 4) : outR V c p.1.val p.2 q ⊢ outP V q c p := by
  unfold outR outP
  unfold has owns
  rw [mem_outB]
  iintro ⟨%f, %hf, H⟩
  have hc : ∀ i : S2048x1024.Idx, i ∈ blkSet c p.1.val p.2 → (show Elt F .f32 from f i) = outV V i := by
    intro i hi
    have hm := (mem_blk c _ _ i).mp hi
    change ((128 * ((c.val + p.1.val) % 16) ≤ (i 0).val ∧ (i 0).val < 128 * ((c.val + p.1.val) % 16) + 128)
      ∧ 256 * p.2.val ≤ (i 1).val ∧ (i 1).val < 256 * p.2.val + 256) at hm
    have he : i = (outB c p.1.val p.2).view.emb (inBlk i) := by
      funext a
      apply Fin.ext
      fin_cases a
      · show (i 0).val = 128 * ((c.val + p.1.val) % 16) + 1 * ((i 0).val % 128); omega
      · show (i 1).val = 256 * p.2.val + 1 * ((i 1).val % 256); omega
    have h1 : f i = (outB c p.1.val p.2).view.read (Elt F) f (inBlk i) := congrArg f he
    have h2 : (⟨(i 0).val / 128, by have h : (i 0).val < 2048 := (i 0).isLt; show _ < 16; omega⟩ : Dev nD) = ⟨(c.val + p.1.val) % 16, Nat.mod_lt _ (by decide)⟩ :=
      Fin.ext (by show (i 0).val / 128 = (c.val + p.1.val) % 16; omega)
    have h3 : (⟨(i 1).val / 256, by have h : (i 1).val < 1024 := (i 1).isLt; omega⟩ : Fin 4) = p.2 := Fin.ext (by show (i 1).val / 256 = _; omega)
    rw [h1, hf]
    unfold outV
    rw [h2, h3]
  have h : ((outB c p.1.val p.2).view.loc (c : Thread nD τ) ↦[blkSet c p.1.val p.2]{q} f)
      ⊢ (((c : Thread nD τ).loc cc0_stg4_0) ↦[blkSet c p.1.val p.2]{q} (outV V : Buf (Elt F) ((c : Thread nD τ).loc cc0_stg4_0)) : sProp 𝕄) :=
    Entails.of_eq (pointsTo_congr (ℓ := (c : Thread nD τ).loc cc0_stg4_0) (I := blkSet c p.1.val p.2) (f := f) (g := outV V) hc)
  iapply h; iexact H

theorem out_halves (c : Dev nD) (si : Fin 4) :
    iprop(outR V c 0 si (half false) ∗ outR V c 0 si (half true)) ⊢ outP V fullShare c (0, si) := by
  have h1 := outB_read V (half false) c (0, si)
  have h2 := outB_read V (half true) c (0, si)
  have h : iprop(outP V (half false) c (0, si) ∗ outP V (half true) c (0, si)) ⊢ outP V fullShare c (0, si) :=
    (pointsTo_share (PosShare.mem_left_op_right fullShare)).2
  iintro ⟨H1, H2⟩
  iapply h
  isplitl [H1]
  · iapply h1; iexact H1
  · iapply h2; iexact H2

theorem out_join (c : Dev nD) : (bigSepL spots fun p => outP V fullShare c p : sProp 𝕄)
      ⊢ (((c : Thread nD τ).loc cc0_stg4_0) ↦{fullShare} (outV V : Buf (Elt F) ((c : Thread nD τ).loc cc0_stg4_0)) : sProp 𝕄) := by
  rw [Ring.pointsTo_blocks (ℓ := (c : Thread nD τ).loc cc0_stg4_0) (fun p : Fin 16 × Fin 4 => blkSet c p.1.val p.2) (blks_disj c) (blks_cover c) (outV V), sep_spots]
  exact Entails.of_eq rfl

end Cert.Ring
-- ==== Proof.Place.lean ====
/-
# What a device has before its first step and after its last

The neighbours hand each other the places their transfers land in. Before the first step a device's buffers are cut
into those places and the parts it works on itself; after the last step the parts join back to whole buffers.
-/
module

public import proofs.«01_k».proof.Proof.Split

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Data F)

/-! ## The landing buffers -/

def wholeR (c : Dev nD) (si : Fin 4) : sProp 𝕄 :=
  iprop(∃ f : Buf (Elt F) ((memR si).view.loc (c : Thread nD τ)), (memR si).view.loc (c : Thread nD τ) ↦{fullShare} f)
def wholeL (c : Dev nD) (si : Fin 4) : sProp 𝕄 :=
  iprop(∃ f : Buf (Elt F) ((memL si).view.loc (c : Thread nD τ)), (memL si).view.loc (c : Thread nD τ) ↦{fullShare} f)

theorem wholeR_eq (c : Dev nD) (si : Fin 4) : wholeR (F := F) c si ⊣⊢ (bigSepL (List.finRange 8) fun s => raw c (slotR si s) : sProp 𝕄) := by
  have h : (bigSepL (List.finRange 8) fun s => raw c (slotR si s) : sProp 𝕄) = bigSep Finset.univ fun s => slotP (memR si) c s := slotP_raw (memR si) c
  rw [h]
  have h1 := slotP_split (F := F) (memR si) (memR_whole si) c
  refine ⟨?_, slotP_join (memR si) (memR_whole si) c fun _ => default⟩
  unfold wholeR
  iintro ⟨%f, H⟩
  iapply (h1 f); iexact H
theorem wholeL_eq (c : Dev nD) (si : Fin 4) : wholeL (F := F) c si ⊣⊢ (bigSepL (List.finRange 7) fun s => raw c (slotL si s) : sProp 𝕄) := by
  have h : (bigSepL (List.finRange 7) fun s => raw c (slotL si s) : sProp 𝕄) = bigSep Finset.univ fun s => slotP (memL si) c s := slotP_raw (memL si) c
  rw [h]
  have h1 := slotP_split (F := F) (memL si) (memL_whole si) c
  refine ⟨?_, slotP_join (memL si) (memL_whole si) c fun _ => default⟩
  unfold wholeL
  iintro ⟨%f, H⟩
  iapply (h1 f); iexact H

theorem sep_pr8 (Φ : Fin 4 → Fin 8 → sProp 𝕄) : bigSepL pr8 (fun p => Φ p.1 p.2) = bigSepL strips fun si => bigSepL (List.finRange 8) (Φ si) := by
  unfold pr8; rw [sepL_flatMap]; exact sepL_congr fun si _ => bigSepL_map _ _ _
theorem sep_pr7 (Φ : Fin 4 → Fin 7 → sProp 𝕄) : bigSepL pr7 (fun p => Φ p.1 p.2) = bigSepL strips fun si => bigSepL (List.finRange 7) (Φ si) := by
  unfold pr7; rw [sepL_flatMap]; exact sepL_congr fun si _ => bigSepL_map _ _ _

/-! ## Entering -/

theorem toward_true : (toward true).Perm ((pr8.map fun p => ⟨p.1, .rsR, p.2⟩) ++ (pr8.map fun p => ⟨p.1, .agR, p.2⟩)) := by decide +kernel
theorem toward_false : (toward false).Perm ((pr7.map fun p => ⟨p.1, .rsL, p.2⟩) ++ (pr7.map fun p => ⟨p.1, .agL, p.2⟩)) := by decide +kernel
theorem toward_both : started.Perm (toward true ++ toward false) := by decide +kernel
theorem spots_in : spots.Perm ((strips.map fun si => (0, si)) ++ ((pr8.map fun p => (cj (15 - p.2.val), p.1)) ++ (pr7.map fun p => (cj (1 + p.2.val), p.1)))) := by decide +kernel
theorem spots_out : spots.Perm ((strips.map fun si => (0, si)) ++ others) := by decide +kernel

theorem outB_raw {c : Dev nD} {o : Fin 2 → Nat} (j : Nat) (si : Fin 4) (e : o = blk c j si) (h : Inb o) :
    raw (F := F) c (outAt o h) = raw c (outB c j si) := by subst e; rfl

theorem land_agR (c : Dev nD) (si : Fin 4) (s : Fin 8) : land (F := F) c ⟨si, .agR, s⟩ = raw c (outB c (cj (15 - s.val)).val si) := by
  have hc : c.val < 16 := c.isLt
  have hs := s.isLt
  refine outB_raw _ si ((srcOff_eq (prv c) ⟨si, .agR, s⟩).trans (blk_congr (prv c) c si ?_)) _
  show ((c.val + 15) % 16 + (16 - s.val)) % 16 = (c.val + (15 - s.val) % 16) % 16; omega
theorem land_agL (c : Dev nD) (si : Fin 4) (s : Fin 7) : land (F := F) c ⟨si, .agL, s⟩ = raw c (outB c (cj (1 + s.val)).val si) := by
  have hc : c.val < 16 := c.isLt
  have hs := s.isLt
  refine outB_raw _ si ((srcOff_eq (nxt c) ⟨si, .agL, s⟩).trans (blk_congr (nxt c) c si ?_)) _
  show ((c.val + 1) % 16 + s.val) % 16 = (c.val + (1 + s.val) % 16) % 16; omega

theorem places_true (c : Dev nD) : bigSepL (toward true) (land (F := F) c)
    = iprop((bigSepL strips fun si => bigSepL (List.finRange 8) fun s => raw c (slotR si s))
      ∗ (bigSepL pr8 fun p => raw c (outB c (cj (15 - p.2.val)).val p.1))) := by
  rw [sepL_perm toward_true, bigSepL_append, bigSepL_map, bigSepL_map]
  have h1 : (bigSepL pr8 fun p => land (F := F) c ⟨p.1, .rsR, p.2⟩) = bigSepL strips fun si => bigSepL (List.finRange 8) fun s => raw c (slotR si s) :=
    sep_pr8 fun si s => raw c (slotR si s)
  have h2 : (bigSepL pr8 fun p => land (F := F) c ⟨p.1, .agR, p.2⟩) = bigSepL pr8 fun p => raw c (outB c (cj (15 - p.2.val)).val p.1) :=
    sepL_congr fun p _ => land_agR c p.1 p.2
  exact congrArg₂ (fun a b : sProp 𝕄 => iprop(a ∗ b)) h1 h2
theorem places_false (c : Dev nD) : bigSepL (toward false) (land (F := F) c)
    = iprop((bigSepL strips fun si => bigSepL (List.finRange 7) fun s => raw c (slotL si s))
      ∗ (bigSepL pr7 fun p => raw c (outB c (cj (1 + p.2.val)).val p.1))) := by
  rw [sepL_perm toward_false, bigSepL_append, bigSepL_map, bigSepL_map]
  have h1 : (bigSepL pr7 fun p => land (F := F) c ⟨p.1, .rsL, p.2⟩) = bigSepL strips fun si => bigSepL (List.finRange 7) fun s => raw c (slotL si s) :=
    sep_pr7 fun si s => raw c (slotL si s)
  have h2 : (bigSepL pr7 fun p => land (F := F) c ⟨p.1, .agL, p.2⟩) = bigSepL pr7 fun p => raw c (outB c (cj (1 + p.2.val)).val p.1) :=
    sepL_congr fun p _ => land_agL c p.1 p.2
  exact congrArg₂ (fun a b : sProp 𝕄 => iprop(a ∗ b)) h1 h2

theorem out_places (c : Dev nD) : (bigSepL spots fun p => raw (F := F) c (outB c p.1.val p.2) : sProp 𝕄)
    = iprop((bigSepL strips fun si => raw c (outB c 0 si)) ∗ (bigSepL pr8 fun p => raw c (outB c (cj (15 - p.2.val)).val p.1))
      ∗ (bigSepL pr7 fun p => raw c (outB c (cj (1 + p.2.val)).val p.1))) := by
  rw [sepL_perm spots_in, bigSepL_append, bigSepL_append, bigSepL_map, bigSepL_map, bigSepL_map]
  rfl

theorem enter (c : Dev nD) :
    iprop((bigSepL strips fun si => wholeR (F := F) c si) ∗ (bigSepL strips fun si => wholeL (F := F) c si)
      ∗ (∃ f : Buf (Elt F) ((c : Thread nD τ).loc cc0_stg4_0), ((c : Thread nD τ).loc cc0_stg4_0) ↦{fullShare} f))
    ⊢ iprop(bigSepL (toward true) (land (F := F) c) ∗ bigSepL (toward false) (land (F := F) c) ∗ bigSepL strips fun si => raw c (outB c 0 si)) := by
  rw [places_true, places_false]
  have h1 : (bigSepL strips fun si => wholeR (F := F) c si) ⊢ (bigSepL strips fun si => bigSepL (List.finRange 8) fun s => raw c (slotR si s) : sProp 𝕄) :=
    bigSepL_mono fun si _ => (wholeR_eq c si).1
  have h2 : (bigSepL strips fun si => wholeL (F := F) c si) ⊢ (bigSepL strips fun si => bigSepL (List.finRange 7) fun s => raw c (slotL si s) : sProp 𝕄) :=
    bigSepL_mono fun si _ => (wholeL_eq c si).1
  have h3 := (out_split (F := F) c).trans (Entails.of_eq (out_places c))
  iintro ⟨HR, HL, HO⟩
  ihave HO := h3 $$ HO
  icases HO with ⟨H0, H8, H7⟩
  isplitl [HR H8]
  · isplitl [HR]
    · iapply h1; iexact HR
    · iexact H8
  isplitl [HL H7]
  · isplitl [HL]
    · iapply h2; iexact HL
    · iexact H7
  · iexact H0

/-! ## Leaving -/

theorem hold_T₁ (c : Dev nD) : hold V c T₁ = iprop(envR V c ∗ (bigSepL started fun f => semVal (sendCell c f) 0) ∗ (bigSepL started fun f => semVal (recvCell c f) 0)
    ∗ (bigSepL pr8 fun p => dstPay V c ⟨p.1, .rsR, p.2⟩) ∗ (bigSepL pr7 fun p => dstPay V c ⟨p.1, .rsL, p.2⟩)
    ∗ (bigSepL spots fun p => has c (accB c p.1.val p.2) fullShare (accV V c p.1.val p.2 (lastV p.1.val)))
    ∗ (bigSepL others fun p => outR V c p.1.val p.2 fullShare)
    ∗ (bigSepL strips fun si => outR V c 0 si (half false)) ∗ (bigSepL strips fun si => outR V c 0 si (half true))) := by
  rw [hold_list]
  unfold T₁
  rw [bigSepL_cons, bigSepL_append, bigSepL_append, bigSepL_append, bigSepL_append, bigSepL_append, bigSepL_append, bigSepL_append]
  simp only [bigSepL_map]
  rfl

theorem leave (c : Dev nD) : hold V c T₁ ⊢ iprop(envR V c ∗ (bigSepL started fun f => semVal (sendCell c f) 0) ∗ (bigSepL started fun f => semVal (recvCell c f) 0)
    ∗ (bigSepL strips fun si => wholeR (F := F) c si) ∗ (bigSepL strips fun si => wholeL (F := F) c si)
    ∗ (∃ f : Buf (Elt F) ((c : Thread nD τ).loc cc0_scratch0), ((c : Thread nD τ).loc cc0_scratch0) ↦{fullShare} f)
    ∗ (((c : Thread nD τ).loc cc0_stg4_0) ↦{fullShare} (outV V : Buf (Elt F) ((c : Thread nD τ).loc cc0_stg4_0)))) := by
  rw [hold_T₁]
  have h1 : (bigSepL pr8 fun p => dstPay V c ⟨p.1, .rsR, p.2⟩) ⊢ (bigSepL strips fun si => wholeR (F := F) c si : sProp 𝕄) := by
    refine (bigSepL_mono fun p _ => has_raw c (slotR p.1 p.2) _).trans ?_
    rw [sep_pr8 fun si s => raw (F := F) c (slotR si s)]
    exact bigSepL_mono fun si _ => (wholeR_eq c si).2
  have h2 : (bigSepL pr7 fun p => dstPay V c ⟨p.1, .rsL, p.2⟩) ⊢ (bigSepL strips fun si => wholeL (F := F) c si : sProp 𝕄) := by
    refine (bigSepL_mono fun p _ => has_raw c (slotL p.1 p.2) _).trans ?_
    rw [sep_pr7 fun si s => raw (F := F) c (slotL si s)]
    exact bigSepL_mono fun si _ => (wholeL_eq c si).2
  have h3 := (bigSepL_mono (l := spots) fun p _ => has_raw (F := F) c (accB c p.1.val p.2) (accV V c p.1.val p.2 (lastV p.1.val))).trans (acc_join c)
  have h4 : (bigSepL others fun p => outR V c p.1.val p.2 fullShare) ⊢ (bigSepL others fun p => outP V fullShare c p : sProp 𝕄) :=
    bigSepL_mono fun p _ => outB_read V fullShare c p
  have h5 : iprop((bigSepL strips fun si => outR V c 0 si (half false)) ∗ (bigSepL strips fun si => outR V c 0 si (half true)))
      ⊢ (bigSepL strips fun si => outP V fullShare c (0, si) : sProp 𝕄) := by
    rw [← sep_strips, ← sep_strips, ← sep_strips, ← bigSep_sep']
    exact bigSep_mono fun si _ => out_halves V c si
  have h6 : iprop((bigSepL strips fun si => outP V fullShare c (0, si)) ∗ (bigSepL others fun p => outP V fullShare c p))
      ⊢ (bigSepL spots fun p => outP V fullShare c p : sProp 𝕄) := by
    rw [sepL_perm spots_out, bigSepL_append, bigSepL_map]
  have h7 := out_join V c
  iintro ⟨He, Hs, Hr, H8, H7, Ha, Ho, Hh1, Hh2⟩
  isplitl [He]; · iexact He
  isplitl [Hs]; · iexact Hs
  isplitl [Hr]; · iexact Hr
  isplitl [H8]; · iapply h1; iexact H8
  isplitl [H7]; · iapply h2; iexact H7
  isplitl [Ha]; · iapply h3; iexact Ha
  iapply h7
  iapply h6
  isplitl [Hh1 Hh2]
  · iapply h5; isplitl [Hh1] <;> iassumption
  · iapply h4; iexact Ho

end Cert.Ring
-- ==== Proof.Enter.lean ====
/-
# The parts of the body before its steps

The entry handshake and the four columns of weights.
-/
module

public import proofs.«01_k».proof.Proof.Place

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Data F) (K : Dev nD × Cx → ℕ)

/-! ## The weights -/

abbrev colRect (e : Fin 4) : Rect S2048x4 := Rect.unit (s := S2048x4) ![0, e.val] S2048x1.size (inbW e)

/-- The element of a column in the same row. -/
def rowOf (j : S2048x4.Idx) : S2048x1.Idx := fun a => ⟨(![(j 0).val, 0] : Fin 2 → Nat) a, by
  have h : (j 0).val < 2048 := (j 0).isLt
  fin_cases a
  · exact h
  · exact Nat.one_pos⟩

/-- The four columns side by side. -/
def weights (d : Dev nD) (p : FVec F S2048x64 .f32) (i : Vec F S2048x2 .i32) : Vec F S2048x4 .f32 :=
  fun j => wcol d p i ⟨(j 1).val, (j 1).isLt⟩ (rowOf j)

def put (e : Fin 4) (f : Vec F S2048x4 .f32) (v : Vec F S2048x1 .f32) : Vec F S2048x4 .f32 :=
  (wM.access (colRect e)).write (Elt F) f v Finset.univ

theorem put_at (e : Fin 4) (f : Vec F S2048x4 .f32) (v : Vec F S2048x1 .f32) (i : S2048x4.Idx) (h : (i 1).val = e.val) :
    put e f v i = v (rowOf i) := by
  have he : i = (wM.access (colRect e)).emb (rowOf i) := by
    funext a
    apply Fin.ext
    fin_cases a
    · show (i 0).val = 0 + 1 * (i 0).val; omega
    · show (i 1).val = e.val + 1 * 0; omega
  have h1 := View.write_emb_of_mem (v := wM.access (colRect e)) (Val := Elt F) f v (M := Finset.univ) (x := rowOf i) (Finset.mem_univ _)
  unfold put
  exact (congrArg ((wM.access (colRect e)).write (Elt F) f v Finset.univ) he).trans h1

theorem put_ne (e : Fin 4) (f : Vec F S2048x4 .f32) (v : Vec F S2048x1 .f32) (i : S2048x4.Idx) (h : (i 1).val ≠ e.val) :
    put e f v i = f i := by
  refine View.write_of_not_mem (v := wM.access (colRect e)) (Val := Elt F) f v Finset.univ ?_
  rw [View.setOn_univ]
  intro hi
  have hs : (wM.access (colRect e)).set = (colRect e).set := View.set_slice_whole cc0_scratch1 (colRect e)
  rw [hs] at hi
  have h2 := Rect.mem_set_unit.mp hi 1
  change e.val ≤ (i 1).val ∧ (i 1).val < e.val + 1 at h2
  omega

theorem put_all (d : Dev nD) (p : FVec F S2048x64 .f32) (i : Vec F S2048x2 .i32) (f : Vec F S2048x4 .f32) :
    put 3 (put 2 (put 1 (put 0 f (wcol d p i 0)) (wcol d p i 1)) (wcol d p i 2)) (wcol d p i 3) = weights d p i := by
  funext j
  have hj : (j 1).val < 4 := (j 1).isLt
  have hw : ∀ e : Fin 4, (j 1).val = e.val → weights d p i j = wcol d p i e (rowOf j) := fun e h => by
    unfold weights
    rw [show (⟨(j 1).val, (j 1).isLt⟩ : Fin 4) = e from Fin.ext h]
  by_cases h3 : (j 1).val = (3 : Fin 4).val
  · rw [put_at 3 _ _ j h3, hw 3 h3]
  rw [put_ne 3 _ _ j h3]
  by_cases h2 : (j 1).val = (2 : Fin 4).val
  · rw [put_at 2 _ _ j h2, hw 2 h2]
  rw [put_ne 2 _ _ j h2]
  by_cases h1 : (j 1).val = (1 : Fin 4).val
  · rw [put_at 1 _ _ j h1, hw 1 h1]
  rw [put_ne 1 _ _ j h1]
  have h0 : (j 1).val = (0 : Fin 4).val := by
    change ¬ (j 1).val = 3 at h3; change ¬ (j 1).val = 2 at h2; change ¬ (j 1).val = 1 at h1
    show (j 1).val = 0; omega
  rw [put_at 0 _ _ j h0, hw 0 h0]

abbrev wPts (c : Dev nD) (f : Vec F S2048x4 .f32) : sProp 𝕄 :=
  ((c : Thread nD τ).loc cc0_scratch1) ↦{fullShare} (f : Buf (Elt F) ((c : Thread nD τ).loc cc0_scratch1))

theorem wstore_ok (c : Dev nD) (p : FVec F S2048x64 .f32) (i : Vec F S2048x2 .i32) (e : Fin 4) (f : Vec F S2048x4 .f32)
    {α : Type} {Q : α → sProp 𝕄} {k : PUnit → Code F α} :
    wPts c f ⊢ iprop((wPts c (put e f (wcol c p i e)) -∗ wpc c (k ⟨⟩) Q) -∗ wpc c (wstore c p i e >>= k) Q) := by
  iintro Hw Hk
  simp only [wstore, Prog.lift, Prog.bind_op, Prog.bind_ret]
  iapply (wp_load 𝒱₀ (c : Thread nD τ) none Set.univ (m := wM) (Finset.subset_univ _)) $$ Hw; iintro Hw
  iapply (wp_store 𝒱₀ (c : Thread nD τ) none Set.univ (m := wM) (r := colRect e) (Mk := Finset.univ) (Finset.subset_univ _)) $$ Hw; iintro Hw
  iapply Hk
  unfold put
  iexact Hw

theorem wstores_ok (c : Dev nD) (p : FVec F S2048x64 .f32) (i : Vec F S2048x2 .i32) (f : Vec F S2048x4 .f32)
    {α : Type} {Q : α → sProp 𝕄} {k : Code F α} :
    wPts c f ⊢ iprop((wPts c (weights c p i) -∗ wpc c k Q)
      -∗ wpc c (wstore c p i 0 >>= fun _ => wstore c p i 1 >>= fun _ => wstore c p i 2 >>= fun _ => wstore c p i 3 >>= fun _ => k) Q) := by
  rw [← put_all c p i f]
  iintro Hw Hk
  iapply (wstore_ok c p i 0 f) $$ Hw; iintro Hw
  iapply (wstore_ok c p i 1 _) $$ Hw; iintro Hw
  iapply (wstore_ok c p i 2 _) $$ Hw; iintro Hw
  iapply (wstore_ok c p i 3 _) $$ Hw; iintro Hw
  iapply Hk; iexact Hw

/-! ## The handshake -/

theorem pay_prv (c : Dev nD) : barPay (F := F) (prv c) true = bigSepL (toward true) (land (F := F) c) := by
  unfold barPay
  refine sepL_congr fun f hf => ?_
  have h := (List.mem_filter.mp hf).2
  obtain ⟨si, ln, s⟩ := f
  have hd : dest (prv c) ln = c := by
    cases ln
    · exact nxt_prv c
    · exact Bool.noConfusion (show false = true from h)
    · exact nxt_prv c
    · exact Bool.noConfusion (show false = true from h)
  show land (dest (prv c) ln) _ = _
  rw [hd]
theorem pay_nxt (c : Dev nD) : barPay (F := F) (nxt c) false = bigSepL (toward false) (land (F := F) c) := by
  unfold barPay
  refine sepL_congr fun f hf => ?_
  have h := (List.mem_filter.mp hf).2
  obtain ⟨si, ln, s⟩ := f
  have hd : dest (nxt c) ln = c := by
    cases ln
    · exact Bool.noConfusion (show false = true from h)
    · exact prv_nxt c
    · exact Bool.noConfusion (show false = true from h)
    · exact prv_nxt c
  show land (dest (nxt c) ln) _ = _
  rw [hd]

/-- Both neighbours hand over the places of the device's transfers. -/
theorem barPay_all (c : Dev nD) : iprop(barPay (F := F) c false ∗ barPay (F := F) c true) ⊢ (bigSepL started fun f => land (F := F) (dest c f.ln) f : sProp 𝕄) := by
  rw [sepL_perm toward_both, bigSepL_append]
  unfold barPay
  iintro ⟨H1, H2⟩
  isplitl [H2] <;> iassumption

theorem handshake_ok (c : Dev nD) {α : Type} {Q : α → sProp 𝕄} {k : PUnit → Code F α} :
    iprop(records V K ∗ dutyTok ER (barCell (prv c)) 0 true ∗ dutyTok ER (barCell (nxt c)) 0 false ∗ atPos ER (barCell c) 0 ∅ 0
        ∗ cred (tallyAt (barCell c) () 2) ∗ bigSepL (toward true) (land (F := F) c) ∗ bigSepL (toward false) (land (F := F) c)
        ∗ (∃ W, owes (c : Thread nD τ) (O₀ c) W))
      ⊢ iprop(((semVal (barCell c) 0 ∗ (bigSepL started fun f => land (F := F) (dest c f.ln) f) ∗ (∃ W, owes (c : Thread nD τ) (owed c started) W)) -∗ wpc c (k ⟨⟩) Q)
          -∗ wpc c (handshake c >>= k) Q) := by
  have hlev : records V K ⊢ (levAts L lv : sProp 𝕄) := by unfold records; iintro ⟨-, -, H⟩; iexact H
  have hmw := hlev.trans (mayWait_bar (F := F) c)
  have hall := barPay_all (F := F) c
  iintro ⟨#Hr, Ht1, Ht2, Hat, Hc, HP1, HP2, ⟨%W, HO⟩⟩ Hk
  simp only [handshake, semSignalWord, semWaitWord, Prog.lift, Prog.bind_op, Prog.bind_ret, Prog.pure_eq_ret]
  simp only [dev1_eq c, dev2_eq c]
  iapply (Rounds.wp_signal 𝒱₀ ER (ringRd V) (c : Thread nD τ) none (dst := (prv c : Thread nD τ)) (κ := K (prv c, none))
      (d := true) (by rw [duties_bar]; exact Finset.mem_univ _) ((amount_bar V (prv c) true).trans (by decide)) () (O₁ c) rfl)
    $$ [HO Ht1 HP1]
  · isplitr; · iapply (records_inv V K (prv c, none)); iexact Hr
    isplitl [HO]; · iexact HO
    isplitl [Ht1]; · iexact Ht1
    isplitl [HP1]; · rw [payload_bar, pay_prv]; iexact HP1
    iapply (records_reached V K (prv c, none)); iexact Hr
  iintro HO
  iapply (Rounds.wp_signal 𝒱₀ ER (ringRd V) (c : Thread nD τ) none (dst := (nxt c : Thread nD τ)) (κ := K (nxt c, none))
      (d := false) (by rw [duties_bar]; exact Finset.mem_univ _) ((amount_bar V (nxt c) false).trans (by decide)) () (owed c started) rfl)
    $$ [HO Ht2 HP2]
  · isplitr; · iapply (records_inv V K (nxt c, none)); iexact Hr
    isplitl [HO]; · iexact HO
    isplitl [Ht2]; · iexact Ht2
    isplitl [HP2]; · rw [payload_bar, pay_nxt]; iexact HP2
    iapply (records_reached V K (nxt c, none)); iexact Hr
  iintro HO
  iapply (Rounds.wp_wait_rest_token 𝒱₀ ER (ringRd V) (c : Thread nD τ) none (κ := K (c, none))
      (wpE_semWait_eq 𝒱₀ (c : Thread nD τ) none Set.univ) (Set.mem_univ _) () (O := owed c started) (W := W) (R := 0) (m := 0) (T := ∅)
      (by rw [expect_bar]; decide)) $$ [Hc HO Hat]
  · isplitr; · iapply (records_inv V K (c, none)); iexact Hr
    isplitl [Hc]; · iexact Hc
    isplitl [HO]; · iexact HO
    isplitr; · iapply hmw; iexact Hr
    iexact Hat
  iintro ⟨HO, Hat, -, Hpay⟩
  ihave Hp := (Entails.of_eq (rest_bar V c)) $$ Hpay
  ihave Hp := hall $$ Hp
  imod (Rounds.cell_close ER (ringRd V) (Set.mem_univ (K (c, none))) (fun h => h) (R := 0 + 1) (duties_later V (barCell c))) $$ [Hat] with HzB
  · isplitr; · iapply (records_inv V K (c, none)); iexact Hr
    iexact Hat
  iapply Hk
  isplitl [HzB]; · iexact HzB
  isplitl [Hp]; · iexact Hp
  iexists _; iexact HO

end Cert.Ring
-- ==== Proof.Body.lean ====
/-
# The body of one device

From what the launch gives a device to what it leaves.
-/
module

public import proofs.«01_k».proof.Proof.Enter

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The state at launch: any memory, all counters zero. -/
def s₀ : MemSt nD τ sig (Elt F) := ⟨m, fun _ => 0, ρ⟩

/-! ## What a device reads -/

def xstg (c : Dev nD) : (cc0_stg0_0 : Ref sig .tc).ty.Contents (Elt F) :=
  (win0_0.blk (0 : Fin 1)).view.read (Elt F) ((s₀ m ρ).mem ((c : Thread nD τ).loc main_arg0))
def gstg (c : Dev nD) : (cc0_stg1_0 : Ref sig .tc).ty.Contents (Elt F) :=
  (win0_1.blk (0 : Fin 1)).view.read (Elt F) ((s₀ m ρ).mem ((c : Thread nD τ).loc main_arg1))
def istg (c : Dev nD) : (cc0_stg2_0 : Ref sig .tc).ty.Contents (Elt F) :=
  (win0_2.blk (0 : Fin 1)).view.read (Elt F) ((s₀ m ρ).mem ((c : Thread nD τ).loc main_arg2))
def estg (c : Dev nD) : (cc0_stg3_0 : Ref sig .tc).ty.Contents (Elt F) :=
  (win0_3.blk (0 : Fin 1)).view.read (Elt F) ((s₀ m ρ).mem ((c : Thread nD τ).loc main_arg3))

/-- What the devices compute from. -/
def dataOf : Data F where
  x c := xstg m ρ c
  w c := weights c (k0_pay1 (xstg m ρ c) (gstg m ρ c)) (istg m ρ c)
  e c := k0_pay13 (estg m ρ c)

/-! ## The cells of a device, listed -/

def cells : List Cx := none :: ((started.map fun f => some (f, false)) ++ (started.map fun f => some (f, true)))
theorem cells_nodup : cells.Nodup := by decide +kernel
theorem mem_cells : ∀ k : Cx, k ∈ cells
  | none => List.mem_cons_self
  | some (f, false) => List.mem_cons_of_mem _ (List.mem_append_left _ (List.mem_map_of_mem (f := fun f => some (f, false)) (mem_started f)))
  | some (f, true) => List.mem_cons_of_mem _ (List.mem_append_right _ (List.mem_map_of_mem (f := fun f => some (f, true)) (mem_started f)))

theorem sep_cells (Φ : Cx → sProp 𝕄) : bigSep Finset.univ Φ
    = iprop(Φ none ∗ (bigSepL started fun f => Φ (some (f, false))) ∗ bigSepL started fun f => Φ (some (f, true))) := by
  rw [bigSep_univ_eq_bigSepL cells (by ext k; simp [mem_cells k]) cells_nodup]
  unfold cells
  rw [bigSepL_cons, bigSepL_append, bigSepL_map, bigSepL_map]
  rfl

/-! ## What a device starts from -/

/-- The tokens of what the device pays: its neighbours' barrier cells, its transfers' departures and arrivals. -/
def payToks (c : Dev nD) : sProp 𝕄 :=
  iprop(dutyTok ER (barCell (prv c)) 0 true ∗ dutyTok ER (barCell (nxt c)) 0 false
    ∗ (bigSepL started fun f => dutyTok ER (sendCell c f) 0 false) ∗ bigSepL started fun f => dutyTok ER (recvCell (dest c f.ln) f) 0 false)
def linear (c : Dev nD) : sProp 𝕄 :=
  iprop((bigSep Finset.univ fun k : Cx => atPos ER (kcell (c, k)) 0 ∅ 0) ∗ payToks (F := F) c)
def credits (c : Dev nD) : sProp 𝕄 :=
  iprop(cred (tallyAt (barCell c) () 2) ∗ bigSepL started fun f => cred (tallyAt (recvCell c f) () N))
def start (V : Data F) (c : Dev nD) : sProp 𝕄 := iprop((∃ K, records V K ∗ linear (F := F) c) ∗ credits (F := F) c)

/-- The device's scratch buffers, whatever they hold. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (bigSepL strips fun si => wholeR (F := F) c si) ∗ (bigSepL strips fun si => wholeL (F := F) c si))

def sems (c : Dev nD) : sProp 𝕄 := bigSep Finset.univ fun k : Cx => semVal (kcell (c, k)) 0

def Φ₀ (V : Data F) (c : Dev nD) : sProp 𝕄 := iprop(start V c ∗ scratch (F := F) c)
def Φ₁ (c : Dev nD) : sProp 𝕄 := iprop(scratch (F := F) c ∗ sems (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => gstg m ρ c
    | ⟨2, _⟩ => istg m ρ c
    | ⟨3, _⟩ => estg m ρ c
    | ⟨4, _⟩ => outV (dataOf m ρ)
  Φ t := match t with
    | ⟨0, _⟩ => Φ₀ (dataOf m ρ) c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) := bigSep_W0 Φ

theorem fetch_0 (t : Fin cfg0.N) : (cfg0.win (0 : Fin 5)).fetch t = true := by rw [fin_N t]; rfl
theorem fetch_1 (t : Fin cfg0.N) : (cfg0.win (1 : Fin 5)).fetch t = true := by rw [fin_N t]; rfl
theorem fetch_2 (t : Fin cfg0.N) : (cfg0.win (2 : Fin 5)).fetch t = true := by rw [fin_N t]; rfl
theorem fetch_3 (t : Fin cfg0.N) : (cfg0.win (3 : Fin 5)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

section Body

variable (V : Data F) (K : Dev nD × Cx → ℕ)

theorem hz2 : (![0, 0] : Fin 2 → Nat) = fun _ => 0 := funext fun a => by fin_cases a <;> rfl
theorem hz3 : (![0, 0, 0] : Fin 3 → Nat) = fun _ => 0 := funext fun a => by fin_cases a <;> rfl

theorem read_x (f : (cc0_stg0_0 : Ref sig .tc).ty.Contents (Elt F)) :
    (Memref.whole cc0_stg0_0 : Memref sig .tc .vmem S2048x512 .f32).view.readAt (Elt F) (Rect.unit (s := S2048x512) ![0, 0] S2048x512.size inb_S2048x512_S2048x512_0_0).toLoadRect f = f :=
  Memref.readAt_unit_zero (Elt F) cc0_stg0_0 hz2 _ f

theorem read_g (f : (cc0_stg1_0 : Ref sig .tc).ty.Contents (Elt F)) :
    (Memref.whole cc0_stg1_0 : Memref sig .tc .vmem S512x64 .f32).view.readAt (Elt F) (Rect.unit (s := S512x64) ![0, 0] S512x64.size inb_S512x64_S512x64_0_0).toLoadRect f = f :=
  Memref.readAt_unit_zero (Elt F) cc0_stg1_0 hz2 _ f

theorem read_i (f : (cc0_stg2_0 : Ref sig .tc).ty.Contents (Elt F)) :
    (Memref.whole cc0_stg2_0 : Memref sig .tc .vmem S2048x2 .i32).view.readAt (Elt F) (Rect.unit (s := S2048x2) ![0, 0] S2048x2.size inb_S2048x2_S2048x2_0_0).toLoadRect f = f :=
  Memref.readAt_unit_zero (Elt F) cc0_stg2_0 hz2 _ f

theorem read_e (f : (cc0_stg3_0 : Ref sig .tc).ty.Contents (Elt F)) :
    (Memref.whole cc0_stg3_0 : Memref sig .tc .vmem S4x512x1024 .f32).view.readAt (Elt F) (Rect.unit (s := S4x512x1024) ![0, 0, 0] S4x512x1024.size inb_S4x512x1024_S4x512x1024_0_0_0).toLoadRect f = f :=
  Memref.readAt_unit_zero (Elt F) cc0_stg3_0 hz3 _ f

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
abbrev pts (c : Dev nD) (b : Ref sig .tc) (X : b.ty.Contents (Elt F)) : sProp 𝕄 :=
  ((c : Thread nD τ).loc b) ↦{fullShare} (X : Buf (Elt F) ((c : Thread nD τ).loc b))

/-- Everything the steps start from. -/
theorem hold_T₀ (c : Dev nD) : hold V c T₀ = iprop(envR V c
    ∗ (bigSepL started fun f => iprop(atPos ER (sendCell c f) 0 ∅ 0 ∗ dutyTok ER (sendCell c f) 0 false ∗ dutyTok ER (recvCell (dest c f.ln) f) 0 false ∗ land (F := F) (dest c f.ln) f))
    ∗ (bigSepL started fun f => iprop(atPos ER (recvCell c f) 0 ∅ 0 ∗ cred (tallyAt (recvCell c f) () N)))
    ∗ (bigSepL (List.finRange 16) fun j => rowR (F := F) c j.val) ∗ (bigSepL strips fun si => raw c (outB c 0 si))) := by
  rw [hold_list]
  unfold T₀
  rw [bigSepL_cons, bigSepL_append, bigSepL_append, bigSepL_append, bigSepL_map, bigSepL_map, bigSepL_map, bigSepL_map]
  rfl

theorem sepL_sep (Φ Ψ : Flt → sProp 𝕄) : bigSepL started (fun i => iprop(Φ i ∗ Ψ i)) = iprop(bigSepL started Φ ∗ bigSepL started Ψ) := by
  rw [← sep_flt, ← sep_flt, ← sep_flt, ← bigSep_sep']

/-- The run of the steps. -/
theorem steps_ok (c : Dev nD) {Q : PUnit → sProp 𝕄} :
    iprop(records V K ∗ hold V c T₀ ∗ (∃ W, owes (c : Thread nD τ) (owed c started) W))
      ⊢ iprop(((hold V c T₁ ∗ (∃ W, owes (c : Thread nD τ) 0 W)) -∗ Q ⟨⟩) -∗ wpc c (runAll c (V.e c) steps) Q) := by
  obtain ⟨T, h1, h2⟩ := Option.bind_eq_some_iff.mp walk_steps
  have h3 : hold V c T = hold V c T₁ := by rw [takeAll_ok V c h2, hold_nil]; exact equiv_iff.mp BI.sep_emp
  have h := walk_ok V K c (Q := Q) steps T₀ T h1
  rw [sends_steps, h3] at h
  exact h

/-- What the body's steps leave, as the launch wants it. -/
theorem leave_ok (c : Dev nD) : iprop(hold V c T₁ ∗ semVal (barCell c) 0)
    ⊢ iprop(Φ₁ (F := F) c ∗ pts c cc0_stg0_0 (V.x c) ∗ pts c cc0_stg4_0 (outV V)) := by
  have h := leave V c
  unfold Φ₁ sems scratch
  rw [sep_cells]
  unfold envR at h
  iintro ⟨H, HB⟩
  ihave H := h $$ H
  icases H with ⟨⟨Hx, Hw⟩, Hs, Hr, H8, H7, Ha, Ho⟩
  isplitr [Hx Ho]
  · isplitl [Ha Hw H8 H7]
    · isplitl [Ha]; · iexact Ha
      isplitl [Hw]; · iexists _; iexact Hw
      isplitl [H8] <;> iassumption
    isplitl [HB]; · iexact HB
    isplitl [Hs]
    · iexact Hs
    · iexact Hr
  · isplitl [Hx] <;> iassumption

/-- From the handshake's gains and the launch's grants to what the steps start from. -/
theorem enter_steps (c : Dev nD) :
    iprop((bigSepL started fun f => (atPos ER (sendCell c f) 0 ∅ 0 : sProp 𝕄)) ∗ (bigSepL started fun f => (atPos ER (recvCell c f) 0 ∅ 0 : sProp 𝕄))
      ∗ (bigSepL started fun f => (dutyTok ER (sendCell c f) 0 false : sProp 𝕄)) ∗ (bigSepL started fun f => (dutyTok ER (recvCell (dest c f.ln) f) 0 false : sProp 𝕄))
      ∗ (bigSepL started fun f => (cred (tallyAt (recvCell c f) () N) : sProp 𝕄)) ∗ (bigSepL started fun f => land (F := F) (dest c f.ln) f)
      ∗ (∃ f : Buf (Elt F) ((c : Thread nD τ).loc cc0_scratch0), ((c : Thread nD τ).loc cc0_scratch0) ↦{fullShare} f)
      ∗ (bigSepL strips fun si => raw c (outB c 0 si)) ∗ pts c cc0_stg0_0 (V.x c) ∗ wPts c (V.w c)) ⊢ hold V c T₀ := by
  rw [hold_T₀, sepL_sep, sepL_sep, sepL_sep, sepL_sep]
  have h := rows_split (F := F) c
  unfold envR
  iintro ⟨Has, Har, Hts, Htr, Hc, Hl, Ha, Ho, Hx, Hw⟩
  isplitl [Hx Hw]; · isplitl [Hx] <;> iassumption
  isplitl [Has Hts Htr Hl]
  · isplitl [Has]; · iexact Has
    isplitl [Hts]; · iexact Hts
    isplitl [Htr] <;> iassumption
  isplitl [Har Hc]
  · isplitl [Har] <;> iassumption
  isplitl [Ha]; · iapply h; iexact Ha
  iexact Ho

def bodyPre (c : Dev nD) : sProp 𝕄 :=
  iprop((records (dataOf m ρ) K ∗ linear (F := F) c ∗ credits (F := F) c ∗ scratch (F := F) c)
    ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

def bodyPost (c : Dev nD) : sProp 𝕄 :=
  iprop(Φ₁ (F := F) c ∗ (dats m ρ 0 c).owesAt () t₀.succ ∗ stg c cc0_stg0_0 (xstg m ρ c) ∗ stg c cc0_stg1_0 (gstg m ρ c)
    ∗ stg c cc0_stg2_0 (istg m ρ c) ∗ stg c cc0_stg3_0 (estg m ρ c) ∗ stg c cc0_stg4_0 (outV (dataOf m ρ)))

set_option maxHeartbeats 800000 in
theorem body_ok (c : Dev nD) (Kt : PUnit → sProp 𝕄) :
    iprop(bodyPre m ρ K c ∗ (bodyPost m ρ c -∗ Kt ⟨⟩)) ⊢ wpc c (body (F := F)) Kt := by
  have hpl := enter (F := F) c
  have hst := enter_steps (dataOf m ρ) c
  have hlv := leave_ok (dataOf m ρ) c
  unfold body
  simp only [Prog.lift, Prog.bind_op, Prog.bind_ret, Prog.pure_eq_ret, wp_deviceId]
  unfold bodyPre linear payToks credits
  rw [sep_cells]
  unfold scratch
  iintro ⟨⟨⟨#Hr, ⟨⟨HaB, HaS, HaR⟩, Ht1, Ht2, HtS, HtR⟩, ⟨HcB, HcR⟩, Hacc, ⟨%w0, Hw⟩, HbR, HbL⟩,
    Ho, ⟨%d0, %g0, %hg0, Hx⟩, ⟨%d1, %g1, %hg1, Hg⟩, ⟨%d2, %g2, %hg2, Hi⟩, ⟨%d3, %g3, %hg3, He⟩, ⟨%d4, %g4, %hg4, Hout⟩⟩, Hk⟩
  have h0 : g0 = xstg m ρ c := by rw [hg0]; unfold Dat.before; rw [if_pos (fetch_0 t₀)]; rfl
  have h1 : g1 = gstg m ρ c := by rw [hg1]; unfold Dat.before; rw [if_pos (fetch_1 t₀)]; rfl
  have h2 : g2 = istg m ρ c := by rw [hg2]; unfold Dat.before; rw [if_pos (fetch_2 t₀)]; rfl
  have h3 : g3 = estg m ρ c := by rw [hg3]; unfold Dat.before; rw [if_pos (fetch_3 t₀)]; rfl
  subst h0; subst h1; subst h2; subst h3
  unfold Dat.owesAt Pipeline.owesWithin
  icases Ho with ⟨%W, %hW, HO⟩
  rw [show (dats m ρ 0 c).owed t₀.castSucc = O₀ c from rfl]
  ihave Hp := hpl $$ [HbR HbL Hout]
  · isplitl [HbR]; · iexact HbR
    isplitl [HbL]; · iexact HbL
    iexists _; iexact Hout
  icases Hp with ⟨Hp1, Hp2, Hraw⟩
  iapply (handshake_ok (dataOf m ρ) K c) $$ [Ht1 Ht2 HaB HcB Hp1 Hp2 HO]
  · isplitr; · iexact Hr
    isplitl [Ht1]; · iexact Ht1
    isplitl [Ht2]; · iexact Ht2
    isplitl [HaB]; · iexact HaB
    isplitl [HcB]; · iexact HcB
    isplitl [Hp1]; · iexact Hp1
    isplitl [Hp2]; · iexact Hp2
    iexists _; iexact HO
  iintro ⟨HzB, Hland, HO⟩
  iapply (wp_load 𝒱₀ (c : Thread nD τ) none Set.univ (m := xM) (Finset.subset_univ _)) $$ Hx; iintro Hx
  rw [read_x]
  iapply (wp_load 𝒱₀ (c : Thread nD τ) none Set.univ (m := Memref.whole cc0_stg1_0) (Finset.subset_univ _)) $$ Hg; iintro Hg
  rw [read_g]
  iapply (wp_load 𝒱₀ (c : Thread nD τ) none Set.univ (m := Memref.whole cc0_stg2_0) (Finset.subset_univ _)) $$ Hi; iintro Hi
  rw [read_i]
  iapply (wstores_ok c (k0_pay1 (xstg m ρ c) (gstg m ρ c)) (istg m ρ c) w0) $$ Hw; iintro Hw
  iapply (wp_load 𝒱₀ (c : Thread nD τ) none Set.univ (m := Memref.whole cc0_stg3_0) (Finset.subset_univ _)) $$ He; iintro He
  rw [read_e]
  ihave HT := hst $$ [HaS HaR HtS HtR HcR Hland Hacc Hraw Hx Hw]
  · isplitl [HaS]; · iexact HaS
    isplitl [HaR]; · iexact HaR
    isplitl [HtS]; · iexact HtS
    isplitl [HtR]; · iexact HtR
    isplitl [HcR]; · iexact HcR
    isplitl [Hland]; · iexact Hland
    isplitl [Hacc]; · iexact Hacc
    isplitl [Hraw]; · iexact Hraw
    isplitl [Hx]; · iexact Hx
    iexact Hw
  iapply (steps_ok (dataOf m ρ) K c) $$ [HT HO]
  · isplitr; · iexact Hr
    isplitl [HT] <;> iassumption
  iintro ⟨HT, ⟨%W', HO⟩⟩
  ihave HL := hlv $$ [HT HzB]
  · isplitl [HT] <;> iassumption
  icases HL with ⟨HΦ, Hx, Hout⟩
  iapply Hk
  unfold bodyPost Dat.owesAt Pipeline.owesWithin
  rw [show (dats m ρ 0 c).owed t₀.succ = 0 from rfl]
  isplitl [HΦ]; · iexact HΦ
  isplitl [HO]
  · iexists W'
    isplitr; · ipureintro; exact fun _ _ => Or.inl trivial
    iexact HO
  isplitl [Hx]
  · iexists _; isplitr; · (ipureintro; rfl)
    iexact Hx
  isplitl [Hg]
  · iexists _; isplitr; · (ipureintro; rfl)
    iexact Hg
  isplitl [Hi]
  · iexists _; isplitr; · (ipureintro; rfl)
    iexact Hi
  isplitl [He]
  · iexists _; isplitr; · (ipureintro; rfl)
    iexact He
  iexists _; isplitr; · (ipureintro; rfl)
  iexact Hout

def bodyPre' (c : Dev nD) : sProp 𝕄 :=
  iprop(Φ₀ (dataOf m ρ) c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

theorem body_ok' (c : Dev nD) : bodyPre' m ρ c ⊢ wpc c (body (F := F)) (fun _ => bodyPost m ρ c) := by
  unfold bodyPre' Φ₀ start
  iintro ⟨⟨⟨⟨%K, Hr, Hl⟩, Hc⟩, Hs⟩, Ho, Hx, Hg, Hi, He, Hout⟩
  iapply (body_ok m ρ K c fun _ => bodyPost m ρ c)
  unfold bodyPre
  isplitr []
  · isplitl [Hr Hl Hc Hs]
    · isplitl [Hr]; · iexact Hr
      isplitl [Hl]; · iexact Hl
      isplitl [Hc] <;> iassumption
    isplitl [Ho]; · iexact Ho
    isplitl [Hx]; · iexact Hx
    isplitl [Hg]; · iexact Hg
    isplitl [Hi]; · iexact Hi
    isplitl [He] <;> iassumption
  · iintro H; iexact H

set_option maxRecDepth 40000 in
/-- The body's obligation to the launch. -/
theorem body_obligation (c : Dev nD) : BodyObligation (dats (F := F) m ρ 0 c) (defs₀ (F := F)) 𝒱₀ () Set.univ := fun t => by
  rw [fin_N t]
  rw [bigSep_W, bigSep_W]
  simp only [owns_whole_eq]
  have h := body_ok' m ρ c
  rw [← printed_body] at h
  exact h

end Body

end Cert.Ring
-- ==== Proof.Launch.lean ====
/-
# The launch: every device's run from the initial memory

What the launch deals each device, how the cells' tokens go around the ring, and the run of the whole program.
-/
module

public import proofs.«01_k».proof.Proof.Body
public import Idealize.ShloMosaic.Lib.Pipeline.Quiescent

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## The kernel's own semaphores -/

/-- The kernel's own semaphores, the transfers': all but the runtime's. -/
abbrev osem (k : Flt × Bool) : SemLoc sig := csem (some k)

theorem scoped_sem : ∀ l : DmaSem sig, (SemLoc.dma l : SemLoc sig).isScoped .tc = true := by decide +kernel

theorem semS_ge (f : Flt) : 5 ≤ (semS f).val := by show 5 ≤ 5 + 60 * f.si.val + f.ln.base + f.s.val; omega
theorem semR_ge (f : Flt) : 5 ≤ (semR f).val := by show 5 ≤ 5 + 60 * f.si.val + f.ln.base + f.ln.len + f.s.val; omega
theorem stage_lt (w : Fin cfg0.W) (s : Fin (cfg0.win w).nbuf) : ((cfg0.win w).sem s).val < 5 := by
  revert s; revert w; decide

theorem ownSemFacts : Pipeline.OwnSemFacts cfg0.spec osem where
  isScoped k := by
    obtain ⟨f, b⟩ := k
    cases b
    · exact scoped_sem (semS f)
    · exact scoped_sem (semR f)
  inj := fun a b h => Option.some.inj (csem_inj h)
  disj := fun k w s h => by
    have h2 := stage_lt w s
    obtain ⟨f, b⟩ := k
    cases b
    · have h1 := semS_ge f
      have h3 : semS f = (cfg0.win w).sem s := SemLoc.dma.inj h
      rw [h3] at h1; omega
    · have h1 := semR_ge f
      have h3 : semR f = (cfg0.win w).sem s := SemLoc.dma.inj h
      rw [h3] at h1; omega

def ownCells : List (Flt × Bool) := (started.map fun f => (f, false)) ++ (started.map fun f => (f, true))
theorem ownCells_nodup : ownCells.Nodup := by decide +kernel
theorem mem_ownCells : ∀ k : Flt × Bool, k ∈ ownCells
  | (f, false) => List.mem_append_left _ (List.mem_map_of_mem (f := fun f => (f, false)) (mem_started f))
  | (f, true) => List.mem_append_right _ (List.mem_map_of_mem (f := fun f => (f, true)) (mem_started f))

omit [FloatOps F] in
theorem ownSems0_eq (c : Dev nD) : (Pipeline.ownSems0 (Ix := Unit) (Name := ℕ) (U := UU) (Lvl := ℕ) (Val := Elt F) (τ := τ) osem c : sProp 𝕄)
    = iprop((bigSepL started fun f => semVal (sendCell c f) 0) ∗ bigSepL started fun f => semVal (recvCell c f) 0) := by
  unfold Pipeline.ownSems0
  rw [bigSep_univ_eq_bigSepL ownCells (by ext k; simp [mem_ownCells k]) ownCells_nodup]
  unfold ownCells
  rw [bigSepL_append, bigSepL_map, bigSepL_map]
  rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems_eq (c : Dev nD) : sems (F := F) c
    = iprop((unscopedSems0 c : sProp 𝕄) ∗ (Pipeline.ownSems0 (Ix := Unit) (Name := ℕ) (U := UU) (Lvl := ℕ) (Val := Elt F) (τ := τ) osem c : sProp 𝕄)) := by
  rw [ownSems0_eq, unscopedSems0_eq]
  unfold sems
  rw [sep_cells]
  rfl

/-! ## The ghost state dealt -/

def ringCells : Finset (GSem nD τ sig) := Finset.univ.map ⟨kcell, kcell_injective⟩

/-- One token for every cell, and a second one for the barrier cells. -/
abbrev tokOf (x : Dev nD × (Cx ⊕ Unit)) : GSem nD τ sig × ℕ × Bool := match x.2 with
  | .inl k => (kcell (x.1, k), 0, false)
  | .inr _ => (barCell x.1, 0, true)
theorem tokOf_injective : Function.Injective (tokOf : Dev nD × (Cx ⊕ Unit) → GSem nD τ sig × ℕ × Bool) := by
  rintro ⟨c, k | u⟩ ⟨c', k' | u'⟩ h
  · have h1 := kcell_injective (congrArg Prod.fst h : kcell (c, k) = kcell (c', k'))
    cases h1; rfl
  · exact Bool.noConfusion (congrArg (fun x : GSem nD τ sig × ℕ × Bool => x.2.2) h : false = true)
  · exact Bool.noConfusion (congrArg (fun x : GSem nD τ sig × ℕ × Bool => x.2.2) h : true = false)
  · have h1 := kcell_injective (show kcell (c, none) = kcell (c', none) from congrArg Prod.fst h)
    cases h1; rfl
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

variable (V : Data F)

/-- The tokens of a device's own cells. -/
def toks (c : Dev nD) : sProp 𝕄 :=
  iprop((bigSep Finset.univ fun k : Cx => dutyTok ER (kcell (c, k)) 0 false) ∗ dutyTok ER (barCell c) 0 true)

def G (c : Dev nD) : sProp 𝕄 :=
  iprop((bigSep Finset.univ fun k : Cx => roundState ER (ringRd V) (kcell (c, k)) 0)
    ∗ (bigSep Finset.univ fun k : Cx => iprop(atPos ER (kcell (c, k)) 0 ∅ 0 ∗ reached ER (kcell (c, k)) 0)) ∗ toks (F := F) c)

/-- The cells' invariants and that every cell has begun. -/
def marks (K : Dev nD × Cx → ℕ) : sProp 𝕄 :=
  iprop((bigSep Finset.univ fun ck : Dev nD × Cx => cellInv ER (ringRd V) (K ck) (kcell ck))
    ∗ bigSep Finset.univ fun ck : Dev nD × Cx => reached ER (kcell ck) 0)
instance marks_persistent (K : Dev nD × Cx → ℕ) : BI.Persistent (marks V K) := by unfold marks; infer_instance

def G' (c : Dev nD) : sProp 𝕄 := iprop(∃ K, marks V K ∗ linear (F := F) c)

theorem fund_ring : BI.own (ER (initOf ringCells ringToks)) ⊢ (|==> bigSep Finset.univ (G V) : sProp 𝕄) := by
  have hX (Φ : GSem nD τ sig → sProp 𝕄) : bigSep ringCells Φ = bigSep Finset.univ fun c : Dev nD => bigSep Finset.univ fun k : Cx => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod]
    refine bigSep_congr fun c _ => ?_
    unfold toks
    rw [bigSep_univ_sum, bigSep_univ_eq_bigSepL (I := Unit) [()] (by decide) (by decide), bigSepL_singleton]
    rfl
  iintro HX
  imod (Rounds.fund ER (ringRd V) ringCells ringToks) $$ HX with ⟨Hst, Hr, Hat, Htok⟩
  imodintro
  ihave Hst' := (Entails.of_eq (hX fun g => roundState ER (ringRd V) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G V c)
      ⊢ |={Set.univ}=> iprop((bigSep Finset.univ fun k => iprop(∃ κ : ℕ, cellInv ER (ringRd V) κ (kcell (c, k))))
          ∗ (bigSep Finset.univ fun k => iprop(atPos ER (kcell (c, k)) 0 ∅ 0 ∗ reached ER (kcell (c, k)) 0)) ∗ toks (F := F) c) := by
  have hs := Entails.of_eq (sems_eq (F := F) c).symm
  unfold sems at hs
  unfold G
  iintro ⟨Hos, Hus, Hst, Hat, Htok⟩
  ihave Hv := hs $$ [Hos Hus]
  · isplitl [Hus] <;> iassumption
  imod (show iprop((bigSep Finset.univ fun k : Cx => semVal (kcell (c, k)) 0) ∗ bigSep Finset.univ fun k : Cx => roundState ER (ringRd V) (kcell (c, k)) 0)
      ⊢ (|={Set.univ}=> bigSep Finset.univ fun k => iprop(∃ κ : ℕ, cellInv ER (ringRd V) κ (kcell (c, k))) : sProp 𝕄) from by
        rw [← bigSep_sep']
        exact (bigSep_mono fun k _ => (Rounds.body_intro ER (ringRd V) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A transfer's arrival token goes to the device that starts it. -/
theorem arrivals_around (Φ : Dev nD → Flt → sProp 𝕄) : ∀ l : List Flt,
    (bigSep Finset.univ fun c : Dev nD => bigSepL l (Φ c)) = bigSep Finset.univ fun c : Dev nD => bigSepL l fun f => Φ (dest c f.ln) f
  | [] => rfl
  | f :: l => by
    have h1 : ∀ c : Dev nD, bigSepL (f :: l) (Φ c) = iprop(Φ c f ∗ bigSepL l (Φ c)) := fun c => bigSepL_cons _ _ _
    have h2 : ∀ c : Dev nD, (bigSepL (f :: l) fun f => Φ (dest c f.ln) f) = iprop(Φ (dest c f.ln) f ∗ bigSepL l fun f => Φ (dest c f.ln) f) := fun c => bigSepL_cons _ _ _
    simp only [h1, h2]
    rw [bigSep_sep', bigSep_sep', arrivals_around Φ l, bigSep_univ_equiv (turn f.ln) fun c => Φ c f]
    rfl

theorem toks_around : (bigSep Finset.univ fun c : Dev nD => toks (F := F) c) ⊢ bigSep Finset.univ fun c : Dev nD => payToks (F := F) c := by
  unfold toks payToks
  simp only [sep_cells]
  rw [bigSep_sep', bigSep_sep', bigSep_sep', bigSep_sep', bigSep_sep', bigSep_sep']
  have hb : (bigSep Finset.univ fun c : Dev nD => (dutyTok ER (barCell c) 0 false : sProp 𝕄)) = bigSep Finset.univ fun c : Dev nD => dutyTok ER (barCell (nxt c)) 0 false :=
    bigSep_univ_equiv (turn .rsR) _
  have ht : (bigSep Finset.univ fun c : Dev nD => (dutyTok ER (barCell c) 0 true : sProp 𝕄)) = bigSep Finset.univ fun c : Dev nD => dutyTok ER (barCell (prv c)) 0 true :=
    bigSep_univ_equiv (turn .rsL) _
  have hr := arrivals_around (F := F) (fun c f => dutyTok ER (recvCell c f) 0 false) started
  have hb := Entails.of_eq hb
  have ht := Entails.of_eq ht
  have hr := Entails.of_eq hr
  iintro ⟨⟨H1, H2, H3⟩, H4⟩
  isplitl [H4]; · iapply ht; iexact H4
  isplitl [H1]; · iapply hb; iexact H1
  isplitl [H2]; · iexact H2
  iapply hr; iexact H3

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Cx → ℕ) (c : Dev nD) : iprop(marks V K ∗ linear (F := F) c) ⊢ G' V c := by
  unfold G'; iintro H; iexists K; iexact H

theorem regroup :
    (bigSep Finset.univ fun c : Dev nD => iprop((bigSep Finset.univ fun k => iprop(∃ κ : ℕ, cellInv ER (ringRd V) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' V) := by
  rw [bigSep_sep', bigSep_sep', ← bigSep_univ_prod (fun ck : Dev nD × Cx => iprop(∃ κ : ℕ, cellInv ER (ringRd V) κ (kcell ck))),
    bigSep_congr (s := Finset.univ) (fun (c : Dev nD) _ => bigSep_sep' Finset.univ (fun k : Cx => (atPos ER (kcell (c, k)) 0 ∅ 0 : sProp 𝕄)) (fun k => reached ER (kcell (c, k)) 0)),
    bigSep_sep', ← bigSep_univ_prod (fun ck : Dev nD × Cx => (reached ER (kcell ck) 0 : sProp 𝕄))]
  iintro ⟨HI, ⟨Hat, #HR⟩, Htok⟩
  ihave HK := (BI.bigSep_exists_pi Finset.univ (fun (ck : Dev nD × Cx) (κ : ℕ) => (cellInv ER (ringRd V) κ (kcell ck) : sProp 𝕄))) $$ HI
  icases HK with ⟨%K, #HI⟩
  ihave Htk := (toks_around (F := F)) $$ Htok
  iapply (with_persistent (R := marks V K) fun c _ => ghost_intro V K c)
  isplitr
  · unfold marks; isplitl; · iexact HI
    iexact HR
  · iapply ((Entails.of_eq (bigSep_sep' Finset.univ (fun c : Dev nD => bigSep Finset.univ fun k : Cx => (atPos ER (kcell (c, k)) 0 ∅ 0 : sProp 𝕄)) (payToks (F := F))).symm).trans
      (bigSep_mono fun c _ => show _ ⊢ linear (F := F) c from Entails.of_eq (by unfold linear; rfl)))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G V c) : sProp 𝕄)
    ⊢ |={Set.univ}=> bigSep Finset.univ (G' V) :=
  ((bigSep_mono fun c _ => core_alloc V c).trans (bigSep_fupd _ _)).trans (BI.fupd_mono (regroup V))

/-! ## The credit -/

omit [FloatOps F] in
theorem bar_ne_recv (a b : Dev nD) (f : Flt) : barCell a ≠ recvCell b f := fun h => by
  have := kcell_injective (show kcell (a, none) = kcell (b, some (f, true)) from h)
  cases this
theorem bar_eq_iff {a b : Dev nD} : (barCell a = barCell b) ↔ (a = b) :=
  ⟨fun h => congrArg Prod.fst (kcell_injective (show kcell (a, none) = kcell (b, none) from h)), fun h => h ▸ rfl⟩
theorem recv_eq_iff {a b : Dev nD} {f g : Flt} : (recvCell a f = recvCell b g) ↔ (a = b ∧ f = g) := by
  constructor
  · intro h
    have := kcell_injective (show kcell (a, some (f, true)) = kcell (b, some (g, true)) from h)
    cases this; exact ⟨rfl, rfl⟩
  · rintro ⟨rfl, rfl⟩; rfl

theorem owed_at_bar (d c : Dev nD) : ∀ l, owed d l (barCell c) () = 0
  | [] => rfl
  | f :: l => by
    show (owed d l + tallyAt (recvCell (dest d f.ln) f) () N) (barCell c) () = 0
    rw [Pi.add_apply, Finsupp.add_apply, owed_at_bar d c l, tallyAt_ne_cell (bar_ne_recv _ _ _), Finsupp.zero_apply, Nat.add_zero]

theorem owed_at_recv (d c : Dev nD) (f : Flt) : ∀ l, l.Nodup → owed d l (recvCell c f) () = if f ∈ l ∧ d = orig c f.ln then N else 0
  | [], _ => by rw [if_neg (fun h => absurd h.1 List.not_mem_nil)]; rfl
  | g :: l, hl => by
    obtain ⟨hg, hl⟩ := List.nodup_cons.mp hl
    show (owed d l + tallyAt (recvCell (dest d g.ln) g) () N) (recvCell c f) () = _
    rw [Pi.add_apply, Finsupp.add_apply, owed_at_recv d c f l hl, tallyAt_apply]
    by_cases h : f = g
    · subst h
      rw [if_neg (fun h => hg h.1), Nat.zero_add]
      by_cases h2 : d = orig c f.ln
      · subst h2; rw [dest_orig, if_pos ⟨rfl, rfl⟩, if_pos ⟨List.mem_cons_self, rfl⟩]
      · rw [if_neg (fun h' => h2 (by rw [(recv_eq_iff.mp h'.1).1, orig_dest])), if_neg (fun h' => h2 h'.2)]
    · rw [if_neg (c := recvCell c f = recvCell (dest d g.ln) g ∧ () = ()) (fun h' => h (recv_eq_iff.mp h'.1).2), Nat.add_zero]
      by_cases h2 : f ∈ l ∧ d = orig c f.ln
      · rw [if_pos h2, if_pos ⟨List.mem_cons_of_mem _ h2.1, h2.2⟩]
      · rw [if_neg h2, if_neg (fun h' => h2 ⟨(List.mem_cons.mp h'.1).resolve_left h, h'.2⟩)]

theorem owes_bar (d c : Dev nD) : O₀ d (barCell c) () = (if d = prv c then 1 else 0) + (if d = nxt c then 1 else 0) := by
  unfold O₀ O₁
  rw [Pi.add_apply, Finsupp.add_apply, Pi.add_apply, Finsupp.add_apply, owed_at_bar, tallyAt_apply, tallyAt_apply, Nat.zero_add]
  congr 1
  · by_cases h : d = prv c
    · subst h; rw [nxt_prv, if_pos ⟨rfl, rfl⟩, if_pos rfl]
    · rw [if_neg (fun ⟨h1, _⟩ => h (by rw [← prv_nxt d]; exact congrArg prv (bar_eq_iff.mp h1).symm)), if_neg h]
  · by_cases h : d = nxt c
    · subst h; rw [prv_nxt, if_pos ⟨rfl, rfl⟩, if_pos rfl]
    · rw [if_neg (fun ⟨h1, _⟩ => h (by rw [← nxt_prv d]; exact congrArg nxt (bar_eq_iff.mp h1).symm)), if_neg h]

theorem owes_recv (d c : Dev nD) (f : Flt) : O₀ d (recvCell c f) () = if d = orig c f.ln then N else 0 := by
  unfold O₀ O₁
  rw [Pi.add_apply, Finsupp.add_apply, Pi.add_apply, Finsupp.add_apply, owed_at_recv d c f started started_nodup,
    tallyAt_ne_cell (bar_ne_recv _ _ _).symm, tallyAt_ne_cell (bar_ne_recv _ _ _).symm, Finsupp.zero_apply, Nat.add_zero, Nat.add_zero]
  by_cases h : d = orig c f.ln
  · rw [if_pos h, if_pos ⟨mem_started f, h⟩]
  · rw [if_neg h, if_neg (fun h' => h h'.2)]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owes_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_recv (c : Dev nD) (f : Flt) :
    tallyOn (recvCell c f) (launchCredit (Pipeline.owing O₀) 0 (recvCell c f)) = (tallyAt (recvCell c f) () N : CellTallies nD τ sig Unit) := by
  unfold tallyAt; refine congrArg _ (Finsupp.ext fun u => ?_); cases u
  rw [Pipeline.launchCredit_owing, Finsupp.single_eq_same, Finset.sum_congr rfl fun d _ => owes_recv d c f, Finset.sum_ite_eq' Finset.univ (orig c f.ln) fun _ => N,
    if_pos (Finset.mem_univ _)]

theorem creds (c : Dev nD) : (Pipeline.launchCred O₀ c : sProp 𝕄) ⊢ credits (F := F) c := by
  have h : (Pipeline.launchCred O₀ c : sProp 𝕄) ⊢ bigSep Finset.univ fun k : Cx => cred (tallyOn (kcell (c, k)) (launchCredit (Pipeline.owing O₀) 0 (kcell (c, k)))) := by
    unfold Pipeline.launchCred
    refine (bigSep_subset (Finset.subset_univ (Finset.univ.map ⟨csem, csem_inj⟩))).trans ?_
    rw [bigSep_map]
    exact BI.Entails.refl _
  refine h.trans ?_
  rw [sep_cells]
  unfold credits
  have h1 : (bigSepL started fun f => (cred (tallyOn (recvCell c f) (launchCredit (Pipeline.owing O₀) 0 (recvCell c f))) : sProp 𝕄))
      = bigSepL started fun f => cred (tallyAt (recvCell c f) () N) := sepL_congr fun f _ => by rw [launch_recv]
  have h1 := Entails.of_eq h1
  have h2 : (cred (tallyOn (barCell c) (launchCredit (Pipeline.owing O₀) 0 (barCell c))) : sProp 𝕄) = cred (tallyAt (barCell c) () 2) := by rw [launch_bar]
  have h2 := Entails.of_eq h2
  iintro ⟨H1, -, H3⟩
  isplitl [H1]
  · iapply h2; iexact H1
  · iapply h1; iexact H3

/-! ## The launch's conditions -/

variable (m : (ℓ : Loc nD τ sig) → Buf (Elt F) ℓ) (ρ : Dev nD → PrngReg)

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' V c)
      ⊢ |={Set.univ}=> iprop(start V c ∗ emp) := by
  unfold start G' records marks
  iintro ⟨-, Hlev, Hcr, -, ⟨%K, ⟨H1, H2⟩, Hl⟩⟩
  ihave Hc := (creds (F := F) c) $$ Hcr
  imodintro
  isplitl
  · isplitr [Hc]
    · iexists K
      isplitr [Hl]
      · isplitl [H1]; · iexact H1
        isplitl [H2] <;> iassumption
      · iexact Hl
    · iexact Hc
  · iempintro

theorem scratch_eq (c : Dev nD) : Pipeline.scopedRest cfg0.spec c ⊣⊢ scratch (F := F) c := by
  rw [scopedRest0_eq]
  unfold scratch
  have hR : (bigSepL strips fun si => wholeR (F := F) c si) = iprop(wholeR c 0 ∗ wholeR c 1 ∗ wholeR c 2 ∗ wholeR c 3) := rfl
  have hL : (bigSepL strips fun si => wholeL (F := F) c si) = iprop(wholeL c 0 ∗ wholeL c 1 ∗ wholeL c 2 ∗ wholeL c 3) := rfl
  rw [hR, hL]
  unfold wholeR wholeL
  constructor
  · iintro ⟨Ha, Hw, R0, L0, R1, L1, R2, L2, R3, L3⟩
    isplitl [Ha]; · iexact Ha
    isplitl [Hw]; · iexact Hw
    isplitl [R0 R1 R2 R3]
    · isplitl [R0]; · iexact R0
      isplitl [R1]; · iexact R1
      isplitl [R2]; · iexact R2
      iexact R3
    · isplitl [L0]; · iexact L0
      isplitl [L1]; · iexact L1
      isplitl [L2]; · iexact L2
      iexact L3
  · iintro ⟨Ha, Hw, ⟨R0, R1, R2, R3⟩, L0, L1, L2, L3⟩
    isplitl [Ha]; · iexact Ha
    isplitl [Hw]; · iexact Hw
    isplitl [R0]; · iexact R0
    isplitl [L0]; · iexact L0
    isplitl [R1]; · iexact R1
    isplitl [L1]; · iexact L1
    isplitl [R2]; · iexact R2
    isplitl [L2]; · iexact L2
    isplitl [R3]; · iexact R3
    iexact L3

theorem phi0_intro (c : Dev nD) :
    iprop(start (dataOf m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ (dataOf m ρ) c from rfl]
  unfold Φ₀
  have h := (scratch_eq (F := F) c).1
  iintro ⟨Hs, -, Hr⟩
  isplitl [Hs]; · iexact Hs
  iapply h; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl]
  unfold Φ₁
  rw [sems_eq]
  have h := (scratch_eq (F := F) c).2
  iintro ⟨Hr, HB, HO⟩
  isplitl [HB]; · iexact HB
  isplitl [HO]; · iexact HO
  iapply h; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (fun f h => by
      have h1 := semR_ge f
      have h2 := stage_lt w s
      rw [← h] at h1; exact absurd h1 (Nat.not_le.mpr h2)) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every run ends, with the result computed, the arguments unchanged and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (dataOf m ρ)) (G' := G' (dataOf m ρ)) (u₀ := u₀)
    (hu₀ := by
      unfold u₀
      iintro Hu
      ihave H := (ownU_pair _ _) $$ Hu
      icases H with ⟨HP, HX⟩
      imod (fund_ring (dataOf m ρ)) $$ HX with HG
      imodintro
      isplitl [HP] <;> iassumption)
    (hglob := glob (dataOf m ρ))
    (hA := fun _ _ => rfl) (hpf := fun _ k => k.elim0)
    (X := start (dataOf m ρ)) (Y := fun c => unscopedSems0 c) (Z := fun _ => iprop(emp))
    (hX := start_intro (dataOf m ρ) m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      ihave %h := (tcUnscoped_read c s') $$ [Hu HSI]
      · isplitl [Hu] <;> iassumption
      imodintro
      isplitr; · ipureintro; exact h
      iexact HSI)
    (hQ := fun _ h hs => ⟨fun c w => (h c).1 w, sem_eq_zero hs fun c => (h c).2.2⟩)

theorem finalA_0 (c : Dev nD) : finalA m ρ c (0 : Fin 5) = (s₀ m ρ).mem (win0_0.arr.view.loc (c : Thread nD τ)) := (dats (F := F) m ρ 0 c).arrAt_in (0 : Fin 5) rfl _
theorem finalA_1 (c : Dev nD) : finalA m ρ c (1 : Fin 5) = (s₀ m ρ).mem (win0_1.arr.view.loc (c : Thread nD τ)) := (dats (F := F) m ρ 0 c).arrAt_in (1 : Fin 5) rfl _
theorem finalA_2 (c : Dev nD) : finalA m ρ c (2 : Fin 5) = (s₀ m ρ).mem (win0_2.arr.view.loc (c : Thread nD τ)) := (dats (F := F) m ρ 0 c).arrAt_in (2 : Fin 5) rfl _
theorem finalA_3 (c : Dev nD) : finalA m ρ c (3 : Fin 5) = (s₀ m ρ).mem (win0_3.arr.view.loc (c : Thread nD τ)) := (dats (F := F) m ρ 0 c).arrAt_in (3 : Fin 5) rfl _

end Cert.Ring
-- ==== Proof.Plain.lean ====
/-
# The reference's run

The reference is a straight line of operations on whole arrays: its run, and its result as a function of its arguments.
-/
module

public import proofs.«01_k».proof.Proof.Gen.ReferenceIdeal
public import Idealize.ShloMosaic.Lib.StableHlo.Run
public import Idealize.ShloMosaic.Lib.StableHlo.RunRead

@[expose] public section

noncomputable section

namespace Cert.Plain

open Cert.ReferenceIdeal Cert.ReferenceIdeal.Gen
open Idealize.ShloMosaic Idealize.ShloMosaic.TcCoe Idealize.ShloMosaic.StableHlo
open Idealize.SL.Sem

variable {F : FTy → Type} [FloatOps F]

/-- The line's first sixty operations. -/
abbrev ops₀ : List (HloOp τ sig (Elt F)) :=
  [ binary main_arg0 main_arg1 main_v0 ((fun l r => Host.dotGeneral dot_S2048x512_S512x64_S2048x64_1_0_0_1_n_n none l r) : (⟨S2048x512, .f32⟩ : BufTy).Contents (Elt F) → (⟨S512x64, .f32⟩ : BufTy).Contents (Elt F) → (⟨S2048x64, .f32⟩ : BufTy).Contents (Elt F)),
    nullary main_cst (constant S_ .f32 0xFF800000#32),
    binary main_v0 main_cst main_v1 ((fun x v => Host.reduce FloatOps.maximumf x v reducesTo_S2048x64_S2048_d1 h_S_) : (⟨S2048x64, .f32⟩ : BufTy).Contents (Elt F) → (⟨S_, .f32⟩ : BufTy).Contents (Elt F) → (⟨S2048, .f32⟩ : BufTy).Contents (Elt F)),
    unary main_v1 main_v2 (broadcastInDim S2048x1 ![0] bcast_S2048_S2048x1_0 : (⟨S2048, .f32⟩ : BufTy).Contents (Elt F) → (⟨S2048x1, .f32⟩ : BufTy).Contents (Elt F)),
    unary main_v2 main_v3 (broadcastInDim S2048x64 ![0, 1] bcast_S2048x1_S2048x64_0_1 : (⟨S2048x1, .f32⟩ : BufTy).Contents (Elt F) → (⟨S2048x64, .f32⟩ : BufTy).Contents (Elt F)),
    binary main_v0 main_v3 main_v4 (subf : (⟨S2048x64, .f32⟩ : BufTy).Contents (Elt F) → (⟨S2048x64, .f32⟩ : BufTy).Contents (Elt F) → (⟨S2048x64, .f32⟩ : BufTy).Contents (Elt F)),
    unary main_v4 main_v5 (Host.exp : (⟨S2048x64, .f32⟩ : BufTy).Contents (Elt F) → (⟨S2048x64, .f32⟩ : BufTy).Contents (Elt F)),
    nullary main_cst_0 (constant S_ .f32 0x00000000#32),
    binary main_v5 main_cst_0 main_v6 ((fun x v => Host.reduceAdd x v reducesTo_S2048x64_S2048_d1 h_S_) : (⟨S2048x64, .f32⟩ : BufTy).Contents (Elt F) → (⟨S_, .f32⟩ : BufTy).Contents (Elt F) → (⟨S2048, .f32⟩ : BufTy).Contents (Elt F)),
    unary main_v6 main_v7 (broadcastInDim S2048x1 ![0] bcast_S2048_S2048x1_0 : (⟨S2048, .f32⟩ : BufTy).Contents (Elt F) → (⟨S2048x1, .f32⟩ : BufTy).Contents (Elt F)),
    unary main_v7 main_v8 (broadcastInDim S2048x64 ![0, 1] bcast_S2048x1_S2048x64_0_1 : (⟨S2048x1, .f32⟩ : BufTy).Contents (Elt F) → (⟨S2048x64, .f32⟩ : BufTy).Contents (Elt F)),
    binary main_v5 main_v8 main_v9 (Host.divf : (⟨S2048x64, .f32⟩ : BufTy).Contents (Elt F) → (⟨S2048x64, .f32⟩ : BufTy).Contents (Elt F) → (⟨S2048x64, .f32⟩ : BufTy).Contents (Elt F)),
    unary main_arg2 main_v10 ((extractStridedSlice S2048x1 ![0, 0] · slices_S2048x2_S2048x1_0_0) : (⟨S2048x2, .i32⟩ : BufTy).Contents (Elt F) → (⟨S2048x1, .i32⟩ : BufTy).Contents (Elt F)),
    reshape main_v10 main_v11 (rfl : (.i32 : EltTy) = .i32) shapeCasts_S2048x1_S2048,
    unary main_arg2 main_v12 ((extractStridedSlice S2048x1 ![0, 1] · slices_S2048x2_S2048x1_0_1) : (⟨S2048x2, .i32⟩ : BufTy).Contents (Elt F) → (⟨S2048x1, .i32⟩ : BufTy).Contents (Elt F)),
    reshape main_v12 main_v13 (rfl : (.i32 : EltTy) = .i32) shapeCasts_S2048x1_S2048,
    nullary main_v14 (iotaInDim S2048 32 0),
    nullary main_c (constantI S_ 32 0#32),
    unary main_c main_v15 (broadcastInDim S2048 ![] bcast_S_S2048 : (⟨S_, .i32⟩ : BufTy).Contents (Elt F) → (⟨S2048, .i32⟩ : BufTy).Contents (Elt F)),
    binary main_v14 main_v15 main_v16 (cmpi .slt : (⟨S2048, .i32⟩ : BufTy).Contents (Elt F) → (⟨S2048, .i32⟩ : BufTy).Contents (Elt F) → (⟨S2048, .i1⟩ : BufTy).Contents (Elt F)),
    nullary main_c_1 (constantI S_ 32 2048#32),
    unary main_c_1 main_v17 (broadcastInDim S2048 ![] bcast_S_S2048 : (⟨S_, .i32⟩ : BufTy).Contents (Elt F) → (⟨S2048, .i32⟩ : BufTy).Contents (Elt F)),
    binary main_v14 main_v17 main_v18 (addi : (⟨S2048, .i32⟩ : BufTy).Contents (Elt F) → (⟨S2048, .i32⟩ : BufTy).Contents (Elt F) → (⟨S2048, .i32⟩ : BufTy).Contents (Elt F)),
    ternary main_v16 main_v18 main_v14 main_v19 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    nullary main_c_2 (constantI S_ 32 0#32),
    unary main_c_2 main_v20 (broadcastInDim S2048 ![] bcast_S_S2048 : (⟨S_, .i32⟩ : BufTy).Contents (Elt F) → (⟨S2048, .i32⟩ : BufTy).Contents (Elt F)),
    binary main_v11 main_v20 main_v21 (cmpi .slt : (⟨S2048, .i32⟩ : BufTy).Contents (Elt F) → (⟨S2048, .i32⟩ : BufTy).Contents (Elt F) → (⟨S2048, .i1⟩ : BufTy).Contents (Elt F)),
    nullary main_c_3 (constantI S_ 32 64#32),
    unary main_c_3 main_v22 (broadcastInDim S2048 ![] bcast_S_S2048 : (⟨S_, .i32⟩ : BufTy).Contents (Elt F) → (⟨S2048, .i32⟩ : BufTy).Contents (Elt F)),
    binary main_v11 main_v22 main_v23 (addi : (⟨S2048, .i32⟩ : BufTy).Contents (Elt F) → (⟨S2048, .i32⟩ : BufTy).Contents (Elt F) → (⟨S2048, .i32⟩ : BufTy).Contents (Elt F)),
    ternary main_v21 main_v23 main_v11 main_v24 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v19 main_v25 (broadcastInDim S2048x1 ![0] bcast_S2048_S2048x1_0 : (⟨S2048, .i32⟩ : BufTy).Contents (Elt F) → (⟨S2048x1, .i32⟩ : BufTy).Contents (Elt F)),
    unary main_v24 main_v26 (broadcastInDim S2048x1 ![0] bcast_S2048_S2048x1_0 : (⟨S2048, .i32⟩ : BufTy).Contents (Elt F) → (⟨S2048x1, .i32⟩ : BufTy).Contents (Elt F)),
    binary main_v25 main_v26 main_v27 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)),
    binary main_v9 main_v27 main_v28 ((fun x i => Host.gather gather_S2048x64_S2048x2_S2048_n_01_n_n_01_1_11 x i) : (⟨S2048x64, .f32⟩ : BufTy).Contents (Elt F) → (⟨S2048x2, .i32⟩ : BufTy).Contents (Elt F) → (⟨S2048, .f32⟩ : BufTy).Contents (Elt F)),
    nullary main_c_4 (constantI S_ 32 0#32),
    unary main_c_4 main_v29 (broadcastInDim S2048 ![] bcast_S_S2048 : (⟨S_, .i32⟩ : BufTy).Contents (Elt F) → (⟨S2048, .i32⟩ : BufTy).Contents (Elt F)),
    binary main_v14 main_v29 main_v30 (cmpi .slt : (⟨S2048, .i32⟩ : BufTy).Contents (Elt F) → (⟨S2048, .i32⟩ : BufTy).Contents (Elt F) → (⟨S2048, .i1⟩ : BufTy).Contents (Elt F)),
    nullary main_c_5 (constantI S_ 32 2048#32),
    unary main_c_5 main_v31 (broadcastInDim S2048 ![] bcast_S_S2048 : (⟨S_, .i32⟩ : BufTy).Contents (Elt F) → (⟨S2048, .i32⟩ : BufTy).Contents (Elt F)),
    binary main_v14 main_v31 main_v32 (addi : (⟨S2048, .i32⟩ : BufTy).Contents (Elt F) → (⟨S2048, .i32⟩ : BufTy).Contents (Elt F) → (⟨S2048, .i32⟩ : BufTy).Contents (Elt F)),
    ternary main_v30 main_v32 main_v14 main_v33 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    nullary main_c_6 (constantI S_ 32 0#32),
    unary main_c_6 main_v34 (broadcastInDim S2048 ![] bcast_S_S2048 : (⟨S_, .i32⟩ : BufTy).Contents (Elt F) → (⟨S2048, .i32⟩ : BufTy).Contents (Elt F)),
    binary main_v13 main_v34 main_v35 (cmpi .slt : (⟨S2048, .i32⟩ : BufTy).Contents (Elt F) → (⟨S2048, .i32⟩ : BufTy).Contents (Elt F) → (⟨S2048, .i1⟩ : BufTy).Contents (Elt F)),
    nullary main_c_7 (constantI S_ 32 64#32),
    unary main_c_7 main_v36 (broadcastInDim S2048 ![] bcast_S_S2048 : (⟨S_, .i32⟩ : BufTy).Contents (Elt F) → (⟨S2048, .i32⟩ : BufTy).Contents (Elt F)),
    binary main_v13 main_v36 main_v37 (addi : (⟨S2048, .i32⟩ : BufTy).Contents (Elt F) → (⟨S2048, .i32⟩ : BufTy).Contents (Elt F) → (⟨S2048, .i32⟩ : BufTy).Contents (Elt F)),
    ternary main_v35 main_v37 main_v13 main_v38 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v33 main_v39 (broadcastInDim S2048x1 ![0] bcast_S2048_S2048x1_0 : (⟨S2048, .i32⟩ : BufTy).Contents (Elt F) → (⟨S2048x1, .i32⟩ : BufTy).Contents (Elt F)),
    unary main_v38 main_v40 (broadcastInDim S2048x1 ![0] bcast_S2048_S2048x1_0 : (⟨S2048, .i32⟩ : BufTy).Contents (Elt F) → (⟨S2048x1, .i32⟩ : BufTy).Contents (Elt F)),
    binary main_v39 main_v40 main_v41 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)),
    binary main_v9 main_v41 main_v42 ((fun x i => Host.gather gather_S2048x64_S2048x2_S2048_n_01_n_n_01_1_11 x i) : (⟨S2048x64, .f32⟩ : BufTy).Contents (Elt F) → (⟨S2048x2, .i32⟩ : BufTy).Contents (Elt F) → (⟨S2048, .f32⟩ : BufTy).Contents (Elt F)),
    binary main_v28 main_v42 main_v43 (addf : (⟨S2048, .f32⟩ : BufTy).Contents (Elt F) → (⟨S2048, .f32⟩ : BufTy).Contents (Elt F) → (⟨S2048, .f32⟩ : BufTy).Contents (Elt F)),
    nullary main_c_8 (constantI S_ 32 0#32),
    unary main_c_8 main_v44 (broadcastInDim S2048 ![] bcast_S_S2048 : (⟨S_, .i32⟩ : BufTy).Contents (Elt F) → (⟨S2048, .i32⟩ : BufTy).Contents (Elt F)),
    binary main_v11 main_v44 main_v45 (cmpi .slt : (⟨S2048, .i32⟩ : BufTy).Contents (Elt F) → (⟨S2048, .i32⟩ : BufTy).Contents (Elt F) → (⟨S2048, .i1⟩ : BufTy).Contents (Elt F)),
    nullary main_c_9 (constantI S_ 32 64#32),
    unary main_c_9 main_v46 (broadcastInDim S2048 ![] bcast_S_S2048 : (⟨S_, .i32⟩ : BufTy).Contents (Elt F) → (⟨S2048, .i32⟩ : BufTy).Contents (Elt F)),
    binary main_v11 main_v46 main_v47 (addi : (⟨S2048, .i32⟩ : BufTy).Contents (Elt F) → (⟨S2048, .i32⟩ : BufTy).Contents (Elt F) → (⟨S2048, .i32⟩ : BufTy).Contents (Elt F)) ]
/-- The rest of the line. -/
abbrev ops₁ : List (HloOp τ sig (Elt F)) :=
  [ ternary main_v45 main_v47 main_v11 main_v48 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v48 main_v49 (broadcastInDim S2048x1 ![0] bcast_S2048_S2048x1_0 : (⟨S2048, .i32⟩ : BufTy).Contents (Elt F) → (⟨S2048x1, .i32⟩ : BufTy).Contents (Elt F)),
    binary main_arg3 main_v49 main_v50 ((fun x i => Host.gather gather_S64x512x1024_S2048x1_S2048x512x1024_12_0_n_n_0_1_15121024 x i) : (⟨S64x512x1024, .f32⟩ : BufTy).Contents (Elt F) → (⟨S2048x1, .i32⟩ : BufTy).Contents (Elt F) → (⟨S2048x512x1024, .f32⟩ : BufTy).Contents (Elt F)),
    binary main_arg0 main_v50 main_v51 ((fun l r => Host.dotGeneral dot_S2048x512_S2048x512x1024_S2048x1024_1_1_n_2_0_0 none l r) : (⟨S2048x512, .f32⟩ : BufTy).Contents (Elt F) → (⟨S2048x512x1024, .f32⟩ : BufTy).Contents (Elt F) → (⟨S2048x1024, .f32⟩ : BufTy).Contents (Elt F)),
    nullary main_c_10 (constantI S_ 32 0#32),
    unary main_c_10 main_v52 (broadcastInDim S2048 ![] bcast_S_S2048 : (⟨S_, .i32⟩ : BufTy).Contents (Elt F) → (⟨S2048, .i32⟩ : BufTy).Contents (Elt F)),
    binary main_v13 main_v52 main_v53 (cmpi .slt : (⟨S2048, .i32⟩ : BufTy).Contents (Elt F) → (⟨S2048, .i32⟩ : BufTy).Contents (Elt F) → (⟨S2048, .i1⟩ : BufTy).Contents (Elt F)),
    nullary main_c_11 (constantI S_ 32 64#32),
    unary main_c_11 main_v54 (broadcastInDim S2048 ![] bcast_S_S2048 : (⟨S_, .i32⟩ : BufTy).Contents (Elt F) → (⟨S2048, .i32⟩ : BufTy).Contents (Elt F)),
    binary main_v13 main_v54 main_v55 (addi : (⟨S2048, .i32⟩ : BufTy).Contents (Elt F) → (⟨S2048, .i32⟩ : BufTy).Contents (Elt F) → (⟨S2048, .i32⟩ : BufTy).Contents (Elt F)),
    ternary main_v53 main_v55 main_v13 main_v56 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v56 main_v57 (broadcastInDim S2048x1 ![0] bcast_S2048_S2048x1_0 : (⟨S2048, .i32⟩ : BufTy).Contents (Elt F) → (⟨S2048x1, .i32⟩ : BufTy).Contents (Elt F)),
    binary main_arg3 main_v57 main_v58 ((fun x i => Host.gather gather_S64x512x1024_S2048x1_S2048x512x1024_12_0_n_n_0_1_15121024 x i) : (⟨S64x512x1024, .f32⟩ : BufTy).Contents (Elt F) → (⟨S2048x1, .i32⟩ : BufTy).Contents (Elt F) → (⟨S2048x512x1024, .f32⟩ : BufTy).Contents (Elt F)),
    binary main_arg0 main_v58 main_v59 ((fun l r => Host.dotGeneral dot_S2048x512_S2048x512x1024_S2048x1024_1_1_n_2_0_0 none l r) : (⟨S2048x512, .f32⟩ : BufTy).Contents (Elt F) → (⟨S2048x512x1024, .f32⟩ : BufTy).Contents (Elt F) → (⟨S2048x1024, .f32⟩ : BufTy).Contents (Elt F)),
    binary main_v28 main_v43 main_v60 (Host.divf : (⟨S2048, .f32⟩ : BufTy).Contents (Elt F) → (⟨S2048, .f32⟩ : BufTy).Contents (Elt F) → (⟨S2048, .f32⟩ : BufTy).Contents (Elt F)),
    unary main_v60 main_v61 (broadcastInDim S2048x1 ![0] bcast_S2048_S2048x1_0 : (⟨S2048, .f32⟩ : BufTy).Contents (Elt F) → (⟨S2048x1, .f32⟩ : BufTy).Contents (Elt F)),
    unary main_v61 main_v62 (broadcastInDim S2048x1024 ![0, 1] bcast_S2048x1_S2048x1024_0_1 : (⟨S2048x1, .f32⟩ : BufTy).Contents (Elt F) → (⟨S2048x1024, .f32⟩ : BufTy).Contents (Elt F)),
    binary main_v62 main_v51 main_v63 (mulf : (⟨S2048x1024, .f32⟩ : BufTy).Contents (Elt F) → (⟨S2048x1024, .f32⟩ : BufTy).Contents (Elt F) → (⟨S2048x1024, .f32⟩ : BufTy).Contents (Elt F)),
    binary main_v42 main_v43 main_v64 (Host.divf : (⟨S2048, .f32⟩ : BufTy).Contents (Elt F) → (⟨S2048, .f32⟩ : BufTy).Contents (Elt F) → (⟨S2048, .f32⟩ : BufTy).Contents (Elt F)),
    unary main_v64 main_v65 (broadcastInDim S2048x1 ![0] bcast_S2048_S2048x1_0 : (⟨S2048, .f32⟩ : BufTy).Contents (Elt F) → (⟨S2048x1, .f32⟩ : BufTy).Contents (Elt F)),
    unary main_v65 main_v66 (broadcastInDim S2048x1024 ![0, 1] bcast_S2048x1_S2048x1024_0_1 : (⟨S2048x1, .f32⟩ : BufTy).Contents (Elt F) → (⟨S2048x1024, .f32⟩ : BufTy).Contents (Elt F)),
    binary main_v66 main_v59 main_v67 (mulf : (⟨S2048x1024, .f32⟩ : BufTy).Contents (Elt F) → (⟨S2048x1024, .f32⟩ : BufTy).Contents (Elt F) → (⟨S2048x1024, .f32⟩ : BufTy).Contents (Elt F)),
    binary main_v63 main_v67 main_v68 (addf : (⟨S2048x1024, .f32⟩ : BufTy).Contents (Elt F) → (⟨S2048x1024, .f32⟩ : BufTy).Contents (Elt F) → (⟨S2048x1024, .f32⟩ : BufTy).Contents (Elt F)) ]
/-- The whole line. -/
abbrev ops : List (HloOp τ sig (Elt F)) := ops₀ ++ ops₁

set_option maxRecDepth 100000 in
set_option maxHeartbeats 4000000 in
theorem part0_eq (c : Dev nD) : main_part0 (F := F) c = seq ops₀ := by
  rfl
set_option maxRecDepth 100000 in
set_option maxHeartbeats 4000000 in
theorem part1_eq (c : Dev nD) : main_part1 (F := F) c = seq ops₁ := by
  rfl
theorem main_eq (c : Dev nD) : main (F := F) c = seq ops := by
  rw [seq_append, ← part0_eq c, ← part1_eq c]; rfl

theorem no_scoped_buffers : (Finset.univ.filter fun b : Ref sig .tc => b.isScoped) = ∅ := by decide
theorem no_scoped_sems : (Finset.univ.filter fun sm : SemLoc sig => sm.isScoped .tc) = ∅ := by decide

theorem ops₀_sub : (ops₀ : List (HloOp τ sig (Elt F))).Forall fun op => op.bufs ⊆ tcRefs τ sig :=
  ⟨binary_bufs_sub .., nullary_bufs_sub .., binary_bufs_sub .., unary_bufs_sub .., unary_bufs_sub .., binary_bufs_sub .., unary_bufs_sub ..,
    nullary_bufs_sub .., binary_bufs_sub .., unary_bufs_sub .., unary_bufs_sub .., binary_bufs_sub .., unary_bufs_sub .., reshape_bufs_sub ..,
    unary_bufs_sub .., reshape_bufs_sub .., nullary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub .., nullary_bufs_sub ..,
    unary_bufs_sub .., binary_bufs_sub .., ternary_bufs_sub .., unary_bufs_sub .., unary_bufs_sub .., binary_bufs_sub .., binary_bufs_sub ..,
    nullary_bufs_sub .., unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub .., ternary_bufs_sub ..,
    unary_bufs_sub .., unary_bufs_sub .., binary_bufs_sub .., binary_bufs_sub .., binary_bufs_sub .., nullary_bufs_sub .., unary_bufs_sub ..,
    binary_bufs_sub .., nullary_bufs_sub .., unary_bufs_sub .., binary_bufs_sub ..⟩
theorem ops₁_sub : (ops₁ : List (HloOp τ sig (Elt F))).Forall fun op => op.bufs ⊆ tcRefs τ sig :=
  ⟨ternary_bufs_sub .., unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub .., binary_bufs_sub ..,
    binary_bufs_sub .., unary_bufs_sub .., unary_bufs_sub .., binary_bufs_sub .., binary_bufs_sub .., unary_bufs_sub .., unary_bufs_sub ..,
    binary_bufs_sub .., binary_bufs_sub ..⟩
theorem ops_sub : (ops : List (HloOp τ sig (Elt F))).Forall fun op => op.bufs ⊆ tcRefs τ sig :=
  List.forall_append.mpr ⟨ops₀_sub, ops₁_sub⟩

/-- Every run ends, each buffer holding what the line leaves there. -/
theorem run_line (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq no_scoped_buffers no_scoped_sems defs main (fun _ => ops) main_eq (fun _ => ops_sub) m ρ

/-! ## The arguments are never written -/

theorem kept0 (V : Valuation τ sig (Elt F)) : after ops V (main_arg0 : DevRef τ sig) = V (main_arg0 : DevRef τ sig) := by after_reads_simp
theorem kept1 (V : Valuation τ sig (Elt F)) : after ops V (main_arg1 : DevRef τ sig) = V (main_arg1 : DevRef τ sig) := by after_reads_simp
theorem kept2 (V : Valuation τ sig (Elt F)) : after ops V (main_arg2 : DevRef τ sig) = V (main_arg2 : DevRef τ sig) := by after_reads_simp
theorem kept3 (V : Valuation τ sig (Elt F)) : after ops V (main_arg3 : DevRef τ sig) = V (main_arg3 : DevRef τ sig) := by after_reads_simp

/-! ## The result -/

/-- The router's probabilities, a softmax of every token's scores. -/
def scores (x : Vec F S2048x512 .f32) (w : Vec F S512x64 .f32) : Vec F S2048x64 .f32 :=
  Host.dotGeneral dot_S2048x512_S512x64_S2048x64_1_0_0_1_n_n none x w
def along (v : Vec F S2048 .f32) : Vec F S2048x64 .f32 :=
  broadcastInDim S2048x64 ![0, 1] bcast_S2048x1_S2048x64_0_1 (broadcastInDim S2048x1 ![0] bcast_S2048_S2048x1_0 v)
def raised (s : Vec F S2048x64 .f32) : Vec F S2048x64 .f32 :=
  Host.exp (subf s (along (Host.reduce FloatOps.maximumf s (constant S_ .f32 0xFF800000#32) reducesTo_S2048x64_S2048_d1 h_S_)))
def share (p : Vec F S2048x64 .f32) : Vec F S2048x64 .f32 :=
  Host.divf p (along (Host.reduceAdd p (constant S_ .f32 0x00000000#32) reducesTo_S2048x64_S2048_d1 h_S_))
def probs (x : Vec F S2048x512 .f32) (w : Vec F S512x64 .f32) : Vec F S2048x64 .f32 := share (raised (scores x w))

/-- An index counted from the end, where it is negative. -/
def wrap (n : BitVec 32) (v : Vec F S2048 .i32) : Vec F S2048 .i32 :=
  select (cmpi .slt v (broadcastInDim S2048 ![] bcast_S_S2048 (constantI S_ 32 0#32)))
    (addi v (broadcastInDim S2048 ![] bcast_S_S2048 (constantI S_ 32 n))) v
def upright (v : Vec F S2048 .i32) : Vec F S2048x1 .i32 := broadcastInDim S2048x1 ![0] bcast_S2048_S2048x1_0 v
/-- A token's first and second expert. -/
def first (i : Vec F S2048x2 .i32) : Vec F S2048 .i32 := shapeCast S2048 (extractStridedSlice S2048x1 ![0, 0] i slices_S2048x2_S2048x1_0_0) shapeCasts_S2048x1_S2048
def second (i : Vec F S2048x2 .i32) : Vec F S2048 .i32 := shapeCast S2048 (extractStridedSlice S2048x1 ![0, 1] i slices_S2048x2_S2048x1_0_1) shapeCasts_S2048x1_S2048

/-- Every token's probability of the expert named. -/
def gateOf (p : Vec F S2048x64 .f32) (e : Vec F S2048 .i32) : Vec F S2048 .f32 :=
  Host.gather gather_S2048x64_S2048x2_S2048_n_01_n_n_01_1_11 p
    (concatenate S2048x2 1 [⟨S2048x1, upright (F := F) (wrap (F := F) 2048#32 (iotaInDim S2048 32 0))⟩, ⟨S2048x1, upright (F := F) (wrap (F := F) 64#32 e)⟩]
      concatenates_S2048x1_S2048x1_S2048x2_d1)
/-- Every token through the expert named. -/
def expertOf (x : Vec F S2048x512 .f32) (W : Vec F S64x512x1024 .f32) (e : Vec F S2048 .i32) : Vec F S2048x1024 .f32 :=
  Host.dotGeneral dot_S2048x512_S2048x512x1024_S2048x1024_1_1_n_2_0_0 none x
    (Host.gather gather_S64x512x1024_S2048x1_S2048x512x1024_12_0_n_n_0_1_15121024 W (upright (F := F) (wrap (F := F) 64#32 e)))
def spread (v : Vec F S2048 .f32) : Vec F S2048x1024 .f32 :=
  broadcastInDim S2048x1024 ![0, 1] bcast_S2048x1_S2048x1024_0_1 (broadcastInDim S2048x1 ![0] bcast_S2048_S2048x1_0 v)

/-- The reference's result. -/
def mixed (x : Vec F S2048x512 .f32) (w : Vec F S512x64 .f32) (i : Vec F S2048x2 .i32) (W : Vec F S64x512x1024 .f32) : Vec F S2048x1024 .f32 :=
  addf
    (mulf (spread (Host.divf (gateOf (probs x w) (first (F := F) i)) (addf (gateOf (probs x w) (first (F := F) i)) (gateOf (probs x w) (second (F := F) i)))))
      (expertOf x W (first (F := F) i)))
    (mulf (spread (Host.divf (gateOf (probs x w) (second (F := F) i)) (addf (gateOf (probs x w) (first (F := F) i)) (gateOf (probs x w) (second (F := F) i)))))
      (expertOf x W (second (F := F) i)))

set_option maxHeartbeats 4000000 in
theorem result_eq (V : Valuation τ sig (Elt F)) :
    after ops V (main_v68 : DevRef τ sig)
      = mixed (V (main_arg0 : DevRef τ sig)) (V (main_arg1 : DevRef τ sig)) (V (main_arg2 : DevRef τ sig)) (V (main_arg3 : DevRef τ sig)) := by
  after_reads_simp
  rfl

end Cert.Plain
-- ==== Proof.Frames.lean ====
/-
# The frames

What the runs say of the arguments and of the counters: every argument is left as it was found, every counter ends at zero.
-/
module

public import proofs.«01_k».proof.Defs
public import proofs.«01_k».proof.Proof.Launch
public import proofs.«01_k».proof.Proof.Plain
public import proofs.«01_k».proof.Proof.Gen.Kernel

@[expose] public section

noncomputable section

namespace Cert.Proof

open Idealize.ShloMosaic Idealize.SL.Sem

instance facts_bound_kernel : Cert.Pre_routed_KernelIdeal.Facts where
  bcast_S_S2048x512 := by decide
  reducesTo_S2048x512_S_d0_1 := by decide
  h_S_ := by decide
  bcast_S_S512x64 := by decide
  reducesTo_S512x64_S_d0_1 := by decide
  bcast_S_S2048x2 := by decide
  reducesTo_S2048x2_S_d0_1 := by decide
instance facts_bound_reference : Cert.Pre_routed_ReferenceIdeal.Facts where
  bcast_S_S2048x512 := by decide
  reducesTo_S2048x512_S_d0_1 := by decide
  h_S_ := by decide
  bcast_S_S512x64 := by decide
  reducesTo_S512x64_S_d0_1 := by decide
  bcast_S_S2048x2 := by decide
  reducesTo_S2048x2_S_d0_1 := by decide

/-- The ring program's run, over any float values: it keeps its arguments and ends with every counter at zero. -/
theorem kept {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h =>
      ⟨fun c => ⟨(h.1 c (0 : Fin 5)).trans (Cert.Ring.finalA_0 m ρ c), (h.1 c (1 : Fin 5)).trans (Cert.Ring.finalA_1 m ρ c),
        (h.1 c (2 : Fin 5)).trans (Cert.Ring.finalA_2 m ρ c), (h.1 c (3 : Fin 5)).trans (Cert.Ring.finalA_3 m ρ c)⟩, h.2⟩)
    (Cert.Ring.run_main (F := F) m ρ)

theorem frame_ideal : Cert.quiescent_KernelIdeal := fun m ρ _ => kept m ρ

theorem body_same {F : FTy → Type} [FloatOps F] : (Cert.Kernel.cc0_body (F := F)) = Cert.KernelIdeal.cc0_body (F := F) := rfl
theorem table_same {F : FTy → Type} [FloatOps F] : (Cert.Kernel.defs₀ (F := F)) = (Cert.KernelIdeal.defs₀ (F := F)) := by
  unfold Cert.Kernel.defs₀ Cert.KernelIdeal.defs₀
  refine congrArg Defs.onTc (funext fun ℓ => funext fun a => ?_)
  match ℓ, a with
  | 0, (t, s) => rfl
theorem defs_same {F : FTy → Type} [FloatOps F] : (Cert.Kernel.defs (F := F)) = (Cert.KernelIdeal.defs (F := F)) := by
  unfold Cert.Kernel.defs Cert.KernelIdeal.defs
  exact congrArg (Pipeline.defs Cert.KernelIdeal.pcfgs) table_same

theorem frame_ideal_routed : Cert.quiescent_KernelIdeal_pre_routed_KernelIdeal := fun m ρ _ => kept m ρ

/-- The program at words has the same text as the program at extended reals, so its run is the same run. -/
theorem frame_kernel : Cert.quiescent_Kernel := by
  intro m ρ _
  have h := kept (F := Bits) m ρ
  rw [← defs_same] at h
  exact h

theorem frame_plain : Cert.quiescent_ReferenceIdeal := fun m ρ _ =>
  (θ_run Cert.ReferenceIdeal.defs _ _).mono (fun r h =>
      ⟨fun c => ⟨(h c Cert.ReferenceIdeal.main_arg0).trans (Cert.Plain.kept0 _), (h c Cert.ReferenceIdeal.main_arg1).trans (Cert.Plain.kept1 _),
        (h c Cert.ReferenceIdeal.main_arg2).trans (Cert.Plain.kept2 _), (h c Cert.ReferenceIdeal.main_arg3).trans (Cert.Plain.kept3 _)⟩,
        sem_eq_zero_of_no_sems (by decide) r.2⟩)
    (Cert.Plain.run_line (F := Ideal) m ρ)

theorem frame_plain_routed : Cert.quiescent_ReferenceIdeal_pre_routed_ReferenceIdeal := fun m ρ _ => frame_plain m ρ trivial

end Cert.Proof
-- ==== Proof.Spec.lean ====
/-
# The values, entry by entry

Over the extended reals: the router's scores and probabilities, a token's weight of an expert, and what one device adds.
-/
module

public import proofs.«01_k».proof.Proof.Body
public import Idealize.ShloMosaic.Lib.Pointwise
public import Idealize.ShloMosaic.PureOps.Ideal.Laws
public import Idealize.ShloMosaic.Lib.IdealHost

@[expose] public section

noncomputable section

namespace Cert.Values

open Cert.KernelIdeal Cert.KernelIdeal.Gen Cert.Ring
open Idealize.ShloMosaic
open scoped BigOperators

/-! ## The router -/

variable (x : FVec Ideal S2048x512 .f32) (g : FVec Ideal S512x64 .f32)

/-- A token's score of an expert, the highest score of the token, and the expert's probability. -/
def score (r : Fin 2048) (e : Fin 64) : EReal := ∑ k : Fin 512, x (ix2 r k) * g (ix2 k e)
def best (r : Fin 2048) : EReal := Finset.univ.fold max (Ideal.ofBits .f32 0xFF800000#32) fun e => score x g r e
def prob (r : Fin 2048) (e : Fin 64) : EReal :=
  Ideal.div (Ideal.exp (score x g r e - best x g r)) (∑ e' : Fin 64, Ideal.exp (score x g r e' - best x g r))

theorem pay1_at (r : Fin 2048) (e : Fin 64) : k0_pay1 (F := Ideal) x g (ix2 r e) = prob x g r e := by
  pointwise [k0_pay1, prob, best, score]

/-! ## The weights -/

section Weights

variable (p : Fin 2048 → Fin 64 → EReal) (E₀ E₁ : Fin 2048 → Fin 64)

/-- A token's two shares of its own two probabilities. -/
def share₀ (r : Fin 2048) : EReal := Ideal.div (p r (E₀ r)) (p r (E₀ r) + p r (E₁ r))
def share₁ (r : Fin 2048) : EReal := Ideal.div (p r (E₁ r)) (p r (E₀ r) + p r (E₁ r))

/-- A token's weight of an expert. -/
def weight (r : Fin 2048) (e : Fin 64) : EReal := (if E₀ r = e then share₀ p E₀ E₁ r else 0) + if E₁ r = e then share₁ p E₀ E₁ r else 0

end Weights

/-- The expert of a device. -/
def own (d : Fin 16) (k : Fin 4) : Fin 64 := ⟨d.val * 4 + k.val, by omega⟩

theorem select_nat (a b : ℕ) (ha : a < 64) (hb : b < 64) (u v : EReal) :
    Scalar.select (IntOp.cmpi .eq (BitVec.ofNat 32 a) (BitVec.ofNat 32 b)) u v = if a = b then u else v := by
  have h : (BitVec.ofNat 32 a == BitVec.ofNat 32 b) = decide (a = b) := by
    rw [Bool.eq_iff_iff, beq_iff_eq, decide_eq_true_iff]
    constructor
    · intro h
      have h' := congrArg BitVec.toNat h
      rw [BitVec.toNat_ofNat, BitVec.toNat_ofNat, Nat.mod_eq_of_lt (by omega), Nat.mod_eq_of_lt (by omega)] at h'
      exact h'
    · rintro rfl; rfl
  unfold IntOp.cmpi
  show Scalar.select (BitVec.ofBool (BitVec.ofNat 32 a == BitVec.ofNat 32 b)) u v = _
  rw [h]
  by_cases hab : a = b
  · rw [if_pos hab, decide_eq_true hab]; rfl
  · rw [if_neg hab, decide_eq_false hab]; rfl

theorem own_word : ∀ d : Fin 16, Scalar.addi (Scalar.muli (myW d) 4#32) 0#32 = BitVec.ofNat 32 (own d 0).val
    ∧ Scalar.addi (Scalar.muli (myW d) 4#32) 1#32 = BitVec.ofNat 32 (own d 1).val
    ∧ Scalar.addi (Scalar.muli (myW d) 4#32) 2#32 = BitVec.ofNat 32 (own d 2).val
    ∧ Scalar.addi (Scalar.muli (myW d) 4#32) 3#32 = BitVec.ofNat 32 (own d 3).val := by decide

section Columns

variable (P : FVec Ideal S2048x64 .f32) (i : IVec S2048x2 32) (E₀ E₁ : Fin 2048 → Fin 64)
  (h₀ : ∀ r, i (ix2 r 0) = BitVec.ofNat 32 (E₀ r).val) (h₁ : ∀ r, i (ix2 r 1) = BitVec.ofNat 32 (E₁ r).val)

include h₀ in
theorem pay5_at (r : Fin 2048) (o : Fin 1) : k0_pay5 (F := Ideal) P (k0_pay3 (F := Ideal) i) (ix2 r o) = P (ix2 r (E₀ r)) := by
  pointwise [k0_pay5, k0_pay3, k0_pay2]
  rw [h₀]
  simp only [select_nat _ _ (Fin.isLt _) (E₀ r).isLt, ← Fin.ext_iff]
  rw [Finset.sum_ite_eq' Finset.univ (E₀ r) fun e => P (ix2 r e), if_pos (Finset.mem_univ _)]

include h₁ in
theorem pay6_at (r : Fin 2048) (o : Fin 1) : k0_pay6 (F := Ideal) P (k0_pay2 (F := Ideal) i) (ix2 r o) = P (ix2 r (E₁ r)) := by
  pointwise [k0_pay6, k0_pay4, k0_pay2]
  rw [h₁]
  simp only [select_nat _ _ (Fin.isLt _) (E₁ r).isLt, ← Fin.ext_iff]
  rw [Finset.sum_ite_eq' Finset.univ (E₁ r) fun e => P (ix2 r e), if_pos (Finset.mem_univ _)]

include h₀ in
theorem pay3_at (r : Fin 2048) (o : Fin 1) : k0_pay3 (F := Ideal) i (ix2 r o) = BitVec.ofNat 32 (E₀ r).val := by
  pointwise [k0_pay3, k0_pay2]; exact h₀ r
include h₁ in
theorem pay4_at (r : Fin 2048) (o : Fin 1) : k0_pay4 (k0_pay2 (F := Ideal) i) (ix2 r o) = BitVec.ofNat 32 (E₁ r).val := by
  pointwise [k0_pay4, k0_pay2]; exact h₁ r

include h₀ h₁ in
theorem wcol_at (d : Fin 16) (k : Fin 4) (r : Fin 2048) (o : Fin 1) :
    wcol (F := Ideal) d P i k (ix2 r o) = weight (fun r e => P (ix2 r e)) E₀ E₁ r (own d k) := by
  obtain ⟨w0, w1, w2, w3⟩ := own_word d
  have e3 := pay3_at i E₀ h₀ r
  have e4 := pay4_at i E₁ h₁ r
  have e5 := pay5_at P i E₀ h₀ r
  have e6 := pay6_at P i E₁ h₁ r
  unfold weight share₀ share₁
  simp only [Fin.ext_iff]
  fin_cases k
  · show k0_pay8 (F := Ideal) _ _ _ _ _ = _
    pointwise [k0_pay8, k0_pay7]
    simp only [e3, e4, e5, e6, w0, select_nat _ _ (Fin.isLt _) (Fin.isLt _)]
  · show k0_pay10 (F := Ideal) (k0_pay9 (F := Ideal) _ _ _ _) _ = _
    pointwise [k0_pay10, k0_pay9, k0_pay7]
    simp only [e3, e4, e5, e6, w1, select_nat _ _ (Fin.isLt _) (Fin.isLt _)]
  · show k0_pay11 (F := Ideal) _ _ _ _ _ _ _ = _
    pointwise [k0_pay11, k0_pay7]
    simp only [e3, e4, e5, e6, w2, select_nat _ _ (Fin.isLt _) (Fin.isLt _)]
  · show k0_pay12 (F := Ideal) _ _ _ _ _ _ _ = _
    pointwise [k0_pay12, k0_pay7]
    simp only [e3, e4, e5, e6, w3, select_nat _ _ (Fin.isLt _) (Fin.isLt _)]

include h₀ h₁ in
theorem weights_at (d : Fin 16) (r : Fin 2048) (k : Fin 4) :
    weights (F := Ideal) d P i (ix2 r k) = weight (fun r e => P (ix2 r e)) E₀ E₁ r (own d k) := by
  have h := wcol_at P i E₀ E₁ h₀ h₁ d k r 0
  rw [← h]
  unfold weights
  congr 1
  funext a; fin_cases a <;> rfl

end Columns

/-! ## One device's rows -/

theorem cut_at (y : FVec Ideal S128x512 .f32) (r : Fin 128) (v : EReal) {j : ℕ} (hj : j < 512) {k : Fin 512} (h : j = k.val) :
    y (ix2 r ⟨j, hj⟩) * v = y (ix2 r k) * v := by
  have e : (⟨j, hj⟩ : Fin 512) = k := Fin.ext h
  rw [e]

theorem row_at (A : FVec Ideal S2048x1024 .f32) (y : FVec Ideal S128x512 .f32) (a b c d : FVec Ideal S128x1 .f32) (r : Fin 128) (h : Fin 1024) :
    k0_pay14 (F := Ideal) A y a b c d (ix2 r h)
      = ∑ e : Fin 4, ∑ k : Fin 512, (y (ix2 r k) * (![a (ix2 r 0), b (ix2 r 0), c (ix2 r 0), d (ix2 r 0)] : Fin 4 → EReal) e) * A (ix2 ⟨e.val * 512 + k.val, by omega⟩ h) := by
  pointwise [k0_pay14]
  rw [Fin.sum_univ_tiles 4 512 rfl]
  refine Finset.sum_congr rfl fun e _ => Finset.sum_congr rfl fun k _ => ?_
  have hk := k.isLt
  congr 1
  fin_cases e
  · rw [dif_pos (show (0 : ℕ) * 512 + k.val < 512 by omega)]
    exact cut_at y r _ _ (by show 0 * 512 + k.val = k.val; omega)
  · rw [dif_neg (show ¬ 1 * 512 + k.val < 512 by omega), dif_pos (show 1 * 512 + k.val - 512 < 512 by omega)]
    exact cut_at y r _ _ (by show 1 * 512 + k.val - 512 = k.val; omega)
  · rw [dif_neg (show ¬ 2 * 512 + k.val < 512 by omega), dif_neg (show ¬ 2 * 512 + k.val - 512 < 512 by omega), dif_pos (show 2 * 512 + k.val - 512 - 512 < 512 by omega)]
    exact cut_at y r _ _ (by show 2 * 512 + k.val - 512 - 512 = k.val; omega)
  · rw [dif_neg (show ¬ 3 * 512 + k.val < 512 by omega), dif_neg (show ¬ 3 * 512 + k.val - 512 < 512 by omega), dif_neg (show ¬ 3 * 512 + k.val - 512 - 512 < 512 by omega)]
    exact cut_at y r _ _ (by show 3 * 512 + k.val - 512 - 512 - 512 = k.val; omega)

theorem stack_at (W : FVec Ideal S4x512x1024 .f32) (e : Fin 4) (k : Fin 512) (h : Fin 1024) :
    k0_pay13 (F := Ideal) W (ix2 ⟨e.val * 512 + k.val, by omega⟩ h) = W (ix3 e k h) := by
  pointwise [k0_pay13]

/-- The entry of chunk `c`'s block in its row. -/
theorem rectX_emb (c : Fin 16) (r : Fin 128) (k : Fin 512) : (rectX c).emb (ix2 r k) = (ix2 ⟨128 * c.val + r.val, by omega⟩ k : S2048x512.Idx) := by
  funext a; apply Fin.ext; fin_cases a
  · show 128 * c.val + 1 * r.val = 128 * c.val + r.val; omega
  · show 0 + 1 * k.val = k.val; omega
theorem rectC_emb (c : Fin 16) (e : Fin 4) (r : Fin 128) : (rectC c e).emb (ix2 r 0) = (ix2 ⟨128 * c.val + r.val, by omega⟩ e : S2048x4.Idx) := by
  funext a; apply Fin.ext; fin_cases a
  · show 128 * c.val + 1 * r.val = 128 * c.val + r.val; omega
  · show e.val + 1 * 0 = e.val; omega

theorem rowC_at (V : Data Ideal) (W : Fin 16 → FVec Ideal S4x512x1024 .f32) (hW : ∀ d, V.e d = k0_pay13 (F := Ideal) (W d))
    (d c : Fin 16) (r : Fin 128) (h : Fin 1024) :
    rowC V d c (ix2 r h) = ∑ e : Fin 4, ∑ k : Fin 512,
      (V.x d (ix2 ⟨128 * c.val + r.val, by omega⟩ k) * V.w d (ix2 ⟨128 * c.val + r.val, by omega⟩ e)) * W d (ix3 e k h) := by
  unfold rowC
  rw [row_at]
  refine Finset.sum_congr rfl fun e _ => Finset.sum_congr rfl fun k _ => ?_
  rw [hW, stack_at, rectX_emb]
  congr 2
  fin_cases e
  · exact congrArg (V.w d) (rectC_emb c 0 r)
  · exact congrArg (V.w d) (rectC_emb c 1 r)
  · exact congrArg (V.w d) (rectC_emb c 2 r)
  · exact congrArg (V.w d) (rectC_emb c 3 r)

end Cert.Values
-- ==== Proof.Value.lean ====
/-
# The arithmetic

Over the extended reals, with finite activations and router weights: every probability is a positive real, so a token's two
shares are nonnegative reals, and a nonnegative real may be taken out of a sum. So summing over all the experts with a
token's weights is mixing the token's two experts by its two shares.
-/
module

public import proofs.«01_k».proof.Proof.Spec

@[expose] public section

noncomputable section

namespace Cert.Values

open Cert.KernelIdeal Cert.KernelIdeal.Gen Cert.Ring
open Idealize.ShloMosaic
open scoped BigOperators

/-- A finite number, and a nonnegative finite number. -/
def Real' (a : EReal) : Prop := ∃ y : ℝ, a = (y : EReal)
def Pos' (a : EReal) : Prop := ∃ y : ℝ, 0 < y ∧ a = (y : EReal)

theorem real_mul {a b : EReal} (ha : Real' a) (hb : Real' b) : Real' (a * b) := by
  obtain ⟨y, rfl⟩ := ha; obtain ⟨z, rfl⟩ := hb; exact ⟨y * z, (EReal.coe_mul y z).symm⟩

theorem real_sub {a b : EReal} (ha : Real' a) (hb : Real' b) : Real' (a - b) := by
  obtain ⟨y, rfl⟩ := ha; obtain ⟨z, rfl⟩ := hb; exact ⟨y - z, (EReal.coe_sub y z).symm⟩

theorem real_add {a b : EReal} (ha : Real' a) (hb : Real' b) : Real' (a + b) := by
  obtain ⟨y, rfl⟩ := ha; obtain ⟨z, rfl⟩ := hb; exact ⟨y + z, (EReal.coe_add y z).symm⟩

theorem real_sum {ι : Type} (s : Finset ι) (f : ι → EReal) (hf : ∀ k, Real' (f k)) : Real' (∑ k ∈ s, f k) := by
  classical
  induction s using Finset.induction_on with
  | empty => exact ⟨0, by simp⟩
  | insert a s ha ih => rw [Finset.sum_insert ha]; exact real_add (hf a) ih

theorem pos_add {a b : EReal} (ha : Pos' a) (hb : Pos' b) : Pos' (a + b) := by
  obtain ⟨y, hy, rfl⟩ := ha; obtain ⟨z, hz, rfl⟩ := hb; exact ⟨y + z, add_pos hy hz, (EReal.coe_add y z).symm⟩

theorem pos_sum {ι : Type} [Fintype ι] [Nonempty ι] (f : ι → EReal) (hf : ∀ k, Pos' (f k)) : Pos' (∑ k, f k) := by
  have go : ∀ s : Finset ι, s.Nonempty → Pos' (∑ k ∈ s, f k) := by
    intro s hs
    induction hs using Finset.Nonempty.cons_induction with
    | singleton a => rw [Finset.sum_singleton]; exact hf a
    | cons a s ha hs ih => rw [Finset.sum_cons]; exact pos_add (hf a) ih
  exact go _ Finset.univ_nonempty

theorem pos_exp {a : EReal} (ha : Real' a) : Pos' (Ideal.exp a) := by
  obtain ⟨y, rfl⟩ := ha; exact ⟨Real.exp y, Real.exp_pos y, rfl⟩

theorem pos_div {a b : EReal} (ha : Pos' a) (hb : Pos' b) : Pos' (Ideal.div a b) := by
  obtain ⟨y, hy, rfl⟩ := ha; obtain ⟨z, hz, rfl⟩ := hb
  refine ⟨y * z⁻¹, mul_pos hy (inv_pos.mpr hz), ?_⟩
  unfold Ideal.div
  rw [if_neg (by exact_mod_cast hz.ne'), EReal.coe_mul, EReal.coe_inv]

/-- The greatest of finitely many finite numbers, over one more number. -/
theorem real_fold {n : ℕ} (b : EReal) (hb : b ≠ ⊤) (f : Fin (n + 1) → EReal) (hf : ∀ k, Real' (f k)) :
    Real' (Finset.univ.fold max b f) := by
  have lo : ⊥ < Finset.univ.fold max b f := by
    rw [Finset.lt_fold_max]
    refine Or.inr ⟨0, Finset.mem_univ _, ?_⟩
    obtain ⟨y, h⟩ := hf 0
    rw [h]; exact EReal.bot_lt_coe y
  have hi : Finset.univ.fold max b f < ⊤ := by
    rw [Finset.fold_max_lt]
    refine ⟨lt_top_iff_ne_top.mpr hb, fun k _ => ?_⟩
    obtain ⟨y, h⟩ := hf k
    rw [h]; exact EReal.coe_lt_top y
  exact ⟨_, (EReal.coe_toReal hi.ne lo.ne').symm⟩

theorem low_word : Ideal.ofBits .f32 0xFF800000#32 = (⊥ : EReal) := by
  simp [Ideal.ofBits, Ideal.ieee]

theorem high_word : Ideal.ofBits .f32 0x7F800000#32 = (⊤ : EReal) := by
  simp [Ideal.ofBits, Ideal.ieee]

section

variable {x : FVec Ideal S2048x512 .f32} {g : FVec Ideal S512x64 .f32}
  (hx : ∀ r k, Real' (x (ix2 r k))) (hg : ∀ k e, Real' (g (ix2 k e)))

include hx hg in
theorem real_score (r : Fin 2048) (e : Fin 64) : Real' (score x g r e) :=
  real_sum _ _ fun k => real_mul (hx r k) (hg k e)

include hx hg in
theorem real_best (r : Fin 2048) : Real' (best x g r) :=
  real_fold (n := 63) _ (by rw [low_word]; exact bot_ne_top) _ (real_score hx hg r)

include hx hg in
theorem pos_prob (r : Fin 2048) (e : Fin 64) : Pos' (prob x g r e) :=
  pos_div (pos_exp (real_sub (real_score hx hg r e) (real_best hx hg r)))
    (pos_sum _ fun e' => pos_exp (real_sub (real_score hx hg r e') (real_best hx hg r)))

end

/-- A finite nonnegative factor comes out of a sum. -/
theorem mul_sum' {ι : Type} (s : Finset ι) (a : EReal) (h0 : 0 ≤ a) (ht : a ≠ ⊤) (f : ι → EReal) :
    a * ∑ k ∈ s, f k = ∑ k ∈ s, a * f k := by
  classical
  induction s using Finset.induction_on with
  | empty => simp
  | insert b s hb ih =>
    rw [Finset.sum_insert hb, Finset.sum_insert hb, EReal.left_distrib_of_nonneg_of_ne_top h0 ht, ih]

theorem pos_nonneg {a : EReal} (h : Pos' a) : 0 ≤ a := by
  obtain ⟨y, hy, rfl⟩ := h; exact_mod_cast hy.le

theorem pos_real {a : EReal} (h : Pos' a) : a ≠ ⊤ := by
  obtain ⟨y, _, rfl⟩ := h; exact EReal.coe_ne_top y

/-- Summing over all the experts with the token's weights is mixing its two experts by its two shares. -/
theorem mix_eq (s t : EReal) (hs : Pos' s) (ht : Pos' t) (a b : Fin 64) (x : Fin 512 → EReal) (W : Fin 64 → Fin 512 → EReal) :
    (∑ e : Fin 64, ∑ k : Fin 512, (x k * ((if a = e then s else 0) + if b = e then t else 0)) * W e k)
      = s * (∑ k : Fin 512, x k * W a k) + t * (∑ k : Fin 512, x k * W b k) := by
  have one : ∀ e : Fin 64, (∑ k : Fin 512, (x k * ((if a = e then s else 0) + if b = e then t else 0)) * W e k)
      = (if a = e then s * (∑ k : Fin 512, x k * W e k) else 0) + if b = e then t * (∑ k : Fin 512, x k * W e k) else 0 := by
    intro e
    have p : 0 ≤ (if a = e then s else 0) := by split; exact pos_nonneg hs; exact le_refl _
    have q : 0 ≤ (if b = e then t else 0) := by split; exact pos_nonneg ht; exact le_refl _
    have p' : (if a = e then s else 0) ≠ ⊤ := by split; exact pos_real hs; exact EReal.zero_ne_top
    have q' : (if b = e then t else 0) ≠ ⊤ := by split; exact pos_real ht; exact EReal.zero_ne_top
    have : (∑ k : Fin 512, (x k * ((if a = e then s else 0) + if b = e then t else 0)) * W e k)
        = ((if a = e then s else 0) + if b = e then t else 0) * ∑ k : Fin 512, x k * W e k := by
      rw [mul_sum' _ _ (add_nonneg p q) (EReal.add_ne_top p' q')]
      refine Finset.sum_congr rfl fun k _ => ?_
      rw [mul_comm (x k), mul_assoc]
    rw [this, EReal.right_distrib_of_nonneg p q, ite_mul, ite_mul, zero_mul]
  rw [Finset.sum_congr rfl fun e _ => one e, Finset.sum_add_distrib, Finset.sum_ite_eq, Finset.sum_ite_eq]
  simp only [Finset.mem_univ, if_true]

/-- Over the devices and each device's experts. -/
theorem sum_own (f : Fin 64 → EReal) : (∑ d : Fin 16, ∑ e : Fin 4, f (own d e)) = ∑ e : Fin 64, f e :=
  (Fin.sum_univ_tiles 16 4 (by norm_num) f).symm

end Cert.Values
-- ==== Proof.Bound.lean ====
/-
# What is asked of the arguments, read

The precondition says that every activation and every router weight is finite, and that every expert number is one of 64.
-/
module

public import proofs.«01_k».proof.Defs
public import proofs.«01_k».proof.Proof.Value
public import proofs.«01_k».proof.Proof.Frames
public import Idealize.ShloMosaic.Lib.ReduceAll
public import Idealize.ShloMosaic.Lib.WordArith

@[expose] public section

noncomputable section

namespace Cert.Values

open Cert.KernelIdeal Cert.KernelIdeal.Gen Cert.Ring
open Idealize.ShloMosaic
open scoped BigOperators

theorem real_of_abs {a : EReal} (h : max a (-a) < ⊤) : Real' a := by
  have h1 : a < ⊤ := (le_max_left _ _).trans_lt h
  have h2 : -a < ⊤ := (le_max_right _ _).trans_lt h
  have h3 : a ≠ ⊥ := by
    rintro rfl
    rw [EReal.neg_bot] at h2
    exact lt_irrefl _ h2
  exact ⟨_, (EReal.coe_toReal h1.ne h3).symm⟩

theorem real_of_test {a : EReal} (h : Ideal.cmp .olt (max a (-a)) (Ideal.ofBits .f32 0x7F800000#32) = 1#1) : Real' a := by
  rw [high_word] at h
  refine real_of_abs ?_
  by_contra hn
  unfold Ideal.cmp at h
  simp [hn] at h

/-- An index between 0 and 63 is a number below 64. -/
theorem expert_of_test {w : BitVec 32} (h0 : IntOp.cmpi .sge w 0#32 = 1#1) (h1 : IntOp.cmpi .slt w 64#32 = 1#1) :
    ∃ e : Fin 64, w = BitVec.ofNat 32 e.val := by
  have a : BitVec.sle 0#32 w = true := by
    unfold IntOp.cmpi at h0
    change BitVec.ofBool (BitVec.sle 0#32 w) = 1#1 at h0
    cases hb : BitVec.sle 0#32 w
    · rw [hb] at h0; exact absurd h0 (by decide)
    · rfl
  have b : BitVec.slt w (BitVec.ofNat 32 64) = true := by
    unfold IntOp.cmpi at h1
    change BitVec.ofBool (BitVec.slt w (BitVec.ofNat 32 64)) = 1#1 at h1
    cases hb : BitVec.slt w (BitVec.ofNat 32 64)
    · rw [hb] at h1; exact absurd h1 (by decide)
    · rfl
  refine ⟨⟨w.toNat, WordArith.toNat_lt_of_zero_sle_of_slt_ofNat w 64 (by norm_num) a b⟩, ?_⟩
  exact (BitVec.ofNat_toNat 32 w).symm.trans rfl

instance : Subsingleton (Cert.Pre_routed_KernelIdeal.S_).Idx := ⟨fun a b => funext fun k => k.elim0⟩

theorem bound_read (x : FVec Ideal S2048x512 .f32) (g : FVec Ideal S512x64 .f32) (i : IVec S2048x2 32) (W : FVec Ideal S4x512x1024 .f32)
    (h : Cert.Pre_routed_KernelIdeal.fn (F := Ideal) x g i W = fun _ => 1#1) :
    (∀ r k, Real' (x (ix2 r k))) ∧ (∀ k e, Real' (g (ix2 k e))) ∧ (∀ (r : Fin 2048) (j : Fin 2), ∃ e : Fin 64, i (ix2 r j) = BitVec.ofNat 32 e.val) := by
  have h' := congrFun h (fun k => k.elim0)
  unfold Cert.Pre_routed_KernelIdeal.fn at h'
  obtain ⟨hxg, hi⟩ := IntOp.andi_eq_one.1 h'
  obtain ⟨hx, hg⟩ := IntOp.andi_eq_one.1 hxg
  refine ⟨fun r k => ?_, fun k e => ?_, fun r j => ?_⟩
  · exact real_of_test (Host.reduce_andi_all _ _ _ _ _ hx (ix2 r k))
  · exact real_of_test (Host.reduce_andi_all _ _ _ _ _ hg (ix2 k e))
  · obtain ⟨a, b⟩ := IntOp.andi_eq_one.1 (Host.reduce_andi_all _ _ _ _ _ hi (ix2 r j))
    exact expert_of_test a b

end Cert.Values
-- ==== Proof.Given.lean ====
/-
# The reference, entry by entry

Over the extended reals: the reference's probabilities, its gathered entries, and its result.
-/
module

public import proofs.«01_k».proof.Proof.Plain
public import proofs.«01_k».proof.Proof.Spec

@[expose] public section

noncomputable section

namespace Cert.Values

open Cert.ReferenceIdeal Cert.ReferenceIdeal.Gen Cert.Plain
open Idealize.ShloMosaic
open scoped BigOperators

theorem probs_at (x : FVec Ideal S2048x512 .f32) (g : FVec Ideal S512x64 .f32) (r : Fin 2048) (e : Fin 64) :
    probs (F := Ideal) x g (ix2 r e) = prob x g r e := by
  pointwise [probs, Cert.Plain.share, raised, along, scores, prob, best, score]

/-- Reading one entry of every row. -/
theorem pick_at (P : FVec Ideal S2048x64 .f32) (n : IVec S2048x2 32) (r : Fin 2048) (a : Fin 2048) (e : Fin 64)
    (ha : (n (ix2 r 0)).toInt.toNat = a.val) (he : (n (ix2 r 1)).toInt.toNat = e.val) :
    Host.gather gather_S2048x64_S2048x2_S2048_n_01_n_n_01_1_11 P n (ix1 r) = P (ix2 a e) := by
  unfold Host.gather
  congr 1
  funext b
  apply Fin.ext
  have ha' := a.isLt
  have he' := e.isLt
  fin_cases b
  · show min (n _).toInt.toNat (2048 - 1) + 0 + 0 = a.val
    have h : ∀ v : S2048x2.Idx, v = ix2 r 0 → min (n v).toInt.toNat (2048 - 1) + 0 + 0 = a.val := by
      rintro _ rfl; rw [ha]; omega
    apply h
    funext c; fin_cases c <;> rfl
  · show min (n _).toInt.toNat (64 - 1) + 0 + 0 = e.val
    have h : ∀ v : S2048x2.Idx, v = ix2 r 1 → min (n v).toInt.toNat (64 - 1) + 0 + 0 = e.val := by
      rintro _ rfl; rw [he]; omega
    apply h
    funext c; fin_cases c <;> rfl

/-- Reading one expert's matrix for every row. -/
theorem slab_at (W : FVec Ideal S64x512x1024 .f32) (n : IVec S2048x1 32) (r : Fin 2048) (k : Fin 512) (h : Fin 1024) (e : Fin 64)
    (he : (n (ix2 r 0)).toInt.toNat = e.val) :
    Host.gather gather_S64x512x1024_S2048x1_S2048x512x1024_12_0_n_n_0_1_15121024 W n (ix3 r k h) = W (ix3 e k h) := by
  unfold Host.gather
  congr 1
  funext b
  apply Fin.ext
  have he' := e.isLt
  fin_cases b
  · show min (n _).toInt.toNat (64 - 1) + 0 + 0 = e.val
    have h : ∀ v : S2048x1.Idx, v = ix2 r 0 → min (n v).toInt.toNat (64 - 1) + 0 + 0 = e.val := by
      rintro _ rfl; rw [he]; omega
    apply h
    funext c; fin_cases c <;> rfl
  · show 0 + 0 + k.val = k.val; omega
  · show 0 + 0 + h.val = h.val; omega

/-- A small index is not counted from the end. -/
theorem kept_nat (n : ℕ) (hn : n < 2048) (w : BitVec 32) :
    (Scalar.select (IntOp.cmpi .slt (BitVec.ofNat 32 n) 0#32) (BitVec.ofNat 32 n + w) (BitVec.ofNat 32 n)).toInt.toNat = n := by
  have e : (BitVec.ofNat 32 n).toInt = (n : ℤ) := by
    rw [BitVec.toInt_eq_toNat_of_lt (by rw [BitVec.toNat_ofNat]; omega), BitVec.toNat_ofNat, Nat.mod_eq_of_lt (by omega)]
  have h : (BitVec.ofNat 32 n).slt 0#32 = false := by
    rw [BitVec.slt_eq_decide, decide_eq_false_iff_not, e]
    exact not_lt.mpr (Int.natCast_nonneg n)
  have k : Scalar.select (IntOp.cmpi .slt (BitVec.ofNat 32 n) 0#32) (BitVec.ofNat 32 n + w) (BitVec.ofNat 32 n) = BitVec.ofNat 32 n := by
    unfold IntOp.cmpi
    show Scalar.select (BitVec.ofBool ((BitVec.ofNat 32 n).slt 0#32)) (BitVec.ofNat 32 n + w) (BitVec.ofNat 32 n) = _
    rw [h]
    rfl
  rw [k, e]
  rfl

section Result

variable (x : FVec Ideal S2048x512 .f32) (g : FVec Ideal S512x64 .f32) (i : IVec S2048x2 32) (W : FVec Ideal S64x512x1024 .f32)

theorem gateOf_at (P : FVec Ideal S2048x64 .f32) (v : IVec S2048 32) (E : Fin 2048 → Fin 64) (hv : ∀ r, v (ix1 r) = BitVec.ofNat 32 (E r).val) (r : Fin 2048) :
    gateOf (F := Ideal) P v (ix1 r) = P (ix2 r (E r)) := by
  unfold gateOf
  apply pick_at
  · pointwise [upright, wrap]
    exact kept_nat r.val r.isLt _
  · pointwise [upright, wrap]
    rw [hv]
    exact kept_nat (E r).val (by omega) _

theorem expertOf_at (v : IVec S2048 32) (E : Fin 2048 → Fin 64) (hv : ∀ r, v (ix1 r) = BitVec.ofNat 32 (E r).val) (r : Fin 2048) (h : Fin 1024) :
    expertOf (F := Ideal) x W v (ix2 r h) = ∑ k : Fin 512, x (ix2 r k) * W (ix3 (E r) k h) := by
  pointwise [expertOf]
  refine Finset.sum_congr rfl fun k _ => ?_
  congr 1
  apply slab_at
  pointwise [upright, wrap]
  rw [hv]
  exact kept_nat (E r).val (by omega) _

variable (E₀ E₁ : Fin 2048 → Fin 64)
  (h₀ : ∀ r, i (ix2 r 0) = BitVec.ofNat 32 (E₀ r).val) (h₁ : ∀ r, i (ix2 r 1) = BitVec.ofNat 32 (E₁ r).val)

include h₀ in
theorem first_at (r : Fin 2048) : first (F := Ideal) i (ix1 r) = BitVec.ofNat 32 (E₀ r).val := by
  pointwise [first]; exact h₀ r
include h₁ in
theorem second_at (r : Fin 2048) : second (F := Ideal) i (ix1 r) = BitVec.ofNat 32 (E₁ r).val := by
  pointwise [second]; exact h₁ r

include h₀ h₁ in
theorem mixed_at (r : Fin 2048) (h : Fin 1024) :
    mixed (F := Ideal) x g i W (ix2 r h)
      = share₀ (prob x g) E₀ E₁ r * (∑ k : Fin 512, x (ix2 r k) * W (ix3 (E₀ r) k h))
        + share₁ (prob x g) E₀ E₁ r * (∑ k : Fin 512, x (ix2 r k) * W (ix3 (E₁ r) k h)) := by
  have a₀ := gateOf_at (probs (F := Ideal) x g) (first (F := Ideal) i) E₀ (first_at i E₀ h₀) r
  have a₁ := gateOf_at (probs (F := Ideal) x g) (second (F := Ideal) i) E₁ (second_at i E₁ h₁) r
  have b₀ := expertOf_at x W (first (F := Ideal) i) E₀ (first_at i E₀ h₀) r h
  have b₁ := expertOf_at x W (second (F := Ideal) i) E₁ (second_at i E₁ h₁) r h
  rw [probs_at] at a₀ a₁
  pointwise [mixed, spread]
  rw [a₀, a₁, b₀, b₁]
  rfl

end Result

end Cert.Values
-- ==== Proof.Around.lean ====
/-
# Around the ring

The two halves of the ring together add what every device has for a chunk.
-/
module

public import proofs.«01_k».proof.Proof.Spec

@[expose] public section

noncomputable section

namespace Cert.Values

open Cert.KernelIdeal Cert.KernelIdeal.Gen Cert.Ring
open Idealize.ShloMosaic
open scoped BigOperators

/-- The devices in the order in which their products are added on chunk `c`. -/
def order (c : Dev nD) : List (Dev nD) :=
  [c, nxt c, nxt (nxt c), nxt (nxt (nxt c)), nxt (nxt (nxt (nxt c))), nxt (nxt (nxt (nxt (nxt c)))), nxt (nxt (nxt (nxt (nxt (nxt c))))),
    nxt (nxt (nxt (nxt (nxt (nxt (nxt c)))))),
    prv c, prv (prv c), prv (prv (prv c)), prv (prv (prv (prv c))), prv (prv (prv (prv (prv c)))), prv (prv (prv (prv (prv (prv c))))),
    prv (prv (prv (prv (prv (prv (prv c)))))), prv (prv (prv (prv (prv (prv (prv (prv c)))))))]

theorem order_nodup : ∀ c : Dev nD, (order c).Nodup := by decide
theorem mem_order : ∀ c d : Dev nD, d ∈ order c := by decide

theorem sum_order (c : Dev nD) (f : Dev nD → EReal) : ∑ d : Dev nD, f d = ((order c).map f).sum := by
  have h : (order c).toFinset = Finset.univ := Finset.ext fun d => ⟨fun _ => Finset.mem_univ d, fun _ => List.mem_toFinset.mpr (mem_order c d)⟩
  rw [← List.sum_toFinset f (order_nodup c), h]

/-- The chunk seen from the device `j` places before or after it. -/
theorem step_L : ∀ (c : Dev nD) (j : Fin 17), ch (nxt c) j.val = ch c (j.val + 1) := by decide
theorem step_R : ∀ (c : Dev nD) (j : Fin 17), ch (prv c) (j.val + 1) = ch c j.val := by decide
theorem ch_top : ∀ c : Dev nD, ch c 16 = c := by decide
theorem ch_zero : ∀ c : Dev nD, ch c 0 = c := by decide

theorem fin_at (V : Data Ideal) (c : Dev nD) (si : Fin 4) (i : S128x256.Idx) :
    fin V c si i = ∑ d : Dev nD, rowC V d c ((rectS si).emb i) := by
  rw [sum_order c]
  have hL : ∀ (d : Dev nD) (s : ℕ), accL V si (s + 1) d i = rowC V d (ch d (10 + s)) ((rectS si).emb i) + accL V si s (nxt d) i := fun _ _ => rfl
  have hR : ∀ (d : Dev nD) (s : ℕ), accR V si (s + 1) d i = rowC V d (ch d (7 - s)) ((rectS si).emb i) + accR V si s (prv d) i := fun _ _ => rfl
  have hL0 : ∀ d : Dev nD, accL V si 0 d i = rowC V d (ch d 9) ((rectS si).emb i) := fun _ => rfl
  have hR0 : ∀ d : Dev nD, accR V si 0 d i = rowC V d (ch d 8) ((rectS si).emb i) := fun _ => rfl
  have hf : fin V c si i = accL V si 7 c i + accR V si 7 (prv c) i := rfl
  have l : ∀ (d : Dev nD) (j : ℕ), j < 17 → ch (nxt d) j = ch d (j + 1) := fun d j h => step_L d ⟨j, h⟩
  have r : ∀ (d : Dev nD) (j : ℕ), j < 17 → ch (prv d) (j + 1) = ch d j := fun d j h => step_R d ⟨j, h⟩
  rw [hf, hL c 6, hL _ 5, hL _ 4, hL _ 3, hL _ 2, hL _ 1, hL _ 0, hL0, hR _ 6, hR _ 5, hR _ 4, hR _ 3, hR _ 2, hR _ 1, hR _ 0, hR0]
  simp only [Nat.reduceAdd, Nat.reduceSub]
  simp only [l _ 9 (by decide), l _ 10 (by decide), l _ 11 (by decide), l _ 12 (by decide), l _ 13 (by decide), l _ 14 (by decide), l _ 15 (by decide),
    r _ 0 (by decide), r _ 1 (by decide), r _ 2 (by decide), r _ 3 (by decide), r _ 4 (by decide), r _ 5 (by decide), r _ 6 (by decide), r _ 7 (by decide), Nat.reduceAdd,
    ch_top, ch_zero]
  unfold order
  simp only [List.map_cons, List.map_nil, List.sum_cons, List.sum_nil, add_zero, zero_add, add_assoc]

end Cert.Values
-- ==== Proof.Memory.lean ====
/-
# The arrays and the memory

What the launch hands each device is its arguments; what the launch leaves in the result is the array the ring added up.
-/
module

public import proofs.«01_k».proof.Proof.Launch
public import proofs.«01_k».proof.Proof.Around
public import Idealize.ShloMosaic.Lib.Pipeline.ValueKit.Geometry

@[expose] public section

noncomputable section

namespace Cert.Values

open Cert.KernelIdeal Cert.KernelIdeal.Gen Cert.Ring
open Idealize.ShloMosaic Idealize.ShloMosaic.TcCoe
open scoped BigOperators

variable (m : (ℓ : Loc nD τ sig) → Buf (Elt Ideal) ℓ) (ρ : Dev nD → PrngReg)

theorem xstg_eq (c : Dev nD) : xstg m ρ c = m ((c.tc : Thread nD τ).loc main_arg0) := by
  funext i
  show m ((c.tc : Thread nD τ).loc main_arg0) ((win0_0.blk (0 : Fin 1)).view.emb i) = _
  congr 1; funext a; apply Fin.ext
  exact win0_0.rect_emb_val_of_index_zero (0 : Fin 1) a (by fin_cases a <;> rfl) i
theorem gstg_eq (c : Dev nD) : gstg m ρ c = m ((c.tc : Thread nD τ).loc main_arg1) := by
  funext i
  show m ((c.tc : Thread nD τ).loc main_arg1) ((win0_1.blk (0 : Fin 1)).view.emb i) = _
  congr 1; funext a; apply Fin.ext
  exact win0_1.rect_emb_val_of_index_zero (0 : Fin 1) a (by fin_cases a <;> rfl) i
theorem istg_eq (c : Dev nD) : istg m ρ c = m ((c.tc : Thread nD τ).loc main_arg2) := by
  funext i
  show m ((c.tc : Thread nD τ).loc main_arg2) ((win0_2.blk (0 : Fin 1)).view.emb i) = _
  congr 1; funext a; apply Fin.ext
  exact win0_2.rect_emb_val_of_index_zero (0 : Fin 1) a (by fin_cases a <;> rfl) i
theorem estg_eq (c : Dev nD) : estg m ρ c = m ((c.tc : Thread nD τ).loc main_arg3) := by
  funext i
  show m ((c.tc : Thread nD τ).loc main_arg3) ((win0_3.blk (0 : Fin 1)).view.emb i) = _
  congr 1; funext a; apply Fin.ext
  exact win0_3.rect_emb_val_of_index_zero (0 : Fin 1) a (by fin_cases a <;> rfl) i

/-- The result's window is the whole array: its one write-back leaves what the ring added up. -/
theorem final_out (c : Dev nD) : finalA m ρ c (4 : Fin 5) = outV (dataOf m ρ) := by
  refine (dats m ρ 0 c).arrAt_eq_of_after_last (4 : Fin 5) t₀ (by decide +kernel) _ fun j => ?_
  rfl

/-- A row of the result is what all the devices add for it. -/
theorem out_at (V : Data Ideal) (R : Fin 2048) (h : Fin 1024) :
    outV V (ix2 R h) = ∑ d : Dev nD, rowC V d (⟨R.val / 128, by omega⟩ : Fin 16) (ix2 ⟨R.val % 128, by omega⟩ h) := by
  have e : (rectS (⟨h.val / 256, by omega⟩ : Fin 4)).emb (inBlk (ix2 R h)) = (ix2 ⟨R.val % 128, by omega⟩ h : S128x1024.Idx) := by
    funext a; apply Fin.ext
    fin_cases a
    · show 0 + 1 * (R.val % 128) = R.val % 128; omega
    · show 256 * (h.val / 256) + 1 * (h.val % 256) = h.val; omega
  have f := fin_at V (⟨R.val / 128, by omega⟩ : Fin 16) (⟨h.val / 256, by omega⟩ : Fin 4) (inBlk (ix2 R h))
  rw [e] at f
  exact f

end Cert.Values
-- ==== Proof.Result.lean ====
/-
# The value claim

With finite activations and router weights and expert numbers in range, what the ring leaves on every device is what the
reference computes.
-/
module

public import proofs.«01_k».proof.Defs
public import proofs.«01_k».proof.Proof.Bound
public import proofs.«01_k».proof.Proof.Given
public import proofs.«01_k».proof.Proof.Memory

@[expose] public section

noncomputable section

namespace Cert.Values

open Cert.KernelIdeal Cert.KernelIdeal.Gen Cert.Ring
open Idealize.ShloMosaic Idealize.ShloMosaic.TcCoe Idealize.SL.Sem
open scoped BigOperators

/-- A device's experts are its block of all the experts. -/
theorem own_block (d : Fin 16) (W : FVec Ideal Cert.ReferenceIdeal.S64x512x1024 .f32) (e : Fin 4) (k : Fin 512) (h : Fin 1024) :
    Layout.block ⟨3, ![4, 512, 1024]⟩ ⟨3, ![64, 512, 1024]⟩ 0 16 d W (by decide) (ix3 e k h) = W (ix3 (own d e) k h) := by
  rw [Layout.block_apply]
  congr 1
  funext a; apply Fin.ext
  fin_cases a <;> rfl

/-- The arithmetic of one entry, for data every device reads from the same arrays. -/
theorem ring_eq (x : FVec Ideal S2048x512 .f32) (g : FVec Ideal S512x64 .f32) (i : IVec S2048x2 32)
    (W : FVec Ideal Cert.ReferenceIdeal.S64x512x1024 .f32) (V : Data Ideal) (B : Fin 16 → FVec Ideal S4x512x1024 .f32)
    (hx : ∀ r k, Real' (x (ix2 r k))) (hg : ∀ k e, Real' (g (ix2 k e)))
    (E₀ E₁ : Fin 2048 → Fin 64)
    (h₀ : ∀ r, i (ix2 r 0) = BitVec.ofNat 32 (E₀ r).val) (h₁ : ∀ r, i (ix2 r 1) = BitVec.ofNat 32 (E₁ r).val)
    (vx : ∀ d, V.x d = x) (vw : ∀ d, V.w d = weights (F := Ideal) d (k0_pay1 (F := Ideal) x g) i)
    (ve : ∀ d, V.e d = k0_pay13 (F := Ideal) (B d))
    (vB : ∀ d e k h, B d (ix3 e k h) = W (ix3 (own d e) k h)) :
    outV V = Cert.Plain.mixed (F := Ideal) x g i W := by
  refine funext fun (j : S2048x1024.Idx) => ?_
  obtain ⟨R, h, rfl⟩ : ∃ (R : Fin 2048) (h : Fin 1024), j = ix2 R h := ⟨j 0, j 1, by funext a; fin_cases a <;> rfl⟩
  rw [mixed_at x g i W E₀ E₁ h₀ h₁ R h, out_at]
  have row : ∀ d : Fin 16, rowC V d (⟨R.val / 128, by omega⟩ : Fin 16) (ix2 ⟨R.val % 128, by omega⟩ h)
      = ∑ e : Fin 4, ∑ k : Fin 512, (x (ix2 R k) * weight (prob x g) E₀ E₁ R (own d e)) * W (ix3 (own d e) k h) := by
    intro d
    have eR : (⟨128 * (R.val / 128) + R.val % 128, by omega⟩ : Fin 2048) = R := Fin.ext (by show 128 * (R.val / 128) + R.val % 128 = R.val; omega)
    have eP : (fun r e => k0_pay1 (F := Ideal) x g (ix2 r e)) = prob x g := funext fun r => funext fun e => pay1_at x g r e
    rw [rowC_at V B ve]
    refine Finset.sum_congr rfl fun e _ => Finset.sum_congr rfl fun k _ => ?_
    rw [vx, vw, weights_at _ i E₀ E₁ h₀ h₁, vB, eP]
    simp only [eR]
  rw [Finset.sum_congr rfl fun d _ => row d]
  have hs : Pos' (share₀ (prob x g) E₀ E₁ R) := pos_div (pos_prob hx hg _ _) (pos_add (pos_prob hx hg _ _) (pos_prob hx hg _ _))
  have ht : Pos' (share₁ (prob x g) E₀ E₁ R) := pos_div (pos_prob hx hg _ _) (pos_add (pos_prob hx hg _ _) (pos_prob hx hg _ _))
  rw [← mix_eq _ _ hs ht (E₀ R) (E₁ R) (fun k => x (ix2 R k)) (fun e k => W (ix3 e k h))]
  exact sum_own fun e => ∑ k : Fin 512, (x (ix2 R k) * weight (prob x g) E₀ E₁ R e) * W (ix3 e k h)

end Cert.Values

namespace Cert.Proof

open Idealize.ShloMosaic Idealize.SL.Sem Cert.Values

theorem algebraic : Cert.algebraic_KernelIdeal_ReferenceIdeal_pre_routed_KernelIdeal := by
  intro m ρ m' ρ' hpre hargs
  obtain ⟨hx, hg, hi⟩ := bound_read _ _ _ _ (hpre (0 : Fin 16))
  choose E hE using hi
  have a0 := fun c => (hargs c).1
  have a1 := fun c => (hargs c).2.1
  have a2 := fun c => (hargs c).2.2.1
  have a3 := fun c => (hargs c).2.2.2
  have key : Cert.Ring.outV (Cert.Ring.dataOf m ρ) = Cert.Plain.mixed (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)) := by
    rw [a0] at hx
    rw [a1] at hg
    rw [a2] at hE
    refine ring_eq _ _ _ _ _ (fun d : Dev Cert.KernelIdeal.nD => m ((d.tc : Thread Cert.KernelIdeal.nD Cert.KernelIdeal.τ).loc Cert.KernelIdeal.main_arg3)) hx hg
      (fun r => E r 0) (fun r => E r 1) (fun r => hE r 0) (fun r => hE r 1) (fun d => ?_) (fun d => ?_) (fun d => ?_) (fun d e k h => ?_)
    · exact (xstg_eq m ρ d).trans (a0 d)
    · show Cert.Ring.weights d (Cert.KernelIdeal.Gen.k0_pay1 (Cert.Ring.xstg m ρ d) (Cert.Ring.gstg m ρ d)) (Cert.Ring.istg m ρ d) = _
      rw [xstg_eq, gstg_eq, istg_eq, a0, a1, a2]
    · show Cert.KernelIdeal.Gen.k0_pay13 (Cert.Ring.estg m ρ d) = _
      rw [estg_eq]
    · exact (congrFun (a3 d) _).trans (own_block d _ e k h)
  refine ⟨Cert.Plain.mixed (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)),
    (θ_run Cert.KernelIdeal.defs _ _).mono (fun r h c => ?_) (Cert.Ring.run_main (F := Ideal) m ρ),
    (θ_run Cert.ReferenceIdeal.defs _ _).mono (fun r h => ?_) (Cert.Plain.run_line (F := Ideal) m' ρ')⟩
  · exact ⟨(h.1 c (4 : Fin 5)).trans ((final_out m ρ c).trans key),
      (h.1 c (0 : Fin 5)).trans (Cert.Ring.finalA_0 m ρ c), (h.1 c (1 : Fin 5)).trans (Cert.Ring.finalA_1 m ρ c),
      (h.1 c (2 : Fin 5)).trans (Cert.Ring.finalA_2 m ρ c), (h.1 c (3 : Fin 5)).trans (Cert.Ring.finalA_3 m ρ c)⟩
  · exact ⟨(h 0 Cert.ReferenceIdeal.main_v68).trans (Cert.Plain.result_eq _),
      (h 0 Cert.ReferenceIdeal.main_arg0).trans (Cert.Plain.kept0 _), (h 0 Cert.ReferenceIdeal.main_arg1).trans (Cert.Plain.kept1 _),
      (h 0 Cert.ReferenceIdeal.main_arg2).trans (Cert.Plain.kept2 _), (h 0 Cert.ReferenceIdeal.main_arg3).trans (Cert.Plain.kept3 _)⟩

end Cert.Proof
-- ==== Proof.lean ====
/-
# The certificate's claims

The frames come from the runs, the value claim from the sums.
-/
module

public import proofs.«01_k».proof.Defs
public import proofs.«01_k».proof.Proof.Frames
public import proofs.«01_k».proof.Proof.Result

@[expose] public section

noncomputable section

namespace Cert.Proof

open Idealize.ShloMosaic Idealize.SL.Sem

/-- Everything claimed. -/
theorem claim : Cert.Claim :=
  ⟨Cert.Kernel.Gen.facts, Cert.KernelIdeal.Gen.facts, Cert.ReferenceIdeal.Gen.facts,
    facts_bound_kernel, facts_bound_reference,
    frame_kernel, frame_ideal, frame_ideal_routed, frame_plain, frame_plain_routed, trivial, algebraic⟩

end Cert.Proof

end
